-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  IdealRules.named_const.Statement Cert.KernelIdeal.κ "log_g0" .f32 0xBD020AEC#32 ((Real.log (31 / 32) : ℝ) : EReal)
  ∧ IdealRules.named_const.Statement Cert.KernelIdeal.κ "log_g1" .f32 0xBC8102B3#32 ((Real.log (63 / 64) : ℝ) : EReal)
  ∧ IdealRules.named_const.Statement Cert.KernelIdeal.κ "g_chunk0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.KernelIdeal.κ "g_chunk1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.KernelIdeal.κ "log_g2" .f32 0xBC0080AC#32 ((Real.log (127 / 128) : ℝ) : EReal)
  ∧ IdealRules.named_const.Statement Cert.KernelIdeal.κ "log_g3" .f32 0xBB80402B#32 ((Real.log (255 / 256) : ℝ) : EReal)
  ∧ IdealRules.named_const.Statement Cert.KernelIdeal.κ "g_chunk2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.KernelIdeal.κ "g_chunk3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v262) = v0 c
          ∧ r.2.mem ((c.tc : Thread Cert.ReferenceIdeal.nD Cert.ReferenceIdeal.τ).loc Cert.ReferenceIdeal.main_v263) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S8x2048x8192 : Shape := ⟨3, ![8, 2048, 8192]⟩
abbrev S512 : Shape := ⟨1, ![512]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S8x2x128x128 : Shape := ⟨4, ![8, 2, 128, 128]⟩
abbrev S1x512 : Shape := ⟨2, ![1, 512]⟩
abbrev S8x2048x512 : Shape := ⟨3, ![8, 2048, 512]⟩
abbrev S4x128x1536 : Shape := ⟨3, ![4, 128, 1536]⟩
abbrev S128x256 : Shape := ⟨2, ![128, 256]⟩
abbrev S4x2x128x128 : Shape := ⟨4, ![4, 2, 128, 128]⟩
abbrev S4x128x512 : Shape := ⟨3, ![4, 128, 512]⟩
abbrev S128x1 : Shape := ⟨2, ![128, 1]⟩
abbrev S128x128 : Shape := ⟨2, ![128, 128]⟩
abbrev S1x128x1536 : Shape := ⟨3, ![1, 128, 1536]⟩
abbrev S128x1536 : Shape := ⟨2, ![128, 1536]⟩
abbrev S1x2x128x128 : Shape := ⟨4, ![1, 2, 128, 128]⟩
abbrev S2x128x128 : Shape := ⟨3, ![2, 128, 128]⟩
abbrev S1x128x128 : Shape := ⟨3, ![1, 128, 128]⟩
abbrev S128 : Shape := ⟨1, ![128]⟩
abbrev S1x128 : Shape := ⟨2, ![1, 128]⟩
abbrev S1x128x512 : Shape := ⟨3, ![1, 128, 512]⟩
abbrev S128x512 : Shape := ⟨2, ![128, 512]⟩

abbrev nBuf : Space → Nat
  | .hbm => 39
  | .vmem => 14
  | .smem => 0
  | _ => 0

abbrev bufTy : (tb : Table) → Fin (tcTables nBuf tb) → BufTy
  | .hbm, ⟨0, _⟩ => ⟨S8x2048x8192, .f32⟩
  | .hbm, ⟨1, _⟩ => ⟨S512, .f32⟩
  | .hbm, ⟨2, _⟩ => ⟨S2048, .i32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S2048, .f32⟩
  | .hbm, ⟨18, _⟩ => ⟨S2048x1, .f32⟩
  | .hbm, ⟨19, _⟩ => ⟨S1x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x64, .f32⟩
  | .hbm, ⟨26, _⟩ => ⟨S2048x32, .f32⟩
  | .hbm, ⟨27, _⟩ => ⟨S2048x64, .f32⟩
  | .hbm, ⟨28, _⟩ => ⟨S1x2048x1x64, .f32⟩
  | .hbm, ⟨29, _⟩ => ⟨S1x2048x4x64, .f32⟩
  | .hbm, ⟨30, _⟩ => ⟨S2048x256, .f32⟩
  | .hbm, ⟨31, _⟩ => ⟨S1x2048x1x64, .f32⟩
  | .hbm, ⟨32, _⟩ => ⟨S1x2048x4x64, .f32⟩
  | .hbm, ⟨33, _⟩ => ⟨S2048x256, .f32⟩
  | .hbm, ⟨34, _⟩ => ⟨S_, .f32⟩
  | .hbm, ⟨35, _⟩ => ⟨S8x2x128x128, .f32⟩
  | .hbm, ⟨36, _⟩ => ⟨S1x512, .f32⟩
  | .hbm, ⟨37, _⟩ => ⟨S8x2048x512, .bf16⟩
  | .hbm, ⟨38, _⟩ => ⟨S8x2x128x128, .f32⟩
  | .local _ .vmem, ⟨0, _⟩ => ⟨S4x128x1536, .f32⟩
  | .local _ .vmem, ⟨1, _⟩ => ⟨S4x128x1536, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S1x512, .f32⟩
  | .local _ .vmem, ⟨7, _⟩ => ⟨S4x2x128x128, .f32⟩
  | .local _ .vmem, ⟨8, _⟩ => ⟨S4x2x128x128, .f32⟩
  | .local _ .vmem, ⟨9, _⟩ => ⟨S4x128x512, .bf16⟩
  | .local _ .vmem, ⟨10, _⟩ => ⟨S4x128x512, .bf16⟩
  | .local _ .vmem, ⟨11, _⟩ => ⟨S4x2x128x128, .f32⟩
  | .local _ .vmem, ⟨12, _⟩ => ⟨S4x2x128x128, .f32⟩
  | .local _ .vmem, ⟨13, _⟩ => ⟨S4x2x128x128, .f32⟩
  | _, _ => ⟨S8x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_v30_0 : Ref sig .tc := ⟨.hbm, 37, rfl⟩
abbrev main_v30_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v1387 : BitVec 1 := Scalar.cmpi .eq arg1 c15_i32
  let v1388 : BitVec 32 := Scalar.extui v1387
  let c0_i32_727 : BitVec 32 := 0#32
  let v1389 : BitVec 1 := Scalar.cmpi .ne v1388 c0_i32_727
  v1389

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4x2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x2x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
variable {F : FTy → Type} [FloatOps F] [Named F]
def κ : String → Option EReal := fun
  | "g_chunk0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "g_chunk1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "g_chunk2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "g_chunk3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "log_g0" => some ((Real.log (31 / 32) : ℝ) : EReal)
  | "log_g1" => some ((Real.log (63 / 64) : ℝ) : EReal)
  | "log_g2" => some ((Real.log (127 / 128) : ℝ) : EReal)
  | "log_g3" => some ((Real.log (255 / 256) : ℝ) : EReal)
  | _ => none
-- ==== ReferenceIdeal.lean ====
abbrev S8x2048x8192 : Shape := ⟨3, ![8, 2048, 8192]⟩
abbrev S512 : Shape := ⟨1, ![512]⟩
abbrev S2048 : Shape := ⟨1, ![2048]⟩
abbrev S8x2048x256 : Shape := ⟨3, ![8, 2048, 256]⟩
abbrev S8x2048x512 : Shape := ⟨3, ![8, 2048, 512]⟩
abbrev S8x2048x4x64 : Shape := ⟨4, ![8, 2048, 4, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x4x32 : Shape := ⟨4, ![8, 2048, 4, 32]⟩
abbrev S8x2048x4x128 : Shape := ⟨4, ![8, 2048, 4, 128]⟩
abbrev S8x4x64x128 : Shape := ⟨4, ![8, 4, 64, 128]⟩
abbrev S4 : Shape := ⟨1, ![4]⟩
abbrev S8x16x128x4x64 : Shape := ⟨5, ![8, 16, 128, 4, 64]⟩
abbrev S8x16x128x4x128 : Shape := ⟨5, ![8, 16, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S8x16x4x128x128 : Shape := ⟨5, ![8, 16, 4, 128, 128]⟩
abbrev S1x1x4x128x128 : Shape := ⟨5, ![1, 1, 4, 128, 128]⟩
abbrev S1x4 : Shape := ⟨2, ![1, 4]⟩
abbrev S128x4 : Shape := ⟨2, ![128, 4]⟩
abbrev S1x1x128x4x1 : Shape := ⟨5, ![1, 1, 128, 4, 1]⟩
abbrev S8x16x4x64x128 : Shape := ⟨5, ![8, 16, 4, 64, 128]⟩
abbrev S1x4x1x1 : Shape := ⟨4, ![1, 4, 1, 1]⟩
abbrev S8x1x4x64x128 : Shape := ⟨5, ![8, 1, 4, 64, 128]⟩
abbrev S8x2048x4 : Shape := ⟨3, ![8, 2048, 4]⟩
abbrev S8x2048x4x1 : Shape := ⟨4, ![8, 2048, 4, 1]⟩
abbrev S1x1x512 : Shape := ⟨3, ![1, 1, 512]⟩
abbrev S8x2x128x128 : Shape := ⟨4, ![8, 2, 128, 128]⟩

abbrev nBuf : Space → Nat
  | .hbm => 300
  | .vmem => 0
  | .smem => 0
  | _ => 0

abbrev hbmTy0_0 (i : Nat) : BufTy := match i % 128 with
  | 0 => ⟨S8x2048x8192, .f32⟩
  | 1 => ⟨S512, .f32⟩
  | 2 => ⟨S2048, .i32⟩
  | 3 => ⟨S8x2048x256, .f32⟩
  | 4 => ⟨S8x2048x256, .f32⟩
  | 5 => ⟨S8x2048x512, .f32⟩
  | 6 => ⟨S8x2048x512, .f32⟩
  | 7 => ⟨S8x2048x4x64, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S2048, .f32⟩
  | 23 => ⟨S2048x1, .f32⟩
  | 24 => ⟨S1x32, .f32⟩
  | 25 => ⟨S2048x32, .f32⟩
  | 26 => ⟨S2048x32, .f32⟩
  | 27 => ⟨S2048x32, .f32⟩
  | 28 => ⟨S2048x32, .f32⟩
  | 29 => ⟨S1x2048x1x32, .f32⟩
  | 30 => ⟨S2048x32, .f32⟩
  | 31 => ⟨S1x2048x1x32, .f32⟩
  | 32 => ⟨S8x2048x4x32, .f32⟩
  | 33 => ⟨S8x2048x4x32, .f32⟩
  | 34 => ⟨S8x2048x4x32, .f32⟩
  | 35 => ⟨S8x2048x4x32, .f32⟩
  | 36 => ⟨S8x2048x4x32, .f32⟩
  | 37 => ⟨S8x2048x4x32, .f32⟩
  | 38 => ⟨S8x2048x4x32, .f32⟩
  | 39 => ⟨S8x2048x4x32, .f32⟩
  | 40 => ⟨S8x2048x4x32, .f32⟩
  | 41 => ⟨S8x2048x4x32, .f32⟩
  | 42 => ⟨S8x2048x4x32, .f32⟩
  | 43 => ⟨S8x2048x4x32, .f32⟩
  | 44 => ⟨S8x2048x4x64, .f32⟩
  | 45 => ⟨S8x2048x4x64, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S32, .f32⟩
  | 54 => ⟨S_, .f32⟩
  | 55 => ⟨S32, .f32⟩
  | 56 => ⟨S32, .f32⟩
  | 57 => ⟨S_, .f32⟩
  | 58 => ⟨S32, .f32⟩
  | 59 => ⟨S32, .f32⟩
  | 60 => ⟨S2048, .f32⟩
  | 61 => ⟨S2048x1, .f32⟩
  | 62 => ⟨S1x32, .f32⟩
  | 63 => ⟨S2048x32, .f32⟩
  | 64 => ⟨S2048x32, .f32⟩
  | 65 => ⟨S2048x32, .f32⟩
  | 66 => ⟨S2048x32, .f32⟩
  | 67 => ⟨S1x2048x1x32, .f32⟩
  | 68 => ⟨S2048x32, .f32⟩
  | 69 => ⟨S1x2048x1x32, .f32⟩
  | 70 => ⟨S8x2048x4x32, .f32⟩
  | 71 => ⟨S8x2048x4x32, .f32⟩
  | 72 => ⟨S8x2048x4x32, .f32⟩
  | 73 => ⟨S8x2048x4x32, .f32⟩
  | 74 => ⟨S8x2048x4x32, .f32⟩
  | 75 => ⟨S8x2048x4x32, .f32⟩
  | 76 => ⟨S8x2048x4x32, .f32⟩
  | 77 => ⟨S8x2048x4x32, .f32⟩
  | 78 => ⟨S8x2048x4x32, .f32⟩
  | 79 => ⟨S8x2048x4x32, .f32⟩
  | 80 => ⟨S8x2048x4x32, .f32⟩
  | 81 => ⟨S8x2048x4x32, .f32⟩
  | 82 => ⟨S8x2048x4x64, .f32⟩
  | 83 => ⟨S8x2048x4x128, .f32⟩
  | 84 => ⟨S_, .f32⟩
  | 85 => ⟨S8x4x64x128, .f32⟩
  | 86 => ⟨S4, .f32⟩
  | 87 => ⟨S_, .f32⟩
  | 88 => ⟨S4, .f32⟩
  | 89 => ⟨S4, .f32⟩
  | 90 => ⟨S_, .f32⟩
  | 91 => ⟨S4, .f32⟩
  | 92 => ⟨S4, .f32⟩
  | 93 => ⟨S4, .f32⟩
  | 94 => ⟨S4, .f32⟩
  | 95 => ⟨S8x16x128x4x64, .f32⟩
  | 96 => ⟨S_, .f32⟩
  | 97 => ⟨S8x16x128x4x64, .f32⟩
  | 98 => ⟨S8x16x128x4x64, .f32⟩
  | 99 => ⟨S8x16x128x4x64, .f32⟩
  | 100 => ⟨S8x16x128x4x128, .f32⟩
  | 101 => ⟨S128, .f32⟩
  | 102 => ⟨S128x1, .f32⟩
  | 103 => ⟨S1x128, .f32⟩
  | 104 => ⟨S128x128, .f32⟩
  | 105 => ⟨S128x128, .f32⟩
  | 106 => ⟨S128x128, .f32⟩
  | 107 => ⟨S_, .f32⟩
  | 108 => ⟨S128x128, .f32⟩
  | 109 => ⟨S128x128, .i1⟩
  | 110 => ⟨S4x1x1, .f32⟩
  | 111 => ⟨S_, .f32⟩
  | 112 => ⟨S128x128, .f32⟩
  | 113 => ⟨S128x128, .f32⟩
  | 114 => ⟨S1x128x128, .f32⟩
  | 115 => ⟨S4x128x128, .f32⟩
  | 116 => ⟨S4x128x128, .f32⟩
  | 117 => ⟨S4x128x128, .f32⟩
  | 118 => ⟨S4x128x128, .f32⟩
  | 119 => ⟨S_, .f32⟩
  | 120 => ⟨S_, .f32⟩
  | 121 => ⟨S4x128x128, .i1⟩
  | 122 => ⟨S4x128x128, .f32⟩
  | 123 => ⟨S4x128x128, .f32⟩
  | 124 => ⟨S8x16x4x128x128, .f32⟩
  | 125 => ⟨S1x1x4x128x128, .f32⟩
  | 126 => ⟨S8x16x4x128x128, .f32⟩
  | 127 => ⟨S8x16x4x128x128, .f32⟩
  | _ => ⟨S8x2048x8192, .f32⟩

abbrev hbmTy0_1 (i : Nat) : BufTy := match i % 128 with
  | 0 => ⟨S8x16x4x128x128, .f32⟩
  | 1 => ⟨S8x16x128x4x128, .f32⟩
  | 2 => ⟨S1x4, .f32⟩
  | 3 => ⟨S_, .f32⟩
  | 4 => ⟨S128, .f32⟩
  | 5 => ⟨S128, .f32⟩
  | 6 => ⟨S128x1, .f32⟩
  | 7 => ⟨S128x4, .f32⟩
  | 8 => ⟨S128x4, .f32⟩
  | 9 => ⟨S128x4, .f32⟩
  | 10 => ⟨S128x4, .f32⟩
  | 11 => ⟨S1x1x128x4x1, .f32⟩
  | 12 => ⟨S8x16x128x4x64, .f32⟩
  | 13 => ⟨S8x16x128x4x64, .f32⟩
  | 14 => ⟨S8x16x4x64x128, .f32⟩
  | 15 => ⟨S_, .f32⟩
  | 16 => ⟨S4, .f32⟩
  | 17 => ⟨S4, .f32⟩
  | 18 => ⟨S4, .f32⟩
  | 19 => ⟨S1x4x1x1, .f32⟩
  | 20 => ⟨S8x4x64x128, .f32⟩
  | 21 => ⟨S8x4x64x128, .f32⟩
  | 22 => ⟨S8x1x4x64x128, .f32⟩
  | 23 => ⟨S8x4x64x128, .f32⟩
  | 24 => ⟨S8x4x64x128, .f32⟩
  | 25 => ⟨S8x4x64x128, .f32⟩
  | 26 => ⟨S8x4x64x128, .f32⟩
  | 27 => ⟨S8x1x4x64x128, .f32⟩
  | 28 => ⟨S8x4x64x128, .f32⟩
  | 29 => ⟨S8x4x64x128, .f32⟩
  | 30 => ⟨S8x4x64x128, .f32⟩
  | 31 => ⟨S8x4x64x128, .f32⟩
  | 32 => ⟨S8x1x4x64x128, .f32⟩
  | 33 => ⟨S8x4x64x128, .f32⟩
  | 34 => ⟨S8x4x64x128, .f32⟩
  | 35 => ⟨S8x4x64x128, .f32⟩
  | 36 => ⟨S8x4x64x128, .f32⟩
  | 37 => ⟨S8x1x4x64x128, .f32⟩
  | 38 => ⟨S8x4x64x128, .f32⟩
  | 39 => ⟨S8x4x64x128, .f32⟩
  | 40 => ⟨S8x4x64x128, .f32⟩
  | 41 => ⟨S8x4x64x128, .f32⟩
  | 42 => ⟨S8x1x4x64x128, .f32⟩
  | 43 => ⟨S8x4x64x128, .f32⟩
  | 44 => ⟨S8x4x64x128, .f32⟩
  | 45 => ⟨S8x4x64x128, .f32⟩
  | 46 => ⟨S8x4x64x128, .f32⟩
  | 47 => ⟨S8x1x4x64x128, .f32⟩
  | 48 => ⟨S8x4x64x128, .f32⟩
  | 49 => ⟨S8x4x64x128, .f32⟩
  | 50 => ⟨S8x4x64x128, .f32⟩
  | 51 => ⟨S8x4x64x128, .f32⟩
  | 52 => ⟨S8x1x4x64x128, .f32⟩
  | 53 => ⟨S8x4x64x128, .f32⟩
  | 54 => ⟨S8x4x64x128, .f32⟩
  | 55 => ⟨S8x4x64x128, .f32⟩
  | 56 => ⟨S8x4x64x128, .f32⟩
  | 57 => ⟨S8x1x4x64x128, .f32⟩
  | 58 => ⟨S8x4x64x128, .f32⟩
  | 59 => ⟨S8x4x64x128, .f32⟩
  | 60 => ⟨S8x4x64x128, .f32⟩
  | 61 => ⟨S8x4x64x128, .f32⟩
  | 62 => ⟨S8x1x4x64x128, .f32⟩
  | 63 => ⟨S8x4x64x128, .f32⟩
  | 64 => ⟨S8x4x64x128, .f32⟩
  | 65 => ⟨S8x4x64x128, .f32⟩
  | 66 => ⟨S8x4x64x128, .f32⟩
  | 67 => ⟨S8x1x4x64x128, .f32⟩
  | 68 => ⟨S8x4x64x128, .f32⟩
  | 69 => ⟨S8x4x64x128, .f32⟩
  | 70 => ⟨S8x4x64x128, .f32⟩
  | 71 => ⟨S8x4x64x128, .f32⟩
  | 72 => ⟨S8x1x4x64x128, .f32⟩
  | 73 => ⟨S8x4x64x128, .f32⟩
  | 74 => ⟨S8x4x64x128, .f32⟩
  | 75 => ⟨S8x4x64x128, .f32⟩
  | 76 => ⟨S8x4x64x128, .f32⟩
  | 77 => ⟨S8x1x4x64x128, .f32⟩
  | 78 => ⟨S8x4x64x128, .f32⟩
  | 79 => ⟨S8x4x64x128, .f32⟩
  | 80 => ⟨S8x4x64x128, .f32⟩
  | 81 => ⟨S8x4x64x128, .f32⟩
  | 82 => ⟨S8x1x4x64x128, .f32⟩
  | 83 => ⟨S8x4x64x128, .f32⟩
  | 84 => ⟨S8x4x64x128, .f32⟩
  | 85 => ⟨S8x4x64x128, .f32⟩
  | 86 => ⟨S8x4x64x128, .f32⟩
  | 87 => ⟨S8x1x4x64x128, .f32⟩
  | 88 => ⟨S8x4x64x128, .f32⟩
  | 89 => ⟨S8x4x64x128, .f32⟩
  | 90 => ⟨S8x4x64x128, .f32⟩
  | 91 => ⟨S8x4x64x128, .f32⟩
  | 92 => ⟨S8x1x4x64x128, .f32⟩
  | 93 => ⟨S8x4x64x128, .f32⟩
  | 94 => ⟨S8x4x64x128, .f32⟩
  | 95 => ⟨S8x4x64x128, .f32⟩
  | 96 => ⟨S8x4x64x128, .f32⟩
  | 97 => ⟨S8x1x4x64x128, .f32⟩
  | 98 => ⟨S8x4x64x128, .f32⟩
  | 99 => ⟨S8x4x64x128, .f32⟩
  | 100 => ⟨S8x1x4x64x128, .f32⟩
  | 101 => ⟨S8x1x4x64x128, .f32⟩
  | 102 => ⟨S8x1x4x64x128, .f32⟩
  | 103 => ⟨S8x1x4x64x128, .f32⟩
  | 104 => ⟨S8x1x4x64x128, .f32⟩
  | 105 => ⟨S8x1x4x64x128, .f32⟩
  | 106 => ⟨S8x1x4x64x128, .f32⟩
  | 107 => ⟨S8x1x4x64x128, .f32⟩
  | 108 => ⟨S8x1x4x64x128, .f32⟩
  | 109 => ⟨S8x1x4x64x128, .f32⟩
  | 110 => ⟨S8x1x4x64x128, .f32⟩
  | 111 => ⟨S8x1x4x64x128, .f32⟩
  | 112 => ⟨S8x1x4x64x128, .f32⟩
  | 113 => ⟨S8x1x4x64x128, .f32⟩
  | 114 => ⟨S8x1x4x64x128, .f32⟩
  | 115 => ⟨S8x1x4x64x128, .f32⟩
  | 116 => ⟨S8x16x4x64x128, .f32⟩
  | 117 => ⟨S1x4, .f32⟩
  | 118 => ⟨S_, .f32⟩
  | 119 => ⟨S128, .f32⟩
  | 120 => ⟨S128, .f32⟩
  | 121 => ⟨S128x1, .f32⟩
  | 122 => ⟨S128x4, .f32⟩
  | 123 => ⟨S128x4, .f32⟩
  | 124 => ⟨S128x4, .f32⟩
  | 125 => ⟨S128x4, .f32⟩
  | 126 => ⟨S1x1x128x4x1, .f32⟩
  | 127 => ⟨S8x16x128x4x64, .f32⟩
  | _ => ⟨S8x2048x8192, .f32⟩

abbrev hbmTy0_2 (i : Nat) : BufTy := match i % 128 with
  | 0 => ⟨S8x16x128x4x64, .f32⟩
  | 1 => ⟨S8x16x4x128x128, .f32⟩
  | 2 => ⟨S8x16x128x4x128, .f32⟩
  | 3 => ⟨S8x16x128x4x128, .f32⟩
  | 4 => ⟨S8x2048x4x128, .f32⟩
  | 5 => ⟨S_, .f32⟩
  | 6 => ⟨S8x2048x4, .f32⟩
  | 7 => ⟨S8x2048x4x1, .f32⟩
  | 8 => ⟨S_, .f32⟩
  | 9 => ⟨S8x2048x4x1, .f32⟩
  | 10 => ⟨S8x2048x4x1, .f32⟩
  | 11 => ⟨S8x2048x4x128, .f32⟩
  | 12 => ⟨S8x2048x4x128, .f32⟩
  | 13 => ⟨S8x2048x4x128, .f32⟩
  | 14 => ⟨S_, .f32⟩
  | 15 => ⟨S8x2048x4, .f32⟩
  | 16 => ⟨S8x2048x4x1, .f32⟩
  | 17 => ⟨S_, .f32⟩
  | 18 => ⟨S8x2048x4x1, .f32⟩
  | 19 => ⟨S8x2048x4x1, .f32⟩
  | 20 => ⟨S8x2048x4x128, .f32⟩
  | 21 => ⟨S8x2048x4x128, .f32⟩
  | 22 => ⟨S_, .f32⟩
  | 23 => ⟨S8x2048x4x1, .f32⟩
  | 24 => ⟨S8x2048x4x1, .f32⟩
  | 25 => ⟨S8x2048x4x1, .f32⟩
  | 26 => ⟨S8x2048x4x128, .f32⟩
  | 27 => ⟨S8x2048x4x128, .f32⟩
  | 28 => ⟨S8x2048x512, .f32⟩
  | 29 => ⟨S1x1x512, .f32⟩
  | 30 => ⟨S8x2048x512, .f32⟩
  | 31 => ⟨S8x2048x512, .f32⟩
  | 32 => ⟨S8x2048x512, .f32⟩
  | 33 => ⟨S8x2048x512, .f32⟩
  | 34 => ⟨S_, .f32⟩
  | 35 => ⟨S8x2048x512, .f32⟩
  | 36 => ⟨S8x2048x512, .f32⟩
  | 37 => ⟨S_, .f32⟩
  | 38 => ⟨S8x2048x512, .f32⟩
  | 39 => ⟨S8x2048x512, .f32⟩
  | 40 => ⟨S8x2048x512, .f32⟩
  | 41 => ⟨S8x2048x512, .f32⟩
  | 42 => ⟨S8x2048x512, .bf16⟩
  | 43 => ⟨S8x2x128x128, .f32⟩
  | _ => ⟨S8x2048x8192, .f32⟩

abbrev hbmTy (i : Nat) : BufTy := match i / 128 with
  | 0 => hbmTy0_0 i
  | 1 => hbmTy0_1 i
  | 2 => hbmTy0_2 i
  | _ => ⟨S8x2048x8192, .f32⟩

abbrev bufTy : (tb : Table) → Fin (tcTables nBuf tb) → BufTy
  | .hbm, ⟨i, _⟩ => hbmTy i
  | _, _ => ⟨S8x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_3 : Ref sig .tc := ⟨.hbm, 47, rfl⟩
abbrev main_v41 : Ref sig .tc := ⟨.hbm, 48, rfl⟩
abbrev main_v42 : Ref sig .tc := ⟨.hbm, 49, rfl⟩
abbrev main_cst_4 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_5 : Ref sig .tc := ⟨.hbm, 54, rfl⟩
abbrev main_v46 : Ref sig .tc := ⟨.hbm, 55, rfl⟩
abbrev main_v47 : Ref sig .tc := ⟨.hbm, 56, rfl⟩
abbrev main_cst_6 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_cst_7 : Ref sig .tc := ⟨.hbm, 84, rfl⟩
abbrev main_v74 : Ref sig .tc := ⟨.hbm, 85, rfl⟩
abbrev main_v75 : Ref sig .tc := ⟨.hbm, 86, rfl⟩
abbrev main_cst_8 : Ref sig .tc := ⟨.hbm, 87, rfl⟩
abbrev main_v76 : Ref sig .tc := ⟨.hbm, 88, rfl⟩
abbrev main_v77 : Ref sig .tc := ⟨.hbm, 89, rfl⟩
abbrev main_cst_9 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_cst_10 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_cst_11 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_cst_12 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_cst_13 : Ref sig .tc := ⟨.hbm, 119, rfl⟩
abbrev main_call0_v0 : Ref sig .tc := ⟨.hbm, 120, rfl⟩
abbrev main_call0_v1 : Ref sig .tc := ⟨.hbm, 121, rfl⟩
abbrev main_call0_v2 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_cst_14 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_cst_15 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_cst_16 : Ref sig .tc := ⟨.hbm, 246, rfl⟩
abbrev main_v224 : Ref sig .tc := ⟨.hbm, 247, rfl⟩
abbrev main_v225 : Ref sig .tc := ⟨.hbm, 248, rfl⟩
abbrev main_v226 : Ref sig .tc := ⟨.hbm, 249, rfl⟩
abbrev main_v227 : Ref sig .tc := ⟨.hbm, 250, rfl⟩
abbrev main_v228 : Ref sig .tc := ⟨.hbm, 251, rfl⟩
abbrev main_v229 : Ref sig .tc := ⟨.hbm, 252, rfl⟩
abbrev main_v230 : Ref sig .tc := ⟨.hbm, 253, rfl⟩
abbrev main_v231 : Ref sig .tc := ⟨.hbm, 254, rfl⟩
abbrev main_v232 : Ref sig .tc := ⟨.hbm, 255, rfl⟩
abbrev main_v233 : Ref sig .tc := ⟨.hbm, 256, rfl⟩
abbrev main_v234 : Ref sig .tc := ⟨.hbm, 257, rfl⟩
abbrev main_v235 : Ref sig .tc := ⟨.hbm, 258, rfl⟩
abbrev main_v236 : Ref sig .tc := ⟨.hbm, 259, rfl⟩
abbrev main_v237 : Ref sig .tc := ⟨.hbm, 260, rfl⟩
abbrev main_cst_17 : Ref sig .tc := ⟨.hbm, 261, rfl⟩
abbrev main_v238 : Ref sig .tc := ⟨.hbm, 262, rfl⟩
abbrev main_v239 : Ref sig .tc := ⟨.hbm, 263, rfl⟩
abbrev main_cst_18 : Ref sig .tc := ⟨.hbm, 264, rfl⟩
abbrev main_v240 : Ref sig .tc := ⟨.hbm, 265, rfl⟩
abbrev main_v241 : Ref sig .tc := ⟨.hbm, 266, rfl⟩
abbrev main_v242 : Ref sig .tc := ⟨.hbm, 267, rfl⟩
abbrev main_v243 : Ref sig .tc := ⟨.hbm, 268, rfl⟩
abbrev main_v244 : Ref sig .tc := ⟨.hbm, 269, rfl⟩
abbrev main_cst_19 : Ref sig .tc := ⟨.hbm, 270, rfl⟩
abbrev main_v245 : Ref sig .tc := ⟨.hbm, 271, rfl⟩
abbrev main_v246 : Ref sig .tc := ⟨.hbm, 272, rfl⟩
abbrev main_cst_20 : Ref sig .tc := ⟨.hbm, 273, rfl⟩
abbrev main_v247 : Ref sig .tc := ⟨.hbm, 274, rfl⟩
abbrev main_v248 : Ref sig .tc := ⟨.hbm, 275, rfl⟩
abbrev main_v249 : Ref sig .tc := ⟨.hbm, 276, rfl⟩
abbrev main_v250 : Ref sig .tc := ⟨.hbm, 277, rfl⟩
abbrev main_cst_21 : Ref sig .tc := ⟨.hbm, 278, rfl⟩
abbrev main_v251 : Ref sig .tc := ⟨.hbm, 279, rfl⟩
abbrev main_v252 : Ref sig .tc := ⟨.hbm, 280, rfl⟩
abbrev main_v253 : Ref sig .tc := ⟨.hbm, 281, rfl⟩
abbrev main_v254 : Ref sig .tc := ⟨.hbm, 282, rfl⟩
abbrev main_v255 : Ref sig .tc := ⟨.hbm, 283, rfl⟩
abbrev main_v256 : Ref sig .tc := ⟨.hbm, 284, rfl⟩
abbrev main_v257 : Ref sig .tc := ⟨.hbm, 285, rfl⟩
abbrev main_v258 : Ref sig .tc := ⟨.hbm, 286, rfl⟩
abbrev main_v259 : Ref sig .tc := ⟨.hbm, 287, rfl⟩
abbrev main_call1_v0 : Ref sig .tc := ⟨.hbm, 288, rfl⟩
abbrev main_call1_v1 : Ref sig .tc := ⟨.hbm, 289, rfl⟩
abbrev main_call1_cst : Ref sig .tc := ⟨.hbm, 290, rfl⟩
abbrev main_call1_v2 : Ref sig .tc := ⟨.hbm, 291, rfl⟩
abbrev main_call1_v3 : Ref sig .tc := ⟨.hbm, 292, rfl⟩
abbrev main_call1_cst_0 : Ref sig .tc := ⟨.hbm, 293, rfl⟩
abbrev main_call1_v4 : Ref sig .tc := ⟨.hbm, 294, rfl⟩
abbrev main_call1_v5 : Ref sig .tc := ⟨.hbm, 295, rfl⟩
abbrev main_v260 : Ref sig .tc := ⟨.hbm, 296, rfl⟩
abbrev main_v261 : Ref sig .tc := ⟨.hbm, 297, rfl⟩
abbrev main_v262 : Ref sig .tc := ⟨.hbm, 298, rfl⟩
abbrev main_v263 : Ref sig .tc := ⟨.hbm, 299, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x8208 : Shape := ⟨2, ![1024, 8208]⟩
abbrev S1024x1536 : Shape := ⟨2, ![1024, 1536]⟩
abbrev S1024x1024 : Shape := ⟨2, ![1024, 1024]⟩
abbrev S1024x512 : Shape := ⟨2, ![1024, 512]⟩
abbrev S1024x3072 : Shape := ⟨2, ![1024, 3072]⟩
abbrev S1024x8192 : Shape := ⟨2, ![1024, 8192]⟩
abbrev S_ : Shape := ⟨0, ![]⟩
abbrev S1024x120 : Shape := ⟨2, ![1024, 120]⟩
abbrev S1024x8 : Shape := ⟨2, ![1024, 8]⟩
abbrev S1024x256 : Shape := ⟨2, ![1024, 256]⟩
abbrev S1x1024 : Shape := ⟨2, ![1, 1024]⟩
abbrev S16384x8192 : Shape := ⟨2, ![16384, 8192]⟩
abbrev S16384x256 : Shape := ⟨2, ![16384, 256]⟩
abbrev S2048x1024 : Shape := ⟨2, ![2048, 1024]⟩
abbrev S2048x256 : Shape := ⟨2, ![2048, 256]⟩
abbrev S2048 : Shape := ⟨1, ![2048]⟩
abbrev S2048x1 : Shape := ⟨2, ![2048, 1]⟩

abbrev nBuf : Space → Nat
  | .hbm => 20
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8208, .f32⟩
  | .hbm, ⟨3, _⟩ => ⟨S1024x1536, .f32⟩
  | .hbm, ⟨4, _⟩ => ⟨S1024x1024, .f32⟩
  | .hbm, ⟨5, _⟩ => ⟨S1024x512, .f32⟩
  | .hbm, ⟨6, _⟩ => ⟨S1024x3072, .f32⟩
  | .hbm, ⟨7, _⟩ => ⟨S1024x1536, .f32⟩
  | .hbm, ⟨8, _⟩ => ⟨S1024x512, .f32⟩
  | .hbm, ⟨9, _⟩ => ⟨S1024x8192, .f32⟩
  | .hbm, ⟨10, _⟩ => ⟨S1024x8192, .bf16⟩
  | .hbm, ⟨11, _⟩ => ⟨S_, .f32⟩
  | .hbm, ⟨12, _⟩ => ⟨S1024x120, .f32⟩
  | .hbm, ⟨13, _⟩ => ⟨S1024x8, .f32⟩
  | .hbm, ⟨14, _⟩ => ⟨S1024x8, .f32⟩
  | .hbm, ⟨15, _⟩ => ⟨S1024x256, .f32⟩
  | .hbm, ⟨16, _⟩ => ⟨S1024x256, .bf16⟩
  | .hbm, ⟨17, _⟩ => ⟨S1x1024, .f32⟩
  | .hbm, ⟨18, _⟩ => ⟨S16384x8192, .f32⟩
  | .hbm, ⟨19, _⟩ => ⟨S16384x256, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x256, .bf16⟩
  | .local _ .vmem, ⟨6, _⟩ => ⟨S2048x1024, .f32⟩
  | .local _ .vmem, ⟨7, _⟩ => ⟨S2048x1024, .f32⟩
  | .local _ .vmem, ⟨8, _⟩ => ⟨S2048x256, .f32⟩
  | .local _ .vmem, ⟨9, _⟩ => ⟨S2048x256, .f32⟩
  | .local _ .vmem, ⟨10, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16384x1024 : Shape := ⟨2, ![16384, 1024]⟩
abbrev S1024 : Shape := ⟨1, ![1024]⟩
abbrev S1024x8208 : Shape := ⟨2, ![1024, 8208]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8208 : Shape := ⟨2, ![16384, 8208]⟩
abbrev S16384x256 : Shape := ⟨2, ![16384, 256]⟩
abbrev S16384x512 : Shape := ⟨2, ![16384, 512]⟩
abbrev S16384x8 : Shape := ⟨2, ![16384, 8]⟩
abbrev S16384x3072 : Shape := ⟨2, ![16384, 3072]⟩
abbrev S16384x120 : Shape := ⟨2, ![16384, 120]⟩
abbrev S16384x8192 : Shape := ⟨2, ![16384, 8192]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8208, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x8208, .f32⟩
  | .hbm, ⟨20, _⟩ => ⟨S16384x256, .f32⟩
  | .hbm, ⟨21, _⟩ => ⟨S16384x256, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x8, .f32⟩
  | .hbm, ⟨28, _⟩ => ⟨S16384x512, .f32⟩
  | .hbm, ⟨29, _⟩ => ⟨S16384x1024, .f32⟩
  | .hbm, ⟨30, _⟩ => ⟨S16384x8, .f32⟩
  | .hbm, ⟨31, _⟩ => ⟨S16384x512, .f32⟩
  | .hbm, ⟨32, _⟩ => ⟨S16384x3072, .f32⟩
  | .hbm, ⟨33, _⟩ => ⟨S_, .f32⟩
  | .hbm, ⟨34, _⟩ => ⟨S16384x120, .f32⟩
  | .hbm, ⟨35, _⟩ => ⟨S16384x8192, .f32⟩
  | .hbm, ⟨36, _⟩ => ⟨S16384x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S16384x8192 : Shape := ⟨2, ![16384, 8192]⟩
abbrev S512x1024 : Shape := ⟨2, ![512, 1024]⟩
abbrev S1024x1024 : Shape := ⟨2, ![1024, 1024]⟩
abbrev S512x512 : Shape := ⟨2, ![512, 512]⟩
abbrev S512x3072 : Shape := ⟨2, ![512, 3072]⟩

abbrev nBuf : Space → Nat
  | .hbm => 14
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x8192, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x3072, .f32⟩
  | .local _ .vmem, ⟨9, _⟩ => ⟨S512x3072, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x1024 : Shape := ⟨2, ![16384, 1024]⟩
abbrev S16384x512 : Shape := ⟨2, ![16384, 512]⟩
abbrev S16384x8192 : Shape := ⟨2, ![16384, 8192]⟩
abbrev S512x1024 : Shape := ⟨2, ![512, 1024]⟩
abbrev S1024x1024 : Shape := ⟨2, ![1024, 1024]⟩
abbrev S16384x3072 : Shape := ⟨2, ![16384, 3072]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x8192, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S16384x3072, .f32⟩
  | .hbm, ⟨10, _⟩ => ⟨S16384x3072, .f32⟩
  | .hbm, ⟨11, _⟩ => ⟨S16384x3072, .f32⟩
  | .hbm, ⟨12, _⟩ => ⟨S_, .f32⟩
  | .hbm, ⟨13, _⟩ => ⟨S16384x3072, .f32⟩
  | .hbm, ⟨14, _⟩ => ⟨S16384x3072, .f32⟩
  | .hbm, ⟨15, _⟩ => ⟨S_, .f32⟩
  | .hbm, ⟨16, _⟩ => ⟨S16384x3072, .f32⟩
  | .hbm, ⟨17, _⟩ => ⟨S16384x3072, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x512, .f32⟩
  | .hbm, ⟨22, _⟩ => ⟨S16384x1024, .f32⟩
  | .hbm, ⟨23, _⟩ => ⟨S16384x1024, .f32⟩
  | .hbm, ⟨24, _⟩ => ⟨S16384x512, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x512, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Kernel4.lean ====
abbrev S256x1024 : Shape := ⟨2, ![256, 1024]⟩
abbrev S256x512 : Shape := ⟨2, ![256, 512]⟩
abbrev S256x8192 : Shape := ⟨2, ![256, 8192]⟩
abbrev S512x1024 : Shape := ⟨2, ![512, 1024]⟩
abbrev S1024x1024 : Shape := ⟨2, ![1024, 1024]⟩
abbrev S256x3072 : Shape := ⟨2, ![256, 3072]⟩

abbrev nBuf : Space → Nat
  | .hbm => 14
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x8192, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S256x1024, .f32⟩
  | .local _ .vmem, ⟨0, _⟩ => ⟨S256x1024, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x3072, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference4Ideal.lean ====
abbrev S256x1024 : Shape := ⟨2, ![256, 1024]⟩
abbrev S256x512 : Shape := ⟨2, ![256, 512]⟩
abbrev S256x8192 : Shape := ⟨2, ![256, 8192]⟩
abbrev S512x1024 : Shape := ⟨2, ![512, 1024]⟩
abbrev S1024x1024 : Shape := ⟨2, ![1024, 1024]⟩
abbrev S256x3072 : Shape := ⟨2, ![256, 3072]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x8192, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S256x3072, .f32⟩
  | .hbm, ⟨10, _⟩ => ⟨S256x3072, .f32⟩
  | .hbm, ⟨11, _⟩ => ⟨S256x3072, .f32⟩
  | .hbm, ⟨12, _⟩ => ⟨S_, .f32⟩
  | .hbm, ⟨13, _⟩ => ⟨S256x3072, .f32⟩
  | .hbm, ⟨14, _⟩ => ⟨S256x3072, .f32⟩
  | .hbm, ⟨15, _⟩ => ⟨S_, .f32⟩
  | .hbm, ⟨16, _⟩ => ⟨S256x3072, .f32⟩
  | .hbm, ⟨17, _⟩ => ⟨S256x3072, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Proof.IdealBody.lean ====
/-
  One grid point of the retention kernel, run on any staging buffers.

  A point handles one chunk of 128 positions of four sequences.  Its state, kept in scratch between
  points, is loaded from the initial state at a sequence group's first chunk and written to the last
  output at the group's last chunk; both are conditionals on the point.  The run below goes through
  both without deciding them, so one statement serves every point of the grid.
-/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option sl_exec.squeezeSlice true
set_option maxHeartbeats 4000000 in
/-- The body at a point `i`: what its stores leave in the output block, in the carried state, and (at a
    group's last chunk) in the final state's block, with the proof that from the five input blocks, any
    contents of the two outputs and the carried state `xs` the body runs to the end leaving exactly that
    and the inputs as they were. -/
noncomputable def bodyRun (c : Dev nD) (i : grid0.Coords)
    (arg2 : Memref sig .tc .vmem S4x128x1536 .f32) (harg2 : arg2.IsWhole)
    (arg3 : Memref sig .tc .vmem S128x256 .f32) (harg3 : arg3.IsWhole)
    (arg4 : Memref sig .tc .vmem S128x256 .f32) (harg4 : arg4.IsWhole)
    (arg5 : Memref sig .tc .vmem S1x512 .f32) (harg5 : arg5.IsWhole)
    (arg6 : Memref sig .tc .vmem S4x2x128x128 .f32) (harg6 : arg6.IsWhole)
    (arg7 : Memref sig .tc .vmem S4x128x512 .bf16) (harg7 : arg7.IsWhole)
    (arg8 : Memref sig .tc .vmem S4x2x128x128 .f32) (harg8 : arg8.IsWhole)
    (arg9 : Memref sig .tc .vmem S4x2x128x128 .f32) (harg9 : arg9.IsWhole)
    (x0 : Vec F S4x128x1536 .f32) (x1 : Vec F S128x256 .f32) (x2 : Vec F S128x256 .f32)
    (x3 : Vec F S1x512 .f32) (x4 : Vec F S4x2x128x128 .f32) (xs : Vec F S4x2x128x128 .f32) :
    { L : List (View.Piece (Elt F) S4x128x512 .bf16) × List (View.Piece (Elt F) S4x2x128x128 .f32)
          × Vec F S4x2x128x128 .f32 //
      ∀ (y : Vec F S4x2x128x128 .f32) (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ (∃ d, owns (c : Thread nD τ) arg7 fullShare d)
            ∗ owns (c : Thread nD τ) arg8 fullShare y ∗ owns (c : Thread nD τ) arg9 fullShare xs
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ owns (c : Thread nD τ) arg6 fullShare x4
                ∗ owns (c : Thread nD τ) arg7 fullShare (arg7.view.read (Elt F) (arg7.view.writes (Elt F) arg7.view.junk L.1))
                ∗ owns (c : Thread nD τ) arg8 fullShare (if k0_cond2 i = 1#1 then L.2.2 else y)
                ∗ owns (c : Thread nD τ) arg9 fullShare (arg9.view.read (Elt F) (arg9.view.writes (Elt F) arg9.view.junk L.2.1)))
              -∗ K ⟨⟩))
          ⊢ wp frame (wpE (defs₀ (F := F)) Variants.none c none) E
              (cc0_retention i arg2 harg2 arg3 harg3 arg4 harg4 arg5 harg5 arg6 harg6 arg7 harg7 arg8 harg8 arg9 harg9) K } := by
  refine ⟨⟨?L5, ?LS, ?V6⟩, fun y E K => ?run⟩
  case run =>
    simp only [cc0_retention_eq_skeleton]; unfold cc0_retention_skel
    simp only [k0_part37_eq_skeleton, k0_part1_eq_skeleton, k0_part2_eq_skeleton, k0_part3_eq_skeleton,
      k0_part4_eq_skeleton, k0_part5_eq_skeleton, k0_part6_eq_skeleton, k0_part7_eq_skeleton, k0_part8_eq_skeleton,
      k0_part9_eq_skeleton, k0_part10_eq_skeleton, k0_part11_eq_skeleton, k0_part12_eq_skeleton, k0_part13_eq_skeleton,
      k0_part14_eq_skeleton, k0_part15_eq_skeleton, k0_part16_eq_skeleton, k0_part17_eq_skeleton, k0_part18_eq_skeleton,
      k0_part19_eq_skeleton, k0_part20_eq_skeleton, k0_part21_eq_skeleton, k0_part22_eq_skeleton, k0_part23_eq_skeleton,
      k0_part24_eq_skeleton, k0_part25_eq_skeleton, k0_part26_eq_skeleton, k0_part27_eq_skeleton, k0_part28_eq_skeleton,
      k0_part29_eq_skeleton, k0_part30_eq_skeleton, k0_part31_eq_skeleton, k0_part32_eq_skeleton, k0_part33_eq_skeleton,
      k0_part34_eq_skeleton, k0_part35_eq_skeleton, k0_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg9.eq_unread hfs
    sl_exec!
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr
      swap; · iexact H5
      ipureintro; rfl
    isplitl [H6]
    · iexists _; isplitr
      swap; · iexact H6
      ipureintro
      by_cases hc : k0_cond2 i = 1#1
      · rw [dif_pos hc, if_pos hc]
        exact View.read_writes_full _ _ _ _ _
      · rw [dif_neg hc, if_neg hc]; exact hf6
    · iexists _; isplitr
      swap; · iexact HS
      ipureintro; rfl

end Cert.KernelIdeal.Hand

end
-- ==== Proof.IdealFrame.lean ====
/-
  The retention kernel's frame: from any memory every run of the program ends, its two argument arrays
  unchanged and every semaphore back at zero.  The two outputs and the carried state are at any contents
  throughout, which is all this claim needs.
-/
module

public import proofs.«01_k».proof.Proof.IdealBody
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers the body is called with -/

/-- Window 0's staging buffer at a point, and the other windows' the same way. -/
abbrev ms0 (t : Fin cfg0.N) := win0_0.stage (cfg0.slots t 0)
abbrev hs0 (t : Fin cfg0.N) := hstage0_0 ((cfg0.slots t 0).cast nbuf0_0)
abbrev ms1 (t : Fin cfg0.N) := win0_1.stage (cfg0.slots t 1)
abbrev hs1 (t : Fin cfg0.N) := hstage0_1 ((cfg0.slots t 1).cast nbuf0_1)
abbrev ms2 (t : Fin cfg0.N) := win0_2.stage (cfg0.slots t 2)
abbrev hs2 (t : Fin cfg0.N) := hstage0_2 ((cfg0.slots t 2).cast nbuf0_2)
abbrev ms3 (t : Fin cfg0.N) := win0_3.stage (cfg0.slots t 3)
abbrev hs3 (t : Fin cfg0.N) := hstage0_3 ((cfg0.slots t 3).cast nbuf0_3)
abbrev ms4 (t : Fin cfg0.N) := win0_4.stage (cfg0.slots t 4)
abbrev hs4 (t : Fin cfg0.N) := hstage0_4 ((cfg0.slots t 4).cast nbuf0_4)
abbrev ms5 (t : Fin cfg0.N) := win0_5.stage (cfg0.slots t 5)
abbrev hs5 (t : Fin cfg0.N) := hstage0_5 ((cfg0.slots t 5).cast nbuf0_5)
abbrev ms6 (t : Fin cfg0.N) := win0_6.stage (cfg0.slots t 6)
abbrev hs6 (t : Fin cfg0.N) := hstage0_6 ((cfg0.slots t 6).cast nbuf0_6)

/-- The scratch buffer that carries the state. -/
abbrev msS : Memref sig .tc .vmem S4x2x128x128 .f32 := Memref.whole cc0_scratch0

/-- What the region holds besides its windows: the scratch and the generator register, at some contents. -/
theorem rest_eq (c : Dev nD) :
    (Pipeline.ΦA spec0 c : sProp 𝕄)
      = iprop((∃ d, owns (c : Thread nD τ) msS fullShare d) ∗ (∃ r, prngReg c r)) := by
  unfold Pipeline.ΦA; rw [scopedRest0_eq]; simp only [msS, owns_whole]; try rfl

/-- The body table's row at point `t` is the body on that point's buffers. -/
theorem row_eq (t : Fin cfg0.N) :
    defs₀ (F := F) .tc cfg0.body (cfg0.bodyArgs t (cfg0.slots t)) = bodyAt0 t := by
  unfold defs₀; rw [Defs.onTc_tc]

/-! ## The proof data, the outputs forgotten -/

/-- The windows of which nothing is said: the two outputs. -/
def dropped : Fin 7 → Bool := fun w => w.val == 5 || w.val == 6

/-- The arrays as the region finds them, every input block as fetched, the outputs at anything. -/
def fdats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem fafter0 (c : Dev nD) (t : Fin cfg0.N) : (fdats m 0 c).after 0 t = X0_0 m c t := by dsimp only [fdats]
theorem fafter1 (c : Dev nD) (t : Fin cfg0.N) : (fdats m 0 c).after 1 t = iblk m c 1 t := by dsimp only [fdats]
theorem fafter2 (c : Dev nD) (t : Fin cfg0.N) : (fdats m 0 c).after 2 t = iblk m c 2 t := by dsimp only [fdats]
theorem fafter3 (c : Dev nD) (t : Fin cfg0.N) : (fdats m 0 c).after 3 t = iblk m c 3 t := by dsimp only [fdats]
theorem fafter4 (c : Dev nD) (t : Fin cfg0.N) : (fdats m 0 c).after 4 t = iblk m c 4 t := by dsimp only [fdats]

theorem fbefore0 (c : Dev nD) (t : Fin cfg0.N) (d) : (fdats m 0 c).before 0 t d = X0_0 m c t :=
  before0_0_of m (fdats m 0 c) (fA_eq m c 0) (fafter0 m c) t d
theorem fbefore1 (c : Dev nD) (t : Fin cfg0.N) (d) : (fdats m 0 c).before 1 t d = iblk m c 1 t :=
  before0_1_of m (fdats m 0 c) (fA_eq m c 1) (fafter1 m c) t d
theorem fbefore2 (c : Dev nD) (t : Fin cfg0.N) (d) : (fdats m 0 c).before 2 t d = iblk m c 2 t :=
  before0_2_of m (fdats m 0 c) (fA_eq m c 2) (fafter2 m c) t d
theorem fbefore3 (c : Dev nD) (t : Fin cfg0.N) (d) : (fdats m 0 c).before 3 t d = iblk m c 3 t :=
  before0_3_of m (fdats m 0 c) (fA_eq m c 3) (fafter3 m c) t d
theorem fbefore4 (c : Dev nD) (t : Fin cfg0.N) (d) : (fdats m 0 c).before 4 t d = iblk m c 4 t :=
  before0_4_of m (fdats m 0 c) (fA_eq m c 4) (fafter4 m c) t d

/-! ## The body at a point -/

/-- What the body is given at point `t`, window by window. -/
def fpre (c : Dev nD) (t : Fin cfg0.N) : sProp 𝕄 :=
  iprop((fdats m 0 c).Φ t.castSucc ∗ (fdats m 0 c).owesAt () t.castSucc
    ∗ (∃ d, owns (c : Thread nD τ) (ms0 t) fullShare ((fdats m 0 c).before 0 t d))
    ∗ (∃ d, owns (c : Thread nD τ) (ms1 t) fullShare ((fdats m 0 c).before 1 t d))
    ∗ (∃ d, owns (c : Thread nD τ) (ms2 t) fullShare ((fdats m 0 c).before 2 t d))
    ∗ (∃ d, owns (c : Thread nD τ) (ms3 t) fullShare ((fdats m 0 c).before 3 t d))
    ∗ (∃ d, owns (c : Thread nD τ) (ms4 t) fullShare ((fdats m 0 c).before 4 t d))
    ∗ (∃ d, owns (c : Thread nD τ) (ms5 t) fullShare d)
    ∗ (∃ d, owns (c : Thread nD τ) (ms6 t) fullShare d))

/-- What it gives back. -/
def fpost (c : Dev nD) (t : Fin cfg0.N) : sProp 𝕄 :=
  iprop((fdats m 0 c).Φ t.succ ∗ (fdats m 0 c).owesAt () t.succ
    ∗ owns (c : Thread nD τ) (ms0 t) fullShare ((fdats m 0 c).after 0 t)
    ∗ owns (c : Thread nD τ) (ms1 t) fullShare ((fdats m 0 c).after 1 t)
    ∗ owns (c : Thread nD τ) (ms2 t) fullShare ((fdats m 0 c).after 2 t)
    ∗ owns (c : Thread nD τ) (ms3 t) fullShare ((fdats m 0 c).after 3 t)
    ∗ owns (c : Thread nD τ) (ms4 t) fullShare ((fdats m 0 c).after 4 t)
    ∗ (∃ d, owns (c : Thread nD τ) (ms5 t) fullShare d)
    ∗ (∃ d, owns (c : Thread nD τ) (ms6 t) fullShare d))

set_option maxHeartbeats 1600000 in
theorem fbody (c : Dev nD) (t : Fin cfg0.N) :
    fpre m c t ⊢ wp frame (wpE (defs₀ (F := F)) Variants.none c none) Set.univ (bodyAt0 t) (fun _ => fpost m c t) := by
  unfold fpre fpost bodyAt0
  simp only [fbefore0, fbefore1, fbefore2, fbefore3, fbefore4]
  rw [show (fdats m 0 c).Φ t.succ = (fdats m 0 c).Φ t.castSucc from rfl,
    show (fdats m 0 c).owesAt () t.succ = (fdats m 0 c).owesAt () t.castSucc from rfl,
    fafter0, fafter1, fafter2, fafter3, fafter4]
  rw [show (fdats m 0 c).Φ t.castSucc = Pipeline.ΦA spec0 c from rfl, rest_eq]
  iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩⟩
  iapply ((bodyRun c (grid0.coords t) (ms0 t) (hs0 t) (ms1 t) (hs1 t) (ms2 t) (hs2 t) (ms3 t) (hs3 t) (ms4 t) (hs4 t)
    (ms5 t) (hs5 t) (ms6 t) (hs6 t) msS (Memref.isWhole_whole _) (X0_0 m c t) (iblk m c 1 t) (iblk m c 2 t) (iblk m c 3 t) (iblk m c 4 t) ds).2 d6 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, H5, H6, HS⟩
  isplitl [HS Hg]
  · isplitl [HS]
    · iexists _; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

theorem fobligation (c : Dev nD) :
    BodyObligation (fdats (F := F) m 0 c) (defs₀ (F := F)) Variants.none () Set.univ dropped := fun t => by
  rw [bigSep_W0, bigSep_W0, row_eq]
  exact triple_restated (fbody m c t) rfl .rfl fun _ => .rfl

/-! ## The run and the frame -/

-- the run's configuration is found by unifying its conclusion with this statement
set_option backward.isDefEq.respectTransparency.types false in
theorem frun : θ_run defs (onTc (τ := τ) (main (F := F))) (s₀ m ρ) (fun r =>
    (Pipeline.RDat.FramePost (cfgs 0) (fun c => (fdats m 0 c).toRForget dropped) (V m)) r ∧ r.2.sem = fun _ => 0) :=
  Pipeline.θ_run_frame_forget (Q' := _) cfgs (fdats m) (0 : Fin 1) launch0 defs₀ Variants.none dropped m ρ main
    (hbody := fun c => (fobligation m c).loose) (hshare := fun c => (fdats m 0 c).share_full fun _ => rfl)
    (howed := fun _ _ => rfl) (V := V m) (hmain := hmain m Variants.none) (hA := fA_eq m) (hΦ := fun _ _ => rfl)

/-- THE FRAME, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨(Pipeline.RDat.FramePost.arr_in h.1 c 0 rfl).trans ((fA_eq m c 0).trans (V_main_arg0 m c)),
        ((h.1 c).2 main_arg1 (Pipeline.mem_restRefs_of main_arg1 (by decide) (by decide))).trans (V_main_arg1 m c)⟩, h.2⟩)
    (frun m ρ)

end Cert.KernelIdeal.Hand

end
-- ==== Proof.Simple.lean ====
/-
  The claims that ask nothing of the values: the three frames, and that every constant the idealized
  kernel names is the real number the compiled kernel's literal rounds.
-/
module

public import proofs.«01_k».proof.Defs
public import proofs.«01_k».proof.Proof.IdealFrame
public import proofs.«01_k».proof.Proof.BitsFrame
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem

theorem frame_bits : Cert.quiescent_Kernel := fun m ρ _ => Cert.Kernel.Hand.frame m ρ

theorem frame_ideal : Cert.quiescent_KernelIdeal := fun m ρ _ => Cert.KernelIdeal.Hand.frame m ρ

theorem frame_reference : Cert.quiescent_ReferenceIdeal := fun m ρ _ =>
  (θ_run Cert.ReferenceIdeal.defs _ _).mono (fun r h => ⟨fun c => ⟨(h c).2.2.1, (h c).2.2.2⟩,
      Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "log_g0" .f32 0xBD020AEC#32 _ rfl,
    IdealRules.named_const.statement Cert.KernelIdeal.κ "log_g1" .f32 0xBC8102B3#32 _ rfl,
    IdealRules.named_const.statement Cert.KernelIdeal.κ "g_chunk0" .f32 0x3C8CC36A#32 _ rfl,
    IdealRules.named_const.statement Cert.KernelIdeal.κ "g_chunk1" .f32 0x3E08698E#32 _ rfl,
    IdealRules.named_const.statement Cert.KernelIdeal.κ "log_g2" .f32 0xBC0080AC#32 _ rfl,
    IdealRules.named_const.statement Cert.KernelIdeal.κ "log_g3" .f32 0xBB80402B#32 _ rfl,
    IdealRules.named_const.statement Cert.KernelIdeal.κ "g_chunk2" .f32 0x3EBB9DB9#32 _ rfl,
    IdealRules.named_const.statement Cert.KernelIdeal.κ "g_chunk3" .f32 0x3F1B1EB1#32 _ rfl⟩

end Cert.Proof

end
-- ==== Proof.Spec.lean ====
/-
  Retention, over the extended reals: one head of one chunk of 128 positions, and the recurrence over
  the chunks.
-/
module

public import Idealize.ShloMosaic.PureOps.Ideal
public import Idealize.ShloMosaic.Lib.Pointwise

@[expose] public section

noncomputable section

namespace Cert.Retention

open Idealize.ShloMosaic

/-- The decay from position `j` to position `i` of a chunk: nothing flows back. -/
def decay (lg : EReal) (i j : Fin 128) : EReal :=
  if j.val ≤ i.val then Ideal.exp (lg * (((i.val : ℝ) - (j.val : ℝ) : ℝ) : EReal)) else 0

/-- The weight of the carried state at position `i`. -/
def wq (lg : EReal) (i : Fin 128) : EReal := Ideal.exp (lg * (((i.val : ℝ) + 1 : ℝ) : EReal))

/-- The weight of position `j` in the next state. -/
def wk (lg : EReal) (j : Fin 128) : EReal := Ideal.exp (lg * ((127 - (j.val : ℝ) : ℝ) : EReal))

/-- A head's output at position `i`, column `e`: attention within the chunk and the state carried into it. -/
def out (lg : EReal) (q k : Fin 128 → Fin 64 → EReal) (v : Fin 128 → Fin 128 → EReal) (S : Fin 64 → Fin 128 → EReal)
    (i e : Fin 128) : EReal :=
  ∑ j : Fin 128, ((∑ d : Fin 64, q i d * k j d) * decay lg i j) * v j e + ∑ d : Fin 64, (q i d * wq lg i) * S d e

/-- The state a chunk leaves. -/
def next (lg g : EReal) (k : Fin 128 → Fin 64 → EReal) (v : Fin 128 → Fin 128 → EReal) (S : Fin 64 → Fin 128 → EReal)
    (d : Fin 64) (e : Fin 128) : EReal :=
  g * S d e + ∑ j : Fin 128, (k j d * wk lg j) * v j e

/-- The mean of 128 values. -/
def mean (o : Fin 128 → EReal) : EReal := Ideal.div (∑ e : Fin 128, o e) (Ideal.ofBits .f32 0x43000000#32)

/-- The values less their mean. -/
def cen (o : Fin 128 → EReal) (e : Fin 128) : EReal := o e - mean o

/-- The group norm of a row, times its gain and its gate. -/
def norm (o gn gate : Fin 128 → EReal) (e : Fin 128) : EReal :=
  ((cen o e * Ideal.rsqrt (mean (fun x => cen o x * cen o x) + Ideal.ofBits .f32 0x358637BD#32)) * gn e)
    * (gate e * Ideal.logistic (gate e))

/-- A position as a number. -/
theorem sitofp_nat (n : ℕ) (hn : n < 2 ^ 31) :
    (FloatOps.sitofp FTy.f32 (BitVec.ofNat 32 n) : Ideal .f32) = ((n : ℝ) : EReal) := by
  show (((BitVec.ofNat 32 n).toInt : ℝ) : EReal) = _
  have h : (BitVec.ofNat 32 n).toInt = (n : ℤ) := by
    rw [BitVec.toInt_eq_toNat_of_lt] <;> simp [BitVec.toNat_ofNat] <;> omega
  rw [h]; norm_cast

theorem ofBits_127 : Ideal.ofBits .f32 0x42FE0000#32 = ((127 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

/-- A sum over 128 lanes whose first factor is cleared from lane 64 on is a sum over the first 64. -/
theorem sum_lo (a b : Fin 128 → EReal) :
    ∑ l : Fin 128, (if l.val < 64 then a l else 0) * b l
      = ∑ d : Fin 64, a ⟨d.val, by omega⟩ * b ⟨d.val, by omega⟩ := by
  rw [Fin.sum_univ_two_halves 64 64 rfl]
  rw [show (∑ i : Fin 64, (if (⟨64 + i.val, by omega⟩ : Fin 128).val < 64 then a ⟨64 + i.val, by omega⟩ else 0) * b ⟨64 + i.val, by omega⟩) = 0 from
    Finset.sum_eq_zero fun i _ => by rw [if_neg (by simp), zero_mul]]
  rw [add_zero]
  exact Finset.sum_congr rfl fun i _ => by rw [if_pos (by simp)]

/-- The same for the last 64. -/
theorem sum_hi (a b : Fin 128 → EReal) :
    ∑ l : Fin 128, (if l.val < 64 then 0 else a l) * b l
      = ∑ d : Fin 64, a ⟨64 + d.val, by omega⟩ * b ⟨64 + d.val, by omega⟩ := by
  rw [Fin.sum_univ_two_halves 64 64 rfl]
  rw [show (∑ i : Fin 64, (if (⟨i.val, by omega⟩ : Fin 128).val < 64 then 0 else a ⟨i.val, by omega⟩) * b ⟨i.val, by omega⟩) = 0 from
    Finset.sum_eq_zero fun i _ => by rw [if_pos (by simp), zero_mul]]
  rw [zero_add]
  exact Finset.sum_congr rfl fun i _ => by rw [if_neg (by simp)]

end Cert.Retention

end
-- ==== Proof.Whole.lean ====
/-
  Retention, over the extended reals, of a whole batch: rotary embedding, the states chunk by chunk, the
  normalised and gated output.
-/
module

public import proofs.«01_k».proof.Proof.Spec

@[expose] public section

noncomputable section

namespace Cert.Retention

open Idealize.ShloMosaic

/-- The number a position or a lane stands for. -/
def num (n : ℕ) : EReal := (FloatOps.sitofp FTy.f32 (BitVec.ofNat 32 n) : Ideal .f32)

/-- The angle of frequency `f` at position `t`. -/
def ang (t : Fin 2048) (f : Fin 32) : EReal :=
  num t.val * Ideal.pow (Ideal.ofBits FTy.f32 0x461C4000#32)
    (Ideal.div (-(Ideal.ofBits FTy.f32 0x40000000#32 * num f.val)) (Ideal.ofBits FTy.f32 0x42800000#32))

/-- The position of row `i` of chunk `c`. -/
def pos (c : ℕ) (i : Fin 128) : Fin 2048 := ⟨(128 * c + i.val) % 2048, Nat.mod_lt _ (by decide)⟩

/-- A head's decay per position. -/
def lgv (h : Fin 4) : EReal := ((Real.log ((2 ^ (5 + h.val) - 1) / 2 ^ (5 + h.val)) : ℝ) : EReal)

/-- A head's decay over a chunk. -/
def gcv (h : Fin 4) : EReal := ((((2 ^ (5 + h.val) - 1) / 2 ^ (5 + h.val)) ^ 128 : ℝ) : EReal)

section

variable (z : Fin 8 → Fin 2048 → Fin 8192 → EReal) (gn : Fin 512 → EReal)

/-- Lane `d` of head `h`, rotated by its position: columns from `off` on. -/
def rot (off : ℕ) (ho : off ≤ 256) (b : Fin 8) (t : Fin 2048) (h : Fin 4) (d : Fin 64) : EReal :=
  if hd : d.val < 32 then
    z b t ⟨off + 64 * h.val + d.val, by omega⟩ * Ideal.cos (ang t ⟨d.val, hd⟩)
      - z b t ⟨off + 64 * h.val + (d.val + 32), by omega⟩ * Ideal.sin (ang t ⟨d.val, hd⟩)
  else
    z b t ⟨off + 64 * h.val + (d.val - 32), by omega⟩ * Ideal.sin (ang t ⟨d.val - 32, by omega⟩)
      + z b t ⟨off + 64 * h.val + d.val, by omega⟩ * Ideal.cos (ang t ⟨d.val - 32, by omega⟩)

/-- The scaled queries of chunk `c`. -/
def qG (b : Fin 8) (h : Fin 4) (c : ℕ) (i : Fin 128) (d : Fin 64) : EReal :=
  rot z 0 (by decide) b (pos c i) h d * Ideal.ofBits .f32 0x3E000000#32

/-- The keys of chunk `c`. -/
def kG (b : Fin 8) (h : Fin 4) (c : ℕ) (i : Fin 128) (d : Fin 64) : EReal :=
  rot z 256 (by decide) b (pos c i) h d

/-- The values of chunk `c`. -/
def vG (b : Fin 8) (h : Fin 4) (c : ℕ) (j e : Fin 128) : EReal := z b (pos c j) ⟨512 + 128 * h.val + e.val, by omega⟩

/-- The state before chunk `c`. -/
def stG (b : Fin 8) (h : Fin 4) : ℕ → Fin 64 → Fin 128 → EReal
  | 0 => fun _ _ => 0
  | c + 1 => next (lgv h) (gcv h) (kG z b h c) (vG z b h c) (stG b h c)

/-- The output at row `i` of chunk `c`. -/
def outG (b : Fin 8) (h : Fin 4) (c : ℕ) (i e : Fin 128) : EReal :=
  norm (fun e => out (lgv h) (qG z b h c) (kG z b h c) (vG z b h c) (stG z b h c) i e)
    (fun e => gn ⟨128 * h.val + e.val, by omega⟩) (fun e => z b (pos c i) ⟨1024 + 128 * h.val + e.val, by omega⟩) e

/-- The output array. -/
def outA (b : Fin 8) (t : Fin 2048) (k : Fin 512) : EReal :=
  outG z gn b ⟨k.val / 128, by omega⟩ (t.val / 128) ⟨t.val % 128, Nat.mod_lt _ (by decide)⟩ ⟨k.val % 128, Nat.mod_lt _ (by decide)⟩

/-- The final states, two heads to a tile of 128 rows. -/
def finA (b : Fin 8) (p : Fin 2) (r e : Fin 128) : EReal :=
  stG z b ⟨2 * p.val + r.val / 64, by omega⟩ 16 ⟨r.val % 64, Nat.mod_lt _ (by decide)⟩ e

end

theorem num_eq (n : ℕ) (hn : n < 2 ^ 31) : num n = ((n : ℝ) : EReal) := sitofp_nat n hn

theorem ofBits_2 : Ideal.ofBits .f32 0x40000000#32 = ((2 : ℝ) : EReal) := by
  simp [Ideal.ofBits, Ideal.ieee, -EReal.coe_mul]; norm_num

theorem ofBits_neg5 : Ideal.ofBits .f32 0xC0A00000#32 = ((-5 : ℝ) : EReal) := by
  simp [Ideal.ofBits, Ideal.ieee, -EReal.coe_mul]; norm_num

theorem ofBits_1 : Ideal.ofBits .f32 0x3F800000#32 = ((1 : ℝ) : EReal) := by
  simp [Ideal.ofBits, Ideal.ieee, -EReal.coe_mul]; norm_num

/-- The decay per position, as a logarithm of one less a power of two. -/
theorem lgv_eq (h : Fin 4) : Ideal.log1p (-Ideal.pow (Ideal.ofBits FTy.f32 0x40000000#32) (Ideal.ofBits FTy.f32 0xC0A00000#32 - num h.val)) = lgv h := by
  rw [num_eq _ (by omega), ofBits_2, ofBits_neg5, ← EReal.coe_sub, Ideal.pow_coe_coe]
  have e : Real.rpow 2 (-5 - ((h.val : ℕ) : ℝ)) = 1 / 2 ^ (5 + h.val) := by
    show (2 : ℝ) ^ (-5 - ((h.val : ℕ) : ℝ)) = _
    rw [show (-5 - ((h.val : ℕ) : ℝ)) = -(((5 + h.val : ℕ) : ℝ)) by push_cast; ring, Real.rpow_neg (by norm_num), Real.rpow_natCast, one_div]
  have hp : (1 : ℝ) < 2 ^ (5 + h.val) := one_lt_pow₀ (by norm_num) (by omega)
  have hq : (0 : ℝ) < 2 ^ (5 + h.val) := by positivity
  unfold Ideal.log1p
  rw [e, ← EReal.coe_neg, ← EReal.coe_one, ← EReal.coe_add, Ideal.log_coe]
  have e2 : (1 + -(1 / 2 ^ (5 + h.val)) : ℝ) = (2 ^ (5 + h.val) - 1) / 2 ^ (5 + h.val) := by field_simp; ring
  rw [e2, if_neg (not_le.mpr (div_pos (by linarith) hq))]
  rfl

/-- The decay over a chunk. -/
theorem gcv_eq (h : Fin 4) : Ideal.exp (lgv h * Ideal.ofBits FTy.f32 0x43000000#32) = gcv h := by
  have hp : (1 : ℝ) < 2 ^ (5 + h.val) := one_lt_pow₀ (by norm_num) (by omega)
  have hq : (0 : ℝ) < 2 ^ (5 + h.val) := by positivity
  unfold lgv gcv
  rw [ofBits_128, ← EReal.coe_mul, Ideal.exp_coe, mul_comm, show (128 : ℝ) = ((128 : ℕ) : ℝ) by norm_num, Real.exp_nat_mul,
    Real.exp_log (div_pos (by linarith) hq)]

/-- The decay between two positions, by their difference. -/
theorem decay_eq (lg : EReal) (i j : Fin 128) :
    (if 0 ≤ num i.val - num j.val then Ideal.exp (lg * max (num i.val - num j.val) 0) else 0) = decay lg i j := by
  rw [num_eq _ (by omega), num_eq _ (by omega), ← EReal.coe_sub]
  unfold decay
  by_cases hij : j.val ≤ i.val
  · have h0 : (0 : ℝ) ≤ (i.val : ℝ) - (j.val : ℝ) := sub_nonneg.mpr (by exact_mod_cast hij)
    rw [if_pos hij, if_pos (by exact_mod_cast h0), max_eq_left (by exact_mod_cast h0)]
  · have h0 : ¬(0 : ℝ) ≤ (i.val : ℝ) - (j.val : ℝ) := fun h => hij (by exact_mod_cast sub_nonneg.mp h)
    rw [if_neg hij, if_neg (by exact_mod_cast h0)]

theorem wk_eq (lg : EReal) (j : Fin 128) : Ideal.exp (lg * (Ideal.ofBits FTy.f32 0x42FE0000#32 - num j.val)) = wk lg j := by
  rw [num_eq _ (by omega), ofBits_127, ← EReal.coe_sub]; rfl

theorem wq_eq (lg : EReal) (i : Fin 128) : Ideal.exp (lg * (num i.val + 1)) = wq lg i := by
  rw [num_eq _ (by omega), ← EReal.coe_one, ← EReal.coe_add]; rfl

end Cert.Retention

end
-- ==== Proof.RefParts.lean ====
/-
  Retention's reference read at an index: its results are the outputs and the final states.
-/
module

public import proofs.«01_k».proof.Proof.Whole
public import proofs.«01_k».proof.Proof.Gen.ReferenceIdeal.Run

@[expose] public section

set_option maxRecDepth 65536
set_option maxHeartbeats 4000000

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic Idealize.SL.Sem
open Idealize.ShloMosaic.StableHlo
open Cert.Retention

/-- An array of the reference's, as a vector over the extended reals. -/
abbrev vec (s : Shape) (x : FVec Ideal s .f32) : FVec Ideal s .f32 := x

variable (V0 : Valuation τ sig (Elt Ideal))

/-- The projected activations, by batch, position and column. -/
def zin (b : Fin 8) (t : Fin 2048) (k : Fin 8192) : EReal :=
  (vec S8x2048x8192 (V0 (Proc.devRef .tc main_arg0))) (ix3 b t k)

/-- The gains. -/
def gin (k : Fin 512) : EReal := (vec S512 (V0 (Proc.devRef .tc main_arg1))) (ix1 k)

theorem v21_at (t : Fin 2048) (f : Fin 32) : (vec S2048x32 (res_main_v21 V0)) (ix2 t f) = ang t f := by
  unfold res_main_v21 res_main_v0
  pointwise
  rfl

theorem v55_at (t : Fin 2048) (f : Fin 32) : (vec S2048x32 (res_main_v55 V0)) (ix2 t f) = ang t f := by
  unfold res_main_v55 res_main_v0
  pointwise
  rfl

theorem v23_at (u v : Fin 1) (t : Fin 2048) (f : Fin 32) : (vec S1x2048x1x32 (res_main_v23 V0)) (ix4 u t v f) = Ideal.cos (ang t f) := by
  unfold res_main_v23
  pointwise
  rw [← v21_at V0]

theorem v25_at (u v : Fin 1) (t : Fin 2048) (f : Fin 32) : (vec S1x2048x1x32 (res_main_v25 V0)) (ix4 u t v f) = Ideal.sin (ang t f) := by
  unfold res_main_v25
  pointwise
  rw [← v21_at V0]

theorem v57_at (u v : Fin 1) (t : Fin 2048) (f : Fin 32) : (vec S1x2048x1x32 (res_main_v57 V0)) (ix4 u t v f) = Ideal.cos (ang t f) := by
  unfold res_main_v57
  pointwise
  rw [← v55_at V0]

theorem v59_at (u v : Fin 1) (t : Fin 2048) (f : Fin 32) : (vec S1x2048x1x32 (res_main_v59 V0)) (ix4 u t v f) = Ideal.sin (ang t f) := by
  unfold res_main_v59
  pointwise
  rw [← v55_at V0]

theorem v26_at (b : Fin 8) (t : Fin 2048) (h : Fin 4) (d : Fin 32) : (vec S8x2048x4x32 (res_main_v26 V0)) (ix4 b t h d)
    = zin V0 b t ⟨0 + 64 * h.val + d.val, by omega⟩ := by
  unfold res_main_v26 res_main_v5
  pointwise
  unfold zin
  pointwise
  congr 2; exact Fin.ext (by simp only; omega)

theorem v27_at (b : Fin 8) (t : Fin 2048) (h : Fin 4) (d : Fin 32) : (vec S8x2048x4x32 (res_main_v27 V0)) (ix4 b t h d)
    = zin V0 b t ⟨0 + 64 * h.val + (d.val + 32), by omega⟩ := by
  unfold res_main_v27 res_main_v5
  pointwise
  unfold zin
  pointwise
  congr 2; exact Fin.ext (by simp only; omega)

theorem v60_at (b : Fin 8) (t : Fin 2048) (h : Fin 4) (d : Fin 32) : (vec S8x2048x4x32 (res_main_v60 V0)) (ix4 b t h d)
    = zin V0 b t ⟨256 + 64 * h.val + d.val, by omega⟩ := by
  unfold res_main_v60 res_main_v39
  pointwise
  unfold zin
  pointwise
  congr 2; exact Fin.ext (by simp only; omega)

theorem v61_at (b : Fin 8) (t : Fin 2048) (h : Fin 4) (d : Fin 32) : (vec S8x2048x4x32 (res_main_v61 V0)) (ix4 b t h d)
    = zin V0 b t ⟨256 + 64 * h.val + (d.val + 32), by omega⟩ := by
  unfold res_main_v61 res_main_v39
  pointwise
  unfold zin
  pointwise
  congr 2; exact Fin.ext (by simp only; omega)

theorem pos_eq (c : Fin 16) (i : Fin 128) : (⟨c.val * 128 + i.val, by omega⟩ : Fin 2048) = pos c.val i :=
  Fin.ext (by unfold pos; simp only; omega)

theorem v84_at (b : Fin 8) (c : Fin 16) (i : Fin 128) (h : Fin 4) (d : Fin 64) :
    (vec S8x16x128x4x64 (res_main_v84 V0)) (ix5 b c i h d) = qG (zin V0) b h c.val i d := by
  unfold res_main_v84
  pointwise
  unfold qG rot
  congr 1
  split
  · rw [pos_eq]
    rw [show res_main_v26 V0 _ = _ from v26_at V0 _ _ _ _, show res_main_v27 V0 _ = _ from v27_at V0 _ _ _ _,
      show res_main_v23 V0 _ = _ from v23_at V0 _ _ _ _, show res_main_v25 V0 _ = _ from v25_at V0 _ _ _ _]
  · rw [pos_eq]
    rw [show res_main_v26 V0 _ = _ from v26_at V0 _ _ _ _, show res_main_v27 V0 _ = _ from v27_at V0 _ _ _ _,
      show res_main_v23 V0 _ = _ from v23_at V0 _ _ _ _, show res_main_v25 V0 _ = _ from v25_at V0 _ _ _ _]
    congr 3; exact Fin.ext (by simp only; omega)

theorem v85_at (b : Fin 8) (c : Fin 16) (i : Fin 128) (h : Fin 4) (d : Fin 64) :
    (vec S8x16x128x4x64 (res_main_v85 V0)) (ix5 b c i h d) = kG (zin V0) b h c.val i d := by
  unfold res_main_v85
  pointwise
  unfold kG rot
  split
  · rw [pos_eq]
    rw [show res_main_v60 V0 _ = _ from v60_at V0 _ _ _ _, show res_main_v61 V0 _ = _ from v61_at V0 _ _ _ _,
      show res_main_v57 V0 _ = _ from v57_at V0 _ _ _ _, show res_main_v59 V0 _ = _ from v59_at V0 _ _ _ _]
  · rw [pos_eq]
    rw [show res_main_v60 V0 _ = _ from v60_at V0 _ _ _ _, show res_main_v61 V0 _ = _ from v61_at V0 _ _ _ _,
      show res_main_v57 V0 _ = _ from v57_at V0 _ _ _ _, show res_main_v59 V0 _ = _ from v59_at V0 _ _ _ _]
    congr 3; exact Fin.ext (by simp only; omega)

theorem v86_at (b : Fin 8) (c : Fin 16) (i : Fin 128) (h : Fin 4) (d : Fin 128) :
    (vec S8x16x128x4x128 (res_main_v86 V0)) (ix5 b c i h d) = vG (zin V0) b h c.val i d := by
  unfold res_main_v86
  pointwise
  unfold vG zin
  rw [pos_eq]
  pointwise
  congr 2; exact Fin.ext (by simp only; omega)

theorem v81_at (h : Fin 4) : (vec S4 (res_main_v81 V0)) (ix1 h) = lgv h := by
  unfold res_main_v81
  pointwise
  exact lgv_eq h

theorem v87_at (i : Fin 128) : (vec S128 (res_main_v87 V0)) (ix1 i) = num i.val := by
  unfold res_main_v87
  pointwise
  rfl

theorem v92_at (i j : Fin 128) : (vec S128x128 (res_main_v92 V0)) (ix2 i j) = num i.val - num j.val := by
  unfold res_main_v92
  pointwise
  rw [show res_main_v87 V0 _ = _ from v87_at V0 i, show res_main_v87 V0 _ = _ from v87_at V0 j]

end Cert.ReferenceIdeal.Hand

end
-- ==== Proof.RefState.lean ====
/-
  The states of retention's reference, chunk by chunk.
-/
module

public import proofs.«01_k».proof.Proof.RefParts

@[expose] public section

set_option maxRecDepth 65536
set_option maxHeartbeats 4000000

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic Idealize.SL.Sem
open Idealize.ShloMosaic.StableHlo
open Cert.Retention

variable (V0 : Valuation τ sig (Elt Ideal))

theorem v121_eq : vec S8x16x4x64x128 (res_main_v121 V0) =
    Host.dotGeneral (φ₁ := .f32) (φ₂ := .f32) dot_S8x16x128x4x64_S8x16x128x4x128_S8x16x4x64x128_2_2_4_4_013_013 none (mulf (res_main_v85 V0) (broadcastInDim S8x16x128x4x64 ![0, 1, 2, 3, 4] bcast_S1x1x128x4x1_S8x16x128x4x64_0_1_2_3_4 (broadcastInDim S1x1x128x4x1 ![2, 3] bcast_S128x4_S1x1x128x4x1_2_3 (Host.exp (mulf (broadcastInDim S128x4 ![0, 1] bcast_S1x4_S128x4_0_1 (broadcastInDim S1x4 ![1] bcast_S4_S1x4_1 (res_main_v81 V0))) (broadcastInDim S128x4 ![0, 1] bcast_S128x1_S128x4_0_1 (broadcastInDim S128x1 ![0] bcast_S128_S128x1_0 (subf (broadcastInDim S128 ![] bcast_S_S128 (constant S_ .f32 0x42FE0000#32)) (res_main_v87 V0))))))))) (res_main_v86 V0) := rfl

theorem v121_at (b : Fin 8) (c : Fin 16) (h : Fin 4) (d : Fin 64) (e : Fin 128) :
    (vec S8x16x4x64x128 (res_main_v121 V0)) (ix5 b c h d e) = ∑ j : Fin 128, (kG (zin V0) b h c.val j d * wk (lgv h) j) * vG (zin V0) b h c.val j e := by
  rw [v121_eq]
  pointwise
  refine Finset.sum_congr rfl fun j _ => ?_
  rw [show res_main_v85 V0 _ = _ from v85_at V0 _ _ _ _ _, show res_main_v86 V0 _ = _ from v86_at V0 _ _ _ _ _,
    show res_main_v81 V0 _ = _ from v81_at V0 _, show res_main_v87 V0 _ = _ from v87_at V0 _, wk_eq]

theorem v125_at (u v w : Fin 1) (h : Fin 4) : (vec S1x4x1x1 (res_main_v125 V0)) (ix4 u h v w) = gcv h := by
  unfold res_main_v125
  pointwise
  rw [show res_main_v81 V0 _ = _ from v81_at V0 _, gcv_eq]

theorem v74_at (b : Fin 8) (h : Fin 4) (d : Fin 64) (e : Fin 128) :
    (vec S8x4x64x128 (res_main_v74 V0)) (ix4 b h d e) = stG (zin V0) b h 0 d e := by
  unfold res_main_v74
  pointwise
  rfl

theorem v130_at (b : Fin 8) (h : Fin 4) (d : Fin 64) (e : Fin 128) :
    (vec S8x4x64x128 (res_main_v130 V0)) (ix4 b h d e) = stG (zin V0) b h 1 d e := by
  unfold res_main_v130
  pointwise
  rw [show res_main_v125 V0 _ = _ from v125_at V0 _ _ _ _, show res_main_v74 V0 _ = _ from v74_at V0 _ _ _ _,
    show res_main_v121 V0 _ = _ from v121_at V0 _ _ _ _ _]
  rfl

theorem v135_at (b : Fin 8) (h : Fin 4) (d : Fin 64) (e : Fin 128) :
    (vec S8x4x64x128 (res_main_v135 V0)) (ix4 b h d e) = stG (zin V0) b h 2 d e := by
  unfold res_main_v135
  pointwise
  rw [show res_main_v125 V0 _ = _ from v125_at V0 _ _ _ _, show res_main_v130 V0 _ = _ from v130_at V0 _ _ _ _,
    show res_main_v121 V0 _ = _ from v121_at V0 _ _ _ _ _]
  rfl

theorem v140_at (b : Fin 8) (h : Fin 4) (d : Fin 64) (e : Fin 128) :
    (vec S8x4x64x128 (res_main_v140 V0)) (ix4 b h d e) = stG (zin V0) b h 3 d e := by
  unfold res_main_v140
  pointwise
  rw [show res_main_v125 V0 _ = _ from v125_at V0 _ _ _ _, show res_main_v135 V0 _ = _ from v135_at V0 _ _ _ _,
    show res_main_v121 V0 _ = _ from v121_at V0 _ _ _ _ _]
  rfl

theorem v145_at (b : Fin 8) (h : Fin 4) (d : Fin 64) (e : Fin 128) :
    (vec S8x4x64x128 (res_main_v145 V0)) (ix4 b h d e) = stG (zin V0) b h 4 d e := by
  unfold res_main_v145
  pointwise
  rw [show res_main_v125 V0 _ = _ from v125_at V0 _ _ _ _, show res_main_v140 V0 _ = _ from v140_at V0 _ _ _ _,
    show res_main_v121 V0 _ = _ from v121_at V0 _ _ _ _ _]
  rfl

theorem v150_at (b : Fin 8) (h : Fin 4) (d : Fin 64) (e : Fin 128) :
    (vec S8x4x64x128 (res_main_v150 V0)) (ix4 b h d e) = stG (zin V0) b h 5 d e := by
  unfold res_main_v150
  pointwise
  rw [show res_main_v125 V0 _ = _ from v125_at V0 _ _ _ _, show res_main_v145 V0 _ = _ from v145_at V0 _ _ _ _,
    show res_main_v121 V0 _ = _ from v121_at V0 _ _ _ _ _]
  rfl

theorem v155_at (b : Fin 8) (h : Fin 4) (d : Fin 64) (e : Fin 128) :
    (vec S8x4x64x128 (res_main_v155 V0)) (ix4 b h d e) = stG (zin V0) b h 6 d e := by
  unfold res_main_v155
  pointwise
  rw [show res_main_v125 V0 _ = _ from v125_at V0 _ _ _ _, show res_main_v150 V0 _ = _ from v150_at V0 _ _ _ _,
    show res_main_v121 V0 _ = _ from v121_at V0 _ _ _ _ _]
  rfl

theorem v160_at (b : Fin 8) (h : Fin 4) (d : Fin 64) (e : Fin 128) :
    (vec S8x4x64x128 (res_main_v160 V0)) (ix4 b h d e) = stG (zin V0) b h 7 d e := by
  unfold res_main_v160
  pointwise
  rw [show res_main_v125 V0 _ = _ from v125_at V0 _ _ _ _, show res_main_v155 V0 _ = _ from v155_at V0 _ _ _ _,
    show res_main_v121 V0 _ = _ from v121_at V0 _ _ _ _ _]
  rfl

theorem v165_at (b : Fin 8) (h : Fin 4) (d : Fin 64) (e : Fin 128) :
    (vec S8x4x64x128 (res_main_v165 V0)) (ix4 b h d e) = stG (zin V0) b h 8 d e := by
  unfold res_main_v165
  pointwise
  rw [show res_main_v125 V0 _ = _ from v125_at V0 _ _ _ _, show res_main_v160 V0 _ = _ from v160_at V0 _ _ _ _,
    show res_main_v121 V0 _ = _ from v121_at V0 _ _ _ _ _]
  rfl

theorem v170_at (b : Fin 8) (h : Fin 4) (d : Fin 64) (e : Fin 128) :
    (vec S8x4x64x128 (res_main_v170 V0)) (ix4 b h d e) = stG (zin V0) b h 9 d e := by
  unfold res_main_v170
  pointwise
  rw [show res_main_v125 V0 _ = _ from v125_at V0 _ _ _ _, show res_main_v165 V0 _ = _ from v165_at V0 _ _ _ _,
    show res_main_v121 V0 _ = _ from v121_at V0 _ _ _ _ _]
  rfl

theorem v175_at (b : Fin 8) (h : Fin 4) (d : Fin 64) (e : Fin 128) :
    (vec S8x4x64x128 (res_main_v175 V0)) (ix4 b h d e) = stG (zin V0) b h 10 d e := by
  unfold res_main_v175
  pointwise
  rw [show res_main_v125 V0 _ = _ from v125_at V0 _ _ _ _, show res_main_v170 V0 _ = _ from v170_at V0 _ _ _ _,
    show res_main_v121 V0 _ = _ from v121_at V0 _ _ _ _ _]
  rfl

theorem v180_at (b : Fin 8) (h : Fin 4) (d : Fin 64) (e : Fin 128) :
    (vec S8x4x64x128 (res_main_v180 V0)) (ix4 b h d e) = stG (zin V0) b h 11 d e := by
  unfold res_main_v180
  pointwise
  rw [show res_main_v125 V0 _ = _ from v125_at V0 _ _ _ _, show res_main_v175 V0 _ = _ from v175_at V0 _ _ _ _,
    show res_main_v121 V0 _ = _ from v121_at V0 _ _ _ _ _]
  rfl

theorem v185_at (b : Fin 8) (h : Fin 4) (d : Fin 64) (e : Fin 128) :
    (vec S8x4x64x128 (res_main_v185 V0)) (ix4 b h d e) = stG (zin V0) b h 12 d e := by
  unfold res_main_v185
  pointwise
  rw [show res_main_v125 V0 _ = _ from v125_at V0 _ _ _ _, show res_main_v180 V0 _ = _ from v180_at V0 _ _ _ _,
    show res_main_v121 V0 _ = _ from v121_at V0 _ _ _ _ _]
  rfl

theorem v190_at (b : Fin 8) (h : Fin 4) (d : Fin 64) (e : Fin 128) :
    (vec S8x4x64x128 (res_main_v190 V0)) (ix4 b h d e) = stG (zin V0) b h 13 d e := by
  unfold res_main_v190
  pointwise
  rw [show res_main_v125 V0 _ = _ from v125_at V0 _ _ _ _, show res_main_v185 V0 _ = _ from v185_at V0 _ _ _ _,
    show res_main_v121 V0 _ = _ from v121_at V0 _ _ _ _ _]
  rfl

theorem v195_at (b : Fin 8) (h : Fin 4) (d : Fin 64) (e : Fin 128) :
    (vec S8x4x64x128 (res_main_v195 V0)) (ix4 b h d e) = stG (zin V0) b h 14 d e := by
  unfold res_main_v195
  pointwise
  rw [show res_main_v125 V0 _ = _ from v125_at V0 _ _ _ _, show res_main_v190 V0 _ = _ from v190_at V0 _ _ _ _,
    show res_main_v121 V0 _ = _ from v121_at V0 _ _ _ _ _]
  rfl

theorem v200_at (b : Fin 8) (h : Fin 4) (d : Fin 64) (e : Fin 128) :
    (vec S8x4x64x128 (res_main_v200 V0)) (ix4 b h d e) = stG (zin V0) b h 15 d e := by
  unfold res_main_v200
  pointwise
  rw [show res_main_v125 V0 _ = _ from v125_at V0 _ _ _ _, show res_main_v195 V0 _ = _ from v195_at V0 _ _ _ _,
    show res_main_v121 V0 _ = _ from v121_at V0 _ _ _ _ _]
  rfl

/-- The state before chunk `n`, as the reference computes it. -/
def sts (n : Fin 16) : FVec Ideal S8x4x64x128 .f32 :=
  match n.val with
  | 0 => res_main_v74 V0
  | 1 => res_main_v130 V0
  | 2 => res_main_v135 V0
  | 3 => res_main_v140 V0
  | 4 => res_main_v145 V0
  | 5 => res_main_v150 V0
  | 6 => res_main_v155 V0
  | 7 => res_main_v160 V0
  | 8 => res_main_v165 V0
  | 9 => res_main_v170 V0
  | 10 => res_main_v175 V0
  | 11 => res_main_v180 V0
  | 12 => res_main_v185 V0
  | 13 => res_main_v190 V0
  | 14 => res_main_v195 V0
  | _ => res_main_v200 V0

theorem sts_at (c : Fin 16) (b : Fin 8) (h : Fin 4) (d : Fin 64) (e : Fin 128) :
    sts V0 c (ix4 b h d e) = stG (zin V0) b h c.val d e := by
  fin_cases c
  · exact v74_at V0 b h d e
  · exact v130_at V0 b h d e
  · exact v135_at V0 b h d e
  · exact v140_at V0 b h d e
  · exact v145_at V0 b h d e
  · exact v150_at V0 b h d e
  · exact v155_at V0 b h d e
  · exact v160_at V0 b h d e
  · exact v165_at V0 b h d e
  · exact v170_at V0 b h d e
  · exact v175_at V0 b h d e
  · exact v180_at V0 b h d e
  · exact v185_at V0 b h d e
  · exact v190_at V0 b h d e
  · exact v195_at V0 b h d e
  · exact v200_at V0 b h d e

end Cert.ReferenceIdeal.Hand

end
-- ==== Proof.RefCat.lean ====
/-
  The states of retention's reference side by side.
-/
module

public import proofs.«01_k».proof.Proof.RefState

@[expose] public section

set_option maxRecDepth 65536
set_option maxHeartbeats 4000000

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic Idealize.SL.Sem
open Idealize.ShloMosaic.StableHlo
open Cert.Retention

variable (V0 : Valuation τ sig (Elt Ideal))

/-- The states before each chunk, side by side. -/
def cat : FVec Ideal S8x16x4x64x128 .f32 :=
  concatenate S8x16x4x64x128 1 [⟨S8x1x4x64x128, broadcastInDim S8x1x4x64x128 ![0, 2, 3, 4] bcast_S8x4x64x128_S8x1x4x64x128_0_2_3_4 (sts V0 0)⟩, ⟨S8x1x4x64x128, broadcastInDim S8x1x4x64x128 ![0, 2, 3, 4] bcast_S8x4x64x128_S8x1x4x64x128_0_2_3_4 (sts V0 1)⟩, ⟨S8x1x4x64x128, broadcastInDim S8x1x4x64x128 ![0, 2, 3, 4] bcast_S8x4x64x128_S8x1x4x64x128_0_2_3_4 (sts V0 2)⟩, ⟨S8x1x4x64x128, broadcastInDim S8x1x4x64x128 ![0, 2, 3, 4] bcast_S8x4x64x128_S8x1x4x64x128_0_2_3_4 (sts V0 3)⟩, ⟨S8x1x4x64x128, broadcastInDim S8x1x4x64x128 ![0, 2, 3, 4] bcast_S8x4x64x128_S8x1x4x64x128_0_2_3_4 (sts V0 4)⟩, ⟨S8x1x4x64x128, broadcastInDim S8x1x4x64x128 ![0, 2, 3, 4] bcast_S8x4x64x128_S8x1x4x64x128_0_2_3_4 (sts V0 5)⟩, ⟨S8x1x4x64x128, broadcastInDim S8x1x4x64x128 ![0, 2, 3, 4] bcast_S8x4x64x128_S8x1x4x64x128_0_2_3_4 (sts V0 6)⟩, ⟨S8x1x4x64x128, broadcastInDim S8x1x4x64x128 ![0, 2, 3, 4] bcast_S8x4x64x128_S8x1x4x64x128_0_2_3_4 (sts V0 7)⟩, ⟨S8x1x4x64x128, broadcastInDim S8x1x4x64x128 ![0, 2, 3, 4] bcast_S8x4x64x128_S8x1x4x64x128_0_2_3_4 (sts V0 8)⟩, ⟨S8x1x4x64x128, broadcastInDim S8x1x4x64x128 ![0, 2, 3, 4] bcast_S8x4x64x128_S8x1x4x64x128_0_2_3_4 (sts V0 9)⟩, ⟨S8x1x4x64x128, broadcastInDim S8x1x4x64x128 ![0, 2, 3, 4] bcast_S8x4x64x128_S8x1x4x64x128_0_2_3_4 (sts V0 10)⟩, ⟨S8x1x4x64x128, broadcastInDim S8x1x4x64x128 ![0, 2, 3, 4] bcast_S8x4x64x128_S8x1x4x64x128_0_2_3_4 (sts V0 11)⟩, ⟨S8x1x4x64x128, broadcastInDim S8x1x4x64x128 ![0, 2, 3, 4] bcast_S8x4x64x128_S8x1x4x64x128_0_2_3_4 (sts V0 12)⟩, ⟨S8x1x4x64x128, broadcastInDim S8x1x4x64x128 ![0, 2, 3, 4] bcast_S8x4x64x128_S8x1x4x64x128_0_2_3_4 (sts V0 13)⟩, ⟨S8x1x4x64x128, broadcastInDim S8x1x4x64x128 ![0, 2, 3, 4] bcast_S8x4x64x128_S8x1x4x64x128_0_2_3_4 (sts V0 14)⟩, ⟨S8x1x4x64x128, broadcastInDim S8x1x4x64x128 ![0, 2, 3, 4] bcast_S8x4x64x128_S8x1x4x64x128_0_2_3_4 (sts V0 15)⟩]
    concatenates_S8x1x4x64x128_S8x1x4x64x128_S8x1x4x64x128_S8x1x4x64x128_S8x1x4x64x128_S8x1x4x64x128_S8x1x4x64x128_S8x1x4x64x128_S8x1x4x64x128_S8x1x4x64x128_S8x1x4x64x128_S8x1x4x64x128_S8x1x4x64x128_S8x1x4x64x128_S8x1x4x64x128_S8x1x4x64x128_S8x16x4x64x128_d1

theorem cat_at (b : Fin 8) (c : Fin 16) (h : Fin 4) (d : Fin 64) (e : Fin 128) :
    cat V0 (ix5 b c h d e) = stG (zin V0) b h c.val d e := by
  have h1 := concatenate_ofFn_unit_apply (t := S8x16x4x64x128) (s₁ := S8x1x4x64x128) 1
    (fun n : Fin 16 => broadcastInDim S8x1x4x64x128 ![0, 2, 3, 4] bcast_S8x4x64x128_S8x1x4x64x128_0_2_3_4 (sts V0 n))
    concatenates_S8x1x4x64x128_S8x1x4x64x128_S8x1x4x64x128_S8x1x4x64x128_S8x1x4x64x128_S8x1x4x64x128_S8x1x4x64x128_S8x1x4x64x128_S8x1x4x64x128_S8x1x4x64x128_S8x1x4x64x128_S8x1x4x64x128_S8x1x4x64x128_S8x1x4x64x128_S8x1x4x64x128_S8x1x4x64x128_S8x16x4x64x128_d1 rfl rfl (ix5 b c h d e) c rfl (ix5 b 0 h d e) (fun a ha => by
      fin_cases a
      · rfl
      · exact absurd rfl ha
      · rfl
      · rfl
      · rfl)
  refine Eq.trans ?_ (h1.trans ?_)
  · rfl
  · refine Eq.trans ?_ (sts_at V0 c b h d e)
    pointwise

end Cert.ReferenceIdeal.Hand

end
-- ==== Proof.RefValue.lean ====
/-
  Retention's reference read at an index: its results are the outputs and the final states.
-/
module

public import proofs.«01_k».proof.Proof.RefCat

@[expose] public section

set_option maxRecDepth 65536
set_option maxHeartbeats 4000000

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic Idealize.SL.Sem
open Idealize.ShloMosaic.StableHlo
open Cert.Retention

variable (V0 : Valuation τ sig (Elt Ideal))

theorem v236_eq : vec S8x16x128x4x128 (res_main_v236 V0) =
    addf (transpose S8x16x128x4x128 [0, 1, 4, 2, 3] (Host.dotGeneral (φ₁ := .f32) (φ₂ := .f32) dot_S8x16x128x4x128_S8x16x4x128x128_S8x16x4x128x128_2_4_4_3_013_012 none (res_main_v86 V0) (mulf (Host.dotGeneral (φ₁ := .f32) (φ₂ := .f32) dot_S8x16x128x4x64_S8x16x128x4x64_S8x16x4x128x128_4_4_2_2_013_013 none (res_main_v84 V0) (res_main_v85 V0)) (broadcastInDim S8x16x4x128x128 ![0, 1, 2, 3, 4] bcast_S1x1x4x128x128_S8x16x4x128x128_0_1_2_3_4 (broadcastInDim S1x1x4x128x128 ![2, 3, 4] bcast_S4x128x128_S1x1x4x128x128_2_3_4 (select (broadcastInDim S4x128x128 ![1, 2] bcast_S128x128_S4x128x128_1_2 (cmpf .oge (res_main_v92 V0) (broadcastInDim S128x128 ![] bcast_S_S128x128 (constant S_ .f32 0x00000000#32)))) (Host.exp (mulf (broadcastInDim S4x128x128 ![0, 1, 2] bcast_S4x1x1_S4x128x128_0_1_2 (broadcastInDim S4x1x1 ![0] bcast_S4_S4x1x1_0 (res_main_v81 V0))) (broadcastInDim S4x128x128 ![0, 1, 2] bcast_S1x128x128_S4x128x128_0_1_2 (broadcastInDim S1x128x128 ![1, 2] bcast_S128x128_S1x128x128_1_2 (maximumf (res_main_v92 V0) (broadcastInDim S128x128 ![] bcast_S_S128x128 (constant S_ .f32 0x00000000#32))))))) (broadcastInDim S4x128x128 ![] bcast_S_S4x128x128 (id (constant S_ .f32 0x00000000#32)))))))) transposes_S8x16x4x128x128_S8x16x128x4x128_0_1_4_2_3) (transpose S8x16x128x4x128 [0, 1, 4, 2, 3] (Host.dotGeneral (φ₁ := .f32) (φ₂ := .f32) dot_S8x16x4x64x128_S8x16x128x4x64_S8x16x4x128x128_3_4_4_2_012_013 none ((cat V0)) (mulf (res_main_v84 V0) (broadcastInDim S8x16x128x4x64 ![0, 1, 2, 3, 4] bcast_S1x1x128x4x1_S8x16x128x4x64_0_1_2_3_4 (broadcastInDim S1x1x128x4x1 ![2, 3] bcast_S128x4_S1x1x128x4x1_2_3 (Host.exp (mulf (broadcastInDim S128x4 ![0, 1] bcast_S1x4_S128x4_0_1 (broadcastInDim S1x4 ![1] bcast_S4_S1x4_1 (res_main_v81 V0))) (broadcastInDim S128x4 ![0, 1] bcast_S128x1_S128x4_0_1 (broadcastInDim S128x1 ![0] bcast_S128_S128x1_0 (addf (res_main_v87 V0) (broadcastInDim S128 ![] bcast_S_S128 (constant S_ .f32 0x3F800000#32))))))))))) transposes_S8x16x4x128x128_S8x16x128x4x128_0_1_4_2_3) := rfl

theorem v236_at (b : Fin 8) (c : Fin 16) (i : Fin 128) (h : Fin 4) (e : Fin 128) :
    (vec S8x16x128x4x128 (res_main_v236 V0)) (ix5 b c i h e)
      = out (lgv h) (qG (zin V0) b h c.val) (kG (zin V0) b h c.val) (vG (zin V0) b h c.val) (stG (zin V0) b h c.val) i e := by
  rw [v236_eq]
  pointwise
  unfold out
  congr 1
  · refine Finset.sum_congr rfl fun j _ => ?_
    rw [show res_main_v86 V0 _ = _ from v86_at V0 _ _ _ _ _, show res_main_v81 V0 _ = _ from v81_at V0 _,
      show res_main_v92 V0 _ = _ from v92_at V0 _ _, mul_comm]
    congr 1
    congr 1
    · refine Finset.sum_congr rfl fun d _ => ?_
      rw [show res_main_v84 V0 _ = _ from v84_at V0 _ _ _ _ _, show res_main_v85 V0 _ = _ from v85_at V0 _ _ _ _ _]
    · refine Eq.trans ?_ (decay_eq (lgv h) i j)
      congr 1
      show Ideal.ofBits .f32 0x00000000#32 = 0
      exact Ideal.ofBits_zero .f32
  · refine Finset.sum_congr rfl fun d _ => ?_
    rw [cat_at, show res_main_v84 V0 _ = _ from v84_at V0 _ _ _ _ _, show res_main_v81 V0 _ = _ from v81_at V0 _,
      show res_main_v87 V0 _ = _ from v87_at V0 _, wq_eq, mul_comm]

/-- The rows the group norm works on. -/
def row (b : Fin 8) (t : Fin 2048) (h : Fin 4) (e : Fin 128) : EReal :=
  out (lgv h) (qG (zin V0) b h (t.val / 128)) (kG (zin V0) b h (t.val / 128)) (vG (zin V0) b h (t.val / 128))
    (stG (zin V0) b h (t.val / 128)) ⟨t.val % 128, Nat.mod_lt _ (by decide)⟩ e

theorem v237_at (b : Fin 8) (t : Fin 2048) (h : Fin 4) (e : Fin 128) :
    (vec S8x2048x4x128 (res_main_v237 V0)) (ix4 b t h e) = row V0 b t h e := by
  unfold res_main_v237
  pointwise
  exact v236_at V0 b ⟨t.val / 128, by omega⟩ ⟨t.val % 128, Nat.mod_lt _ (by decide)⟩ h e

theorem v241_at (b : Fin 8) (t : Fin 2048) (h : Fin 4) (u : Fin 1) :
    (vec S8x2048x4x1 (res_main_v241 V0)) (ix4 b t h u) = mean (row V0 b t h) := by
  unfold res_main_v241
  pointwise
  unfold mean
  congr 1
  exact Finset.sum_congr rfl fun e _ => v237_at V0 b t h e

theorem v243_at (b : Fin 8) (t : Fin 2048) (h : Fin 4) (e : Fin 128) :
    (vec S8x2048x4x128 (res_main_v243 V0)) (ix4 b t h e) = cen (row V0 b t h) e := by
  unfold res_main_v243
  pointwise
  rw [show res_main_v237 V0 _ = _ from v237_at V0 _ _ _ _, show res_main_v241 V0 _ = _ from v241_at V0 _ _ _ _]
  rfl

end Cert.ReferenceIdeal.Hand

end
-- ==== Proof.IdealVec.lean ====
/-
  The vector formulas of one head of the retention kernel, and what each is at an index over the
  extended reals.
-/
module

public import proofs.«01_k».proof.Proof.Gen.KernelIdeal.Skeleton
public import Idealize.ShloMosaic.Lib.Pointwise
public import proofs.«01_k».proof.Proof.Spec

@[expose] public section

set_option maxRecDepth 16384

noncomputable section

namespace Cert.KernelIdeal.Hand

open Cert.KernelIdeal.Gen
open Idealize.ShloMosaic Idealize.ShloMosaic.TcCoe Idealize.SL.Sem

/-- The rotary embedding of a 128 × 256 block: four heads of 64 lanes side by side. -/
def vRope (z cos sin : FVec Ideal S128x256 .f32) : FVec Ideal S128x256 .f32 :=
  addf (mulf z cos) (mulf (select k0_pay2 (dynamicRotate 1 224#32 none z rotates_S128x256_d1)
    (dynamicRotate 1 32#32 none z rotates_S128x256_d1)) sin)

/-- The decay of a score by the distance between its positions, zero above the diagonal. -/
def vDecay (lg : Ideal .f32) : FVec Ideal S128x128 .f32 :=
  select k0_pay8 (exp (mulf (broadcast S128x128 lg) k0_pay7)) (broadcast S128x128 (Scalar.ofBits .f32 0x00000000#32))

/-- The weight of the carried state in row `i`. -/
def vWq (lg : Ideal .f32) : FVec Ideal S128x1 .f32 :=
  exp (mulf (broadcast S128x1 lg) (addf k0_pay5 (broadcast S128x1 (Scalar.ofBits .f32 0x3F800000#32))))

/-- The weight of row `i` in the next state. -/
def vWk (lg : Ideal .f32) : FVec Ideal S128x1 .f32 :=
  exp (mulf (broadcast S128x1 lg) (subf (broadcast S128x1 (Scalar.ofBits .f32 0x42FE0000#32)) k0_pay5))

/-- The rows of a key block that hold positions: all of them. -/
def vK (kp : FVec Ideal S128x128 .f32) : FVec Ideal S128x128 .f32 :=
  select (broadcastTo S128x128 (shapeCast S128x1 k0_pay6 shapeCasts_S128x1_S128x1) broadcasts_S128x1_S128x128) kp
    (broadcast S128x128 (Scalar.ofBits .f32 0x00000000#32))

/-- A block with its lanes outside a mask cleared. -/
def vMask (m : IVec S128x128 1) (q : FVec Ideal S128x128 .f32) : FVec Ideal S128x128 .f32 :=
  select m q (broadcast S128x128 (Scalar.ofBits .f32 0x00000000#32))

/-- One head's output before normalisation. -/
def vO (lg : Ideal .f32) (q k v S : FVec Ideal S128x128 .f32) : FVec Ideal S128x128 .f32 :=
  addf
    (matmul dot_S128x128_S128x128_S128x128_1_0_0_1_n_n none
      (truncf .bf16 (mulf (matmul dot_S128x128_S128x128_S128x128_1_1_0_0_n_n none (truncf .bf16 q bitsLt_bf16_f32)
        (truncf .bf16 k bitsLt_bf16_f32) (constant S128x128 .f32 0x00000000#32)) (vDecay lg)) bitsLt_bf16_f32)
      (truncf .bf16 v bitsLt_bf16_f32) (constant S128x128 .f32 0x00000000#32))
    (matmul dot_S128x128_S128x128_S128x128_1_0_0_1_n_n none
      (truncf .bf16 (mulf q (broadcastTo S128x128 (vWq lg) broadcasts_S128x1_S128x128)) bitsLt_bf16_f32)
      (truncf .bf16 S bitsLt_bf16_f32) (constant S128x128 .f32 0x00000000#32))

/-- The mean over the lanes of each row. -/
def vMean (o : FVec Ideal S128x128 .f32) : FVec Ideal S128x1 .f32 :=
  divf (shapeCast S128x1 (multiReduction .add [1] S128 o 0x00000000#32 reduces_S128x128_S128 (.inl rfl) rfl) shapeCasts_S128_S128x1)
    (broadcast S128x1 (Scalar.ofBits .f32 0x43000000#32))

/-- A block less the means of its rows. -/
def vCen (o : FVec Ideal S128x128 .f32) : FVec Ideal S128x128 .f32 :=
  subf o (broadcastTo S128x128 (vMean o) broadcasts_S128x1_S128x128)

/-- The group norm of a block, times its gain and its gate. -/
def vNorm (o gate : FVec Ideal S128x128 .f32) (gn : FVec Ideal S1x128 .f32) : FVec Ideal S1x128x128 .bf16 :=
  shapeCast S1x128x128 (truncf .bf16 (mulf (mulf
    (mulf (vCen o) (broadcastTo S128x128 (rsqrt (addf (vMean (mulf (vCen o) (vCen o)))
      (broadcast S128x1 (Scalar.ofBits .f32 0x358637BD#32)))) broadcasts_S128x1_S128x128))
    (broadcastTo S128x128 (shapeCast S1x128 gn shapeCasts_S1x128_S1x128) broadcasts_S1x128_S128x128))
    (mulf gate (logistic gate))) bitsLt_bf16_f32) shapeCasts_S128x128_S1x128x128

/-- What one chunk adds to the state of a head. -/
def vDs (lg : Ideal .f32) (k v : FVec Ideal S128x128 .f32) : FVec Ideal S128x128 .f32 :=
  matmul dot_S128x128_S128x128_S128x128_0_0_1_1_n_n none
    (truncf .bf16 (mulf k (broadcastTo S128x128 (vWk lg) broadcasts_S128x1_S128x128)) bitsLt_bf16_f32)
    (truncf .bf16 v bitsLt_bf16_f32) (constant S128x128 .f32 0x00000000#32)

/-- The rows of a pair's state that belong to its first head. -/
def vRlo : IVec S128x128 1 := k0_pay10 (iota .tc S128x128 32 [0] iota_S128x128_d0_w32)

/-- The next state of a pair of heads. -/
def vS (lg0 lg1 g0 g1 : Ideal .f32) (k v0 v1 S : FVec Ideal S128x128 .f32) : FVec Ideal S1x128x128 .f32 :=
  shapeCast S1x128x128 (addf (mulf (select vRlo (broadcast S128x128 g0) (broadcast S128x128 g1)) S)
    (select vRlo (vDs lg0 k v0) (vDs lg1 k v1))) shapeCasts_S128x128_S1x128x128

/-! ### At an index -/

open Cert.Retention

/-- The rotary embedding at row `i`, lane `c`. -/
def sRope (z cos sin : Fin 128 → Fin 256 → EReal) (i : Fin 128) (c : Fin 256) : EReal :=
  z i c * cos i c + (if c.val % 64 < 32 then z i ⟨(c.val + 32) % 256, Nat.mod_lt _ (by decide)⟩
    else z i ⟨(c.val + 224) % 256, Nat.mod_lt _ (by decide)⟩) * sin i c

theorem pay2_at (i : Fin 128) (c : Fin 256) :
    (k0_pay2 : IVec S128x256 1) (ix2 i c) = if c.val % 64 < 32 then 1#1 else 0#1 := by
  pointwise [k0_pay2]
  revert c; decide +kernel

theorem vRope_at (z cos sin : FVec Ideal S128x256 .f32) (i : Fin 128) (c : Fin 256) :
    vRope z cos sin (ix2 i c) = sRope (fun a b => z (ix2 a b)) (fun a b => cos (ix2 a b)) (fun a b => sin (ix2 a b)) i c := by
  unfold vRope sRope
  pointwise [pay2_at]
  have h1 : (⟨(c.val + 256 - 224) % 256, Nat.mod_lt _ (by decide)⟩ : Fin 256) = ⟨(c.val + 32) % 256, Nat.mod_lt _ (by decide)⟩ :=
    Fin.ext (by simp)
  have h2 : (⟨(c.val + 256 - 32) % 256, Nat.mod_lt _ (by decide)⟩ : Fin 256) = ⟨(c.val + 224) % 256, Nat.mod_lt _ (by decide)⟩ :=
    Fin.ext (by simp)
  rw [h1, h2]
  by_cases h : c.val % 64 < 32
  · simp only [if_pos h]; rfl
  · simp only [if_neg h]; rfl

theorem sge_at (i j : Fin 128) :
    IntOp.cmpi CmpIPredicate.sge (BitVec.ofNat 32 i.val) (BitVec.ofNat 32 j.val) = if j.val ≤ i.val then 1#1 else 0#1 := by
  revert i j; decide +kernel

theorem dist_at (i j : Fin 128) (h : j.val ≤ i.val) :
    IntOp.maxsi (IntOp.subi (BitVec.ofNat 32 i.val) (BitVec.ofNat 32 j.val)) 0#32 = BitVec.ofNat 32 (i.val - j.val) := by
  revert i j; decide +kernel

theorem vDecay_at (lg : Ideal .f32) (i j : Fin 128) : vDecay lg (ix2 i j) = decay lg i j := by
  pointwise [vDecay, k0_pay8, k0_pay7]
  rw [sge_at]
  unfold decay
  by_cases h : j.val ≤ i.val
  · rw [if_pos h, if_pos h, dist_at i j h, sitofp_nat _ (by omega), Nat.cast_sub h]; rfl
  · rw [if_neg h, if_neg h]; rfl

theorem vWq_at (lg : Ideal .f32) (i : Fin 128) (u : Fin 1) : vWq lg (ix2 i u) = wq lg i := by
  pointwise [vWq, k0_pay5]
  rw [sitofp_nat _ (by omega)]
  unfold wq
  rw [EReal.coe_add]; rfl

theorem vWk_at (lg : Ideal .f32) (i : Fin 128) (u : Fin 1) : vWk lg (ix2 i u) = wk lg i := by
  pointwise [vWk, k0_pay5]
  rw [sitofp_nat _ (by omega), ofBits_127]
  unfold wk
  rw [EReal.coe_sub]

theorem vK_at (kp : FVec Ideal S128x128 .f32) : vK kp = kp := by
  funext j; idx_vars j
  pointwise [vK, k0_pay6]
  rw [show IntOp.cmpi CmpIPredicate.slt (BitVec.ofNat 32 j0.val) 128#32 = 1#1 from by revert j0; decide +kernel]
  rfl

theorem slt64_at (i : Fin 128) :
    IntOp.cmpi CmpIPredicate.slt (BitVec.ofNat 32 i.val) 64#32 = if i.val < 64 then 1#1 else 0#1 := by
  revert i; decide +kernel

theorem vRlo_at (i j : Fin 128) : vRlo (ix2 i j) = if i.val < 64 then 1#1 else 0#1 := by
  pointwise [vRlo, k0_pay10]
  exact slt64_at i

theorem vMask_lo (q : FVec Ideal S128x128 .f32) (i d : Fin 128) :
    vMask k0_pay9 q (ix2 i d) = if d.val < 64 then q (ix2 i d) else 0 := by
  pointwise [vMask, k0_pay9]
  rw [slt64_at]
  by_cases h : d.val < 64
  · rw [if_pos h, if_pos h]; rfl
  · rw [if_neg h, if_neg h]; rfl

theorem vMask_hi (q : FVec Ideal S128x128 .f32) (i d : Fin 128) :
    vMask (xori k0_pay9 (constantI S128x128 1 1#1)) q (ix2 i d) = if d.val < 64 then 0 else q (ix2 i d) := by
  pointwise [vMask, k0_pay9]
  rw [slt64_at]
  by_cases h : d.val < 64
  · rw [if_pos h, if_pos h]; rfl
  · rw [if_neg h, if_neg h]; rfl

theorem vO_at (lg : Ideal .f32) (q k v S : FVec Ideal S128x128 .f32) (i e : Fin 128) :
    vO lg q k v S (ix2 i e) = ∑ j : Fin 128, ((∑ d : Fin 128, q (ix2 i d) * k (ix2 j d)) * decay lg i j) * v (ix2 j e)
      + ∑ d : Fin 128, (q (ix2 i d) * wq lg i) * S (ix2 d e) := by
  unfold vO
  pointwise [vDecay_at, vWq_at]

theorem ite_zero_mul' {c : Prop} [Decidable c] (x y : EReal) : (if c then x else 0) * y = if c then x * y else 0 := by
  split <;> simp

theorem zero_ite_mul {c : Prop} [Decidable c] (x y : EReal) : (if c then 0 else x) * y = if c then 0 else x * y := by
  split <;> simp

/-- The first head of a pair: its lanes are the first 64 of the pair's. -/
theorem vO_lo (lg : Ideal .f32) (q k v S : FVec Ideal S128x128 .f32) (i e : Fin 128) :
    vO lg (vMask k0_pay9 q) (vK k) v S (ix2 i e)
      = out lg (fun i d => q (ix2 i ⟨d.val, by omega⟩)) (fun j d => k (ix2 j ⟨d.val, by omega⟩)) (fun j e => v (ix2 j e))
          (fun d e => S (ix2 ⟨d.val, by omega⟩ e)) i e := by
  rw [vO_at, vK_at]
  unfold out
  simp only [vMask_lo, ite_zero_mul' _ (wq lg i), sum_lo]

/-- The second head: the last 64. -/
theorem vO_hi (lg : Ideal .f32) (q k v S : FVec Ideal S128x128 .f32) (i e : Fin 128) :
    vO lg (vMask (xori k0_pay9 (constantI S128x128 1 1#1)) q) (vK k) v S (ix2 i e)
      = out lg (fun i d => q (ix2 i ⟨64 + d.val, by omega⟩)) (fun j d => k (ix2 j ⟨64 + d.val, by omega⟩)) (fun j e => v (ix2 j e))
          (fun d e => S (ix2 ⟨64 + d.val, by omega⟩ e)) i e := by
  rw [vO_at, vK_at]
  unfold out
  simp only [vMask_hi, zero_ite_mul _ (wq lg i), sum_hi]

theorem vMean_at (o : FVec Ideal S128x128 .f32) (i : Fin 128) (u : Fin 1) :
    vMean o (ix2 i u) = mean fun e => o (ix2 i e) := by
  pointwise [vMean]; rfl

theorem vCen_at (o : FVec Ideal S128x128 .f32) (i e : Fin 128) :
    vCen o (ix2 i e) = cen (fun e => o (ix2 i e)) e := by
  pointwise [vCen, vMean_at]; rfl

theorem vNorm_at (o gate : FVec Ideal S128x128 .f32) (gn : FVec Ideal S1x128 .f32) (u : Fin 1) (i e : Fin 128) :
    vNorm o gate gn (ix3 u i e) = norm (fun e => o (ix2 i e)) (fun e => gn (ix2 0 e)) (fun e => gate (ix2 i e)) e := by
  pointwise [vNorm, vMean_at, vCen_at]; rfl

theorem vDs_at (lg : Ideal .f32) (k v : FVec Ideal S128x128 .f32) (d e : Fin 128) :
    vDs lg k v (ix2 d e) = ∑ j : Fin 128, (k (ix2 j d) * wk lg j) * v (ix2 j e) := by
  unfold vDs
  pointwise [vWk_at]

/-- A pair's next state in the rows of its first head. -/
theorem vS_lo (lg0 lg1 g0 g1 : Ideal .f32) (k v0 v1 S : FVec Ideal S128x128 .f32) (u : Fin 1) (d : Fin 64) (e : Fin 128) :
    vS lg0 lg1 g0 g1 (vK k) v0 v1 S (ix3 u ⟨d.val, by omega⟩ e)
      = next lg0 g0 (fun j d => k (ix2 j ⟨d.val, by omega⟩)) (fun j e => v0 (ix2 j e)) (fun d e => S (ix2 ⟨d.val, by omega⟩ e)) d e := by
  rw [vK_at]
  pointwise [vS, vRlo_at, vDs_at]
  rfl

/-- and in the rows of its second. -/
theorem vS_hi (lg0 lg1 g0 g1 : Ideal .f32) (k v0 v1 S : FVec Ideal S128x128 .f32) (u : Fin 1) (d : Fin 64) (e : Fin 128) :
    vS lg0 lg1 g0 g1 (vK k) v0 v1 S (ix3 u ⟨64 + d.val, by omega⟩ e)
      = next lg1 g1 (fun j d => k (ix2 j ⟨64 + d.val, by omega⟩)) (fun j e => v1 (ix2 j e)) (fun d e => S (ix2 ⟨64 + d.val, by omega⟩ e)) d e := by
  rw [vK_at]
  pointwise [vS, vRlo_at, vDs_at]
  rfl

end Cert.KernelIdeal.Hand

end
-- ==== Proof.IdealLoads.lean ====
/-
  What the retention kernel's loads read of the blocks it is given: a sequence's columns of the
  projected activations, a pair's plane of the carried state, a head's gains.
-/
module

public import proofs.«01_k».proof.Proof.IdealBody
public import proofs.«01_k».proof.Proof.IdealVec
public import Idealize.ShloMosaic.Lib.WholeRead

@[expose] public section

set_option maxRecDepth 16384

noncomputable section

namespace Cert.KernelIdeal.Hand

open Cert.KernelIdeal.Gen
open Idealize.ShloMosaic Idealize.ShloMosaic.TcCoe Idealize.SL.Sem

/-- Sequence `g`'s `n` columns from `off` on. -/
def zblk (n : ℕ) (x0 : Vec Ideal S4x128x1536 .f32) (g off : ℕ) (hg : g < 4) (ho : off + n ≤ 1536) :
    (⟨2, ![128, n]⟩ : Shape).Idx → EReal :=
  fun x => x0 (ix3 ⟨g, hg⟩ (x 0) ⟨off + (x 1).val, lt_of_lt_of_le (Nat.add_lt_add_left (x 1).isLt off) ho⟩)

theorem zblk_eq (n : ℕ) (arg2 : Memref sig .tc .vmem S4x128x1536 .f32) (harg2 : arg2.IsWhole)
    (x0 : Vec Ideal S4x128x1536 .f32) (g off : ℕ) (hg : g < 4) (ho : off + n ≤ 1536)
    (h1 : _) (h2 : _) (h3 : _) (h4 : _) (h5 : _) (hR : _) :
    zblk n x0 g off hg ho
      = LoadRect.valAlong (lr := (Rect.unit (s := S128x1536) ![0, off] ![128, n] h2).toLoadRect) hR
          (View.readAt (Elt Ideal) arg2.view ((Rect.unit (s := S4x128x1536) ![g, 0, 0] S1x128x1536.size h1).withinL
            ((Rect.unit (s := S128x1536) ![0, off] ![128, n] h2).toLoadRect.consLift ![1, 128, 1536] h3 h4) h5) (harg2.unread x0)) := by
  funext x
  show _ = View.readAt _ _ _ _ (Shape.reshapeEquiv hR x)
  rw [harg2.readAt_unread]
  have hx : Shape.reshapeEquiv hR x = Fin.cons ⟨0, Nat.one_pos⟩ x := Shape.reshapeEquiv_cons_one (d := ![128, n]) _ _
  rw [hx]
  show x0 _ = x0 _
  congr 1
  funext a
  match a with
  | ⟨0, _⟩ => exact Fin.ext (show g = (g + 1 * 0) + 1 * 0 by omega)
  | ⟨1, _⟩ => exact Fin.ext (show (x 0).val = (0 + 1 * 0) + 1 * (x 0).val by omega)
  | ⟨2, _⟩ => exact Fin.ext (show off + (x 1).val = (0 + off) + 1 * (x 1).val by omega)

/-- Pair `p`'s plane of sequence `g`'s state. -/
def sblk (s : Vec Ideal S4x2x128x128 .f32) (g : Fin 4) (p : Fin 2) : Vec Ideal S1x128x128 .f32 :=
  fun x => s (ix4 g p (x 1) (x 2))

theorem sblk_eq (arg9 : Memref sig .tc .vmem S4x2x128x128 .f32) (harg9 : arg9.IsWhole)
    (s : Vec Ideal S4x2x128x128 .f32) (g p : ℕ) (hg : g < 4) (hp : p < 2)
    (h1 : _) (h2 : _) (h3 : _) (h4 : _) (h5 : _) (hR : _) :
    sblk s ⟨g, hg⟩ ⟨p, hp⟩
      = LoadRect.valAlong (lr := (Rect.unit (s := S2x128x128) ![p, 0, 0] S1x128x128.size h2).toLoadRect) hR
          (View.readAt (Elt Ideal) arg9.view ((Rect.unit (s := S4x2x128x128) ![g, 0, 0, 0] S1x2x128x128.size h1).withinL
            ((Rect.unit (s := S2x128x128) ![p, 0, 0] S1x128x128.size h2).toLoadRect.consLift ![1, 2, 128, 128] h3 h4) h5) (harg9.unread s)) := by
  funext x
  show _ = View.readAt _ _ _ _ (Shape.reshapeEquiv hR x)
  rw [harg9.readAt_unread]
  have hx : Shape.reshapeEquiv hR x = Fin.cons ⟨0, Nat.one_pos⟩ x := Shape.reshapeEquiv_cons_one (d := S1x128x128.size) _ _
  rw [hx]
  show s _ = s _
  congr 1
  funext a
  have h0 : (x 0).val < 1 := (x 0).isLt
  match a with
  | ⟨0, _⟩ => exact Fin.ext (show g = (g + 1 * 0) + 1 * 0 by omega)
  | ⟨1, _⟩ => exact Fin.ext (show p = (0 + p) + 1 * (x 0).val by omega)
  | ⟨2, _⟩ => exact Fin.ext (show (x 1).val = (0 + 1 * 0) + 1 * (x 1).val by omega)
  | ⟨3, _⟩ => exact Fin.ext (show (x 2).val = (0 + 1 * 0) + 1 * (x 2).val by omega)

/-- A table loaded whole. -/
theorem table_eq (arg3 : Memref sig .tc .vmem S128x256 .f32) (harg3 : arg3.IsWhole) (x1 : Vec Ideal S128x256 .f32) (h : _) (hs : _) :
    x1 = shapeCast S128x256 (View.readAt (Elt Ideal) arg3.view (Rect.unit (s := S128x256) ![0, 0] S128x256.size h).toLoadRect (harg3.unread x1)) hs := by
  funext j
  idx_vars j
  pointwise
  rw [harg3.readAt_unread]
  congr 1
  funext a
  match a with
  | ⟨0, _⟩ => exact Fin.ext (show j0.val = 0 + 1 * j0.val by omega)
  | ⟨1, _⟩ => exact Fin.ext (show j1.val = 0 + 1 * j1.val by omega)

/-- What the body stores into the carried state at a group's first chunk is the initial state. -/
theorem init_eq (c : Dev nD) (arg6 : Memref sig .tc .vmem S4x2x128x128 .f32) (harg6 : arg6.IsWhole) (x4 : Vec Ideal S4x2x128x128 .f32) :
    bodyRun.sl.v1394 c arg6 harg6 x4 = x4 := by
  funext j
  idx_vars j
  pointwise [bodyRun.sl.v1394, bodyRun.sl.v1391]
  rw [harg6.readAt_unread]
  congr 1
  funext a
  match a with
  | ⟨0, _⟩ => exact Fin.ext (show 0 + 1 * j0.val = j0.val by omega)
  | ⟨1, _⟩ => exact Fin.ext (show 0 + 1 * j1.val = j1.val by omega)
  | ⟨2, _⟩ => exact Fin.ext (show 0 + 1 * j2.val = j2.val by omega)
  | ⟨3, _⟩ => exact Fin.ext (show 0 + 1 * j3.val = j3.val by omega)

/-- So the body works on: the initial state at a group's first chunk, the carried one at the others. -/
theorem scratch_eq (c : Dev nD) (arg6 : Memref sig .tc .vmem S4x2x128x128 .f32) (harg6 : arg6.IsWhole)
    (arg9 : Memref sig .tc .vmem S4x2x128x128 .f32) (harg9 : arg9.IsWhole)
    (x4 xs : Vec Ideal S4x2x128x128 .f32) (P : Prop) [Decidable P] (h : _) :
    harg9.unread (if P then x4 else xs)
      = (if hc : P then arg9.view.writes (Elt Ideal) (harg9.unread xs)
          [⟨Rect.unit (s := S4x2x128x128) ![0, 0, 0, 0] S4x2x128x128.size h, bodyRun.sl.v1394 c arg6 harg6 x4⟩] else harg9.unread xs) := by
  by_cases hP : P
  · rw [if_pos hP, dif_pos hP]
    refine (harg9.eq_unread ?_).symm
    rw [init_eq]
    exact View.read_writes_full _ _ _ _ _
  · rw [if_neg hP, dif_neg hP]

/-- Head `h`'s gains. -/
def gblk (x3 : Vec Ideal S1x512 .f32) (off : ℕ) (ho : off + 128 ≤ 512) : Vec Ideal S1x128 .f32 :=
  fun x => x3 (ix2 0 ⟨off + (x 1).val, lt_of_lt_of_le (Nat.add_lt_add_left (x 1).isLt off) ho⟩)

theorem gblk_eq (arg5 : Memref sig .tc .vmem S1x512 .f32) (harg5 : arg5.IsWhole) (x3 : Vec Ideal S1x512 .f32) (off : ℕ)
    (ho : off + 128 ≤ 512) (h : _) :
    gblk x3 off ho = View.readAt (Elt Ideal) arg5.view (Rect.unit (s := S1x512) ![0, off] S1x128.size h).toLoadRect (harg5.unread x3) := by
  funext x
  rw [harg5.readAt_unread]
  unfold gblk
  congr 1
  funext a
  match a with
  | ⟨0, _⟩ => exact Fin.ext (by have : (x 0).val < 1 := (x 0).isLt; show 0 = 0 + 1 * (x 0).val; omega)
  | ⟨1, _⟩ => exact Fin.ext (by show off + (x 1).val = off + 1 * (x 1).val; omega)

end Cert.KernelIdeal.Hand

end
-- ==== Proof.IdealPieces.lean ====
/-
  The pieces one grid point of the retention kernel stores, each named as one head's (or one pair's)
  vector formula of the blocks the point is given.
-/
module

public import proofs.«01_k».proof.Proof.IdealLoads

@[expose] public section

set_option maxRecDepth 65536
set_option maxHeartbeats 4000000

noncomputable section

namespace Cert.KernelIdeal.Hand

open Cert.KernelIdeal.Gen
open Idealize.ShloMosaic Idealize.ShloMosaic.TcCoe Idealize.ShloMosaic.Tactic Idealize.SL.Sem

/-- The logarithm of head `h`'s decay rate, as the kernel names it. -/
def lgc (h : Fin 4) : Ideal .f32 :=
  match h with
  | 0 => Named.named κ "log_g0" 0xBD020AEC#32
  | 1 => Named.named κ "log_g1" 0xBC8102B3#32
  | 2 => Named.named κ "log_g2" 0xBC0080AC#32
  | 3 => Named.named κ "log_g3" 0xBB80402B#32

/-- Head `h`'s decay over a whole chunk, as the kernel names it. -/
def gcc (h : Fin 4) : Ideal .f32 :=
  match h with
  | 0 => Named.named κ "g_chunk0" 0x3C8CC36A#32
  | 1 => Named.named κ "g_chunk1" 0x3E08698E#32
  | 2 => Named.named κ "g_chunk2" 0x3EBB9DB9#32
  | 3 => Named.named κ "g_chunk3" 0x3F1B1EB1#32

/-- The 128 lanes of pair `p`. -/
def pairOf (p : Fin 2) (z : FVec Ideal S128x256 .f32) : FVec Ideal S128x128 .f32 :=
  match p with
  | 0 => extractStridedSlice S128x128 ![0, 0] z slices_S128x256_o0_0_S128x128
  | 1 => extractStridedSlice S128x128 ![0, 128] z slices_S128x256_o0_128_S128x128

/-- The lanes of the pair that belong to its head `e`. -/
def headMask (e : Fin 2) : IVec S128x128 1 :=
  match e with
  | 0 => k0_pay9
  | 1 => xori k0_pay9 (constantI S128x128 1 1#1)

/-- The queries, rotated and scaled. -/
def vRopeQ (z cos sin : FVec Ideal S128x256 .f32) : FVec Ideal S128x256 .f32 :=
  mulf (vRope z cos sin) (broadcast S128x256 (Scalar.ofBits .f32 0x3E000000#32))

/-- One head's part of the output block, from the loads it is made of. -/
def oForm (lg : Ideal .f32) (e p : Fin 2) (zq zk cos sin : FVec Ideal S128x256 .f32) (zv zg : FVec Ideal S128x128 .f32)
    (S : FVec Ideal S1x128x128 .f32) (gn : FVec Ideal S1x128 .f32) : FVec Ideal S1x128x128 .bf16 :=
  vNorm (vO lg (vMask (headMask e) (pairOf p (vRopeQ zq cos sin))) (vK (pairOf p (vRope zk cos sin))) zv
    (shapeCast S128x128 S shapeCasts_S1x128x128_S128x128)) zg gn

theorem oForm_congr (lg : Ideal .f32) (e p : Fin 2) {zq zk cos sin zq' zk' cos' sin' : FVec Ideal S128x256 .f32}
    {zv zg zv' zg' : FVec Ideal S128x128 .f32} {S S' : FVec Ideal S1x128x128 .f32} {gn gn' : FVec Ideal S1x128 .f32}
    (hq : zq = zq') (hk : zk = zk') (hc : cos = cos') (hs : sin = sin') (hv : zv = zv') (hg : zg = zg') (hS : S = S') (hn : gn = gn') :
    oForm lg e p zq' zk' cos' sin' zv' zg' S' gn' = oForm lg e p zq zk cos sin zv zg S gn := by
  subst hq hk hc hs hv hg hS hn; rfl

/-- One pair's part of the state, from the loads it is made of. -/
def sForm (lg0 lg1 g0 g1 : Ideal .f32) (p : Fin 2) (zk cos sin : FVec Ideal S128x256 .f32) (zv0 zv1 : FVec Ideal S128x128 .f32)
    (S : FVec Ideal S1x128x128 .f32) : FVec Ideal S1x128x128 .f32 :=
  vS lg0 lg1 g0 g1 (vK (pairOf p (vRope zk cos sin))) zv0 zv1 (shapeCast S128x128 S shapeCasts_S1x128x128_S128x128)

theorem sForm_congr (lg0 lg1 g0 g1 : Ideal .f32) (p : Fin 2) {zk cos sin zk' cos' sin' : FVec Ideal S128x256 .f32}
    {zv zg zv' zg' : FVec Ideal S128x128 .f32} {S S' : FVec Ideal S1x128x128 .f32}
    (hk : zk = zk') (hc : cos = cos') (hs : sin = sin') (hv : zv = zv') (hg : zg = zg') (hS : S = S') :
    sForm lg0 lg1 g0 g1 p zk' cos' sin' zv' zg' S' = sForm lg0 lg1 g0 g1 p zk cos sin zv zg S := by
  subst hk hc hs hv hg hS; rfl

/-- What a point writes for head `2 p + e` of sequence `g`. -/
def oPay (x0 : Vec Ideal S4x128x1536 .f32) (x1 x2 : Vec Ideal S128x256 .f32) (x3 : Vec Ideal S1x512 .f32)
    (s : Vec Ideal S4x2x128x128 .f32) (g : Fin 4) (p e : Fin 2) (h : Fin 4) (ov og on : ℕ)
    (hv : ov + 128 ≤ 1536) (hg : og + 128 ≤ 1536) (hn : on + 128 ≤ 512) : FVec Ideal S1x128x128 .bf16 :=
  oForm (lgc h) e p (zblk 256 x0 g.val 0 g.isLt (by decide)) (zblk 256 x0 g.val 256 g.isLt (by decide)) x1 x2
    (zblk 128 x0 g.val ov g.isLt hv) (zblk 128 x0 g.val og g.isLt hg) (sblk s g p) (gblk x3 on hn)

/-- The state a point leaves for pair `p` of sequence `g`. -/
def sPay (x0 : Vec Ideal S4x128x1536 .f32) (x1 x2 : Vec Ideal S128x256 .f32)
    (s : Vec Ideal S4x2x128x128 .f32) (g : Fin 4) (p : Fin 2) (h0 h1 : Fin 4) (o0 o1 : ℕ)
    (hv0 : o0 + 128 ≤ 1536) (hv1 : o1 + 128 ≤ 1536) : FVec Ideal S1x128x128 .f32 :=
  sForm (lgc h0) (lgc h1) (gcc h0) (gcc h1) p (zblk 256 x0 g.val 256 g.isLt (by decide)) x1 x2
    (zblk 128 x0 g.val o0 g.isLt hv0) (zblk 128 x0 g.val o1 g.isLt hv1) (sblk s g p)

theorem cons_congr {s : Shape} {e : EltTy} {r : Rect s} {p p' : r.shape.Idx → Elt Ideal e} {L L' : List (View.Piece (Elt Ideal) s e)}
    (hp : p = p') (hL : L = L') : (⟨r, p⟩ :: L : List (View.Piece (Elt Ideal) s e)) = ⟨r, p'⟩ :: L' := by
  subst hp hL; rfl

section

variable (c : Dev nD) (i : grid0.Coords)
    (arg2 : Memref sig .tc .vmem S4x128x1536 .f32) (harg2 : arg2.IsWhole)
    (arg3 : Memref sig .tc .vmem S128x256 .f32) (harg3 : arg3.IsWhole)
    (arg4 : Memref sig .tc .vmem S128x256 .f32) (harg4 : arg4.IsWhole)
    (arg5 : Memref sig .tc .vmem S1x512 .f32) (harg5 : arg5.IsWhole)
    (arg6 : Memref sig .tc .vmem S4x2x128x128 .f32) (harg6 : arg6.IsWhole)
    (arg7 : Memref sig .tc .vmem S4x128x512 .bf16) (harg7 : arg7.IsWhole)
    (arg8 : Memref sig .tc .vmem S4x2x128x128 .f32) (harg8 : arg8.IsWhole)
    (arg9 : Memref sig .tc .vmem S4x2x128x128 .f32) (harg9 : arg9.IsWhole)
    (x0 : Vec Ideal S4x128x1536 .f32) (x1 : Vec Ideal S128x256 .f32) (x2 : Vec Ideal S128x256 .f32)
    (x3 : Vec Ideal S1x512 .f32) (x4 : Vec Ideal S4x2x128x128 .f32) (xs : Vec Ideal S4x2x128x128 .f32)

/-- The state a point works on. -/
def sIn (i : grid0.Coords) (x4 xs : Vec Ideal S4x2x128x128 .f32) : Vec Ideal S4x2x128x128 .f32 :=
  if bodyRun.sl.v2 i = 1#1 then x4 else xs

/-- The sixteen pieces of the output block, one head of one sequence each. -/
def oList : List (View.Piece (Elt Ideal) S4x128x512 .bf16) :=
  [⟨Rect.unit (s := S4x128x512) ![3, 0, 384] S1x128x128.size inb_S4x128x512_S1x128x128_3_0_384,
      oPay x0 x1 x2 x3 (sIn i x4 xs) 3 1 1 3 896 1408 384 (by decide) (by decide) (by decide)⟩,
    ⟨Rect.unit (s := S4x128x512) ![3, 0, 256] S1x128x128.size inb_S4x128x512_S1x128x128_3_0_256,
      oPay x0 x1 x2 x3 (sIn i x4 xs) 3 1 0 2 768 1280 256 (by decide) (by decide) (by decide)⟩,
    ⟨Rect.unit (s := S4x128x512) ![3, 0, 128] S1x128x128.size inb_S4x128x512_S1x128x128_3_0_128,
      oPay x0 x1 x2 x3 (sIn i x4 xs) 3 0 1 1 640 1152 128 (by decide) (by decide) (by decide)⟩,
    ⟨Rect.unit (s := S4x128x512) ![3, 0, 0] S1x128x128.size inb_S4x128x512_S1x128x128_3_0_0,
      oPay x0 x1 x2 x3 (sIn i x4 xs) 3 0 0 0 512 1024 0 (by decide) (by decide) (by decide)⟩,
    ⟨Rect.unit (s := S4x128x512) ![2, 0, 384] S1x128x128.size inb_S4x128x512_S1x128x128_2_0_384,
      oPay x0 x1 x2 x3 (sIn i x4 xs) 2 1 1 3 896 1408 384 (by decide) (by decide) (by decide)⟩,
    ⟨Rect.unit (s := S4x128x512) ![2, 0, 256] S1x128x128.size inb_S4x128x512_S1x128x128_2_0_256,
      oPay x0 x1 x2 x3 (sIn i x4 xs) 2 1 0 2 768 1280 256 (by decide) (by decide) (by decide)⟩,
    ⟨Rect.unit (s := S4x128x512) ![2, 0, 128] S1x128x128.size inb_S4x128x512_S1x128x128_2_0_128,
      oPay x0 x1 x2 x3 (sIn i x4 xs) 2 0 1 1 640 1152 128 (by decide) (by decide) (by decide)⟩,
    ⟨Rect.unit (s := S4x128x512) ![2, 0, 0] S1x128x128.size inb_S4x128x512_S1x128x128_2_0_0,
      oPay x0 x1 x2 x3 (sIn i x4 xs) 2 0 0 0 512 1024 0 (by decide) (by decide) (by decide)⟩,
    ⟨Rect.unit (s := S4x128x512) ![1, 0, 384] S1x128x128.size inb_S4x128x512_S1x128x128_1_0_384,
      oPay x0 x1 x2 x3 (sIn i x4 xs) 1 1 1 3 896 1408 384 (by decide) (by decide) (by decide)⟩,
    ⟨Rect.unit (s := S4x128x512) ![1, 0, 256] S1x128x128.size inb_S4x128x512_S1x128x128_1_0_256,
      oPay x0 x1 x2 x3 (sIn i x4 xs) 1 1 0 2 768 1280 256 (by decide) (by decide) (by decide)⟩,
    ⟨Rect.unit (s := S4x128x512) ![1, 0, 128] S1x128x128.size inb_S4x128x512_S1x128x128_1_0_128,
      oPay x0 x1 x2 x3 (sIn i x4 xs) 1 0 1 1 640 1152 128 (by decide) (by decide) (by decide)⟩,
    ⟨Rect.unit (s := S4x128x512) ![1, 0, 0] S1x128x128.size inb_S4x128x512_S1x128x128_1_0_0,
      oPay x0 x1 x2 x3 (sIn i x4 xs) 1 0 0 0 512 1024 0 (by decide) (by decide) (by decide)⟩,
    ⟨Rect.unit (s := S4x128x512) ![0, 0, 384] S1x128x128.size inb_S4x128x512_S1x128x128_0_0_384,
      oPay x0 x1 x2 x3 (sIn i x4 xs) 0 1 1 3 896 1408 384 (by decide) (by decide) (by decide)⟩,
    ⟨Rect.unit (s := S4x128x512) ![0, 0, 256] S1x128x128.size inb_S4x128x512_S1x128x128_0_0_256,
      oPay x0 x1 x2 x3 (sIn i x4 xs) 0 1 0 2 768 1280 256 (by decide) (by decide) (by decide)⟩,
    ⟨Rect.unit (s := S4x128x512) ![0, 0, 128] S1x128x128.size inb_S4x128x512_S1x128x128_0_0_128,
      oPay x0 x1 x2 x3 (sIn i x4 xs) 0 0 1 1 640 1152 128 (by decide) (by decide) (by decide)⟩,
    ⟨Rect.unit (s := S4x128x512) ![0, 0, 0] S1x128x128.size inb_S4x128x512_S1x128x128_0_0_0,
      oPay x0 x1 x2 x3 (sIn i x4 xs) 0 0 0 0 512 1024 0 (by decide) (by decide) (by decide)⟩]

/-- The eight pieces of the state, one pair of heads of one sequence each. -/
def sList : List (View.Piece (Elt Ideal) S4x2x128x128 .f32) :=
  [⟨(Rect.unit (s := S4x2x128x128) ![3, 0, 0, 0] S1x2x128x128.size inb_S4x2x128x128_S1x2x128x128_3_0_0_0).within
      ((Rect.unit (s := S2x128x128) ![1, 0, 0] S1x128x128.size inb_S2x128x128_S1x128x128_1_0_0).consLift ![1, 2, 128, 128] rfl (by decide)) (fun _ => rfl),
      Rect.payAlong (r := Rect.unit (s := S2x128x128) ![1, 0, 0] S1x128x128.size inb_S2x128x128_S1x128x128_1_0_0) (by rfl)
      (sPay x0 x1 x2 (sIn i x4 xs) 3 1 2 3 768 896 (by decide) (by decide))⟩,
    ⟨(Rect.unit (s := S4x2x128x128) ![3, 0, 0, 0] S1x2x128x128.size inb_S4x2x128x128_S1x2x128x128_3_0_0_0).within
      ((Rect.unit (s := S2x128x128) ![0, 0, 0] S1x128x128.size inb_S2x128x128_S1x128x128_0_0_0).consLift ![1, 2, 128, 128] rfl (by decide)) (fun _ => rfl),
      Rect.payAlong (r := Rect.unit (s := S2x128x128) ![0, 0, 0] S1x128x128.size inb_S2x128x128_S1x128x128_0_0_0) (by rfl)
      (sPay x0 x1 x2 (sIn i x4 xs) 3 0 0 1 512 640 (by decide) (by decide))⟩,
    ⟨(Rect.unit (s := S4x2x128x128) ![2, 0, 0, 0] S1x2x128x128.size inb_S4x2x128x128_S1x2x128x128_2_0_0_0).within
      ((Rect.unit (s := S2x128x128) ![1, 0, 0] S1x128x128.size inb_S2x128x128_S1x128x128_1_0_0).consLift ![1, 2, 128, 128] rfl (by decide)) (fun _ => rfl),
      Rect.payAlong (r := Rect.unit (s := S2x128x128) ![1, 0, 0] S1x128x128.size inb_S2x128x128_S1x128x128_1_0_0) (by rfl)
      (sPay x0 x1 x2 (sIn i x4 xs) 2 1 2 3 768 896 (by decide) (by decide))⟩,
    ⟨(Rect.unit (s := S4x2x128x128) ![2, 0, 0, 0] S1x2x128x128.size inb_S4x2x128x128_S1x2x128x128_2_0_0_0).within
      ((Rect.unit (s := S2x128x128) ![0, 0, 0] S1x128x128.size inb_S2x128x128_S1x128x128_0_0_0).consLift ![1, 2, 128, 128] rfl (by decide)) (fun _ => rfl),
      Rect.payAlong (r := Rect.unit (s := S2x128x128) ![0, 0, 0] S1x128x128.size inb_S2x128x128_S1x128x128_0_0_0) (by rfl)
      (sPay x0 x1 x2 (sIn i x4 xs) 2 0 0 1 512 640 (by decide) (by decide))⟩,
    ⟨(Rect.unit (s := S4x2x128x128) ![1, 0, 0, 0] S1x2x128x128.size inb_S4x2x128x128_S1x2x128x128_1_0_0_0).within
      ((Rect.unit (s := S2x128x128) ![1, 0, 0] S1x128x128.size inb_S2x128x128_S1x128x128_1_0_0).consLift ![1, 2, 128, 128] rfl (by decide)) (fun _ => rfl),
      Rect.payAlong (r := Rect.unit (s := S2x128x128) ![1, 0, 0] S1x128x128.size inb_S2x128x128_S1x128x128_1_0_0) (by rfl)
      (sPay x0 x1 x2 (sIn i x4 xs) 1 1 2 3 768 896 (by decide) (by decide))⟩,
    ⟨(Rect.unit (s := S4x2x128x128) ![1, 0, 0, 0] S1x2x128x128.size inb_S4x2x128x128_S1x2x128x128_1_0_0_0).within
      ((Rect.unit (s := S2x128x128) ![0, 0, 0] S1x128x128.size inb_S2x128x128_S1x128x128_0_0_0).consLift ![1, 2, 128, 128] rfl (by decide)) (fun _ => rfl),
      Rect.payAlong (r := Rect.unit (s := S2x128x128) ![0, 0, 0] S1x128x128.size inb_S2x128x128_S1x128x128_0_0_0) (by rfl)
      (sPay x0 x1 x2 (sIn i x4 xs) 1 0 0 1 512 640 (by decide) (by decide))⟩,
    ⟨(Rect.unit (s := S4x2x128x128) ![0, 0, 0, 0] S1x2x128x128.size inb_S4x2x128x128_S1x2x128x128_0_0_0_0).within
      ((Rect.unit (s := S2x128x128) ![1, 0, 0] S1x128x128.size inb_S2x128x128_S1x128x128_1_0_0).consLift ![1, 2, 128, 128] rfl (by decide)) (fun _ => rfl),
      Rect.payAlong (r := Rect.unit (s := S2x128x128) ![1, 0, 0] S1x128x128.size inb_S2x128x128_S1x128x128_1_0_0) (by rfl)
      (sPay x0 x1 x2 (sIn i x4 xs) 0 1 2 3 768 896 (by decide) (by decide))⟩,
    ⟨(Rect.unit (s := S4x2x128x128) ![0, 0, 0, 0] S1x2x128x128.size inb_S4x2x128x128_S1x2x128x128_0_0_0_0).within
      ((Rect.unit (s := S2x128x128) ![0, 0, 0] S1x128x128.size inb_S2x128x128_S1x128x128_0_0_0).consLift ![1, 2, 128, 128] rfl (by decide)) (fun _ => rfl),
      Rect.payAlong (r := Rect.unit (s := S2x128x128) ![0, 0, 0] S1x128x128.size inb_S2x128x128_S1x128x128_0_0_0) (by rfl)
      (sPay x0 x1 x2 (sIn i x4 xs) 0 0 0 1 512 640 (by decide) (by decide))⟩]

theorem sload_eq (g p : ℕ) (hg : g < 4) (hp : p < 2) (h1 : _) (h2 : _) (h3 : _) (h4 : _) (h5 : _) (hR : _) (h6 : _) :
    sblk (sIn i x4 xs) ⟨g, hg⟩ ⟨p, hp⟩
      = LoadRect.valAlong (lr := (Rect.unit (s := S2x128x128) ![p, 0, 0] S1x128x128.size h2).toLoadRect) hR
          (View.readAt (Elt Ideal) arg9.view ((Rect.unit (s := S4x2x128x128) ![g, 0, 0, 0] S1x2x128x128.size h1).withinL
            ((Rect.unit (s := S2x128x128) ![p, 0, 0] S1x128x128.size h2).toLoadRect.consLift ![1, 2, 128, 128] h3 h4) h5)
            (if hc : bodyRun.sl.v2 i = 1#1 then arg9.view.writes (Elt Ideal) (harg9.unread xs)
          [⟨Rect.unit (s := S4x2x128x128) ![0, 0, 0, 0] S4x2x128x128.size h6, bodyRun.sl.v1394 c arg6 harg6 x4⟩] else harg9.unread xs)) := by
  rw [← scratch_eq]
  exact sblk_eq arg9 harg9 _ g p hg hp h1 h2 h3 h4 h5 hR

/-- What the body stores into the output block. -/
theorem oList_eq : bodyRun.sl.H5_16 c i arg2 harg2 arg3 harg3 arg4 harg4 arg5 harg5 arg6 harg6 arg9 harg9 x0 x1 x2 x3 x4 xs = oList i x0 x1 x2 x3 x4 xs := by
  unfold bodyRun.sl.H5_16 oList
  exact cons_congr (Eq.trans (by sl_kernel_rfl) (oForm_congr (lgc 3) 1 1 (zblk_eq 256 arg2 harg2 x0 3 0 (by decide) (by decide) (by decide) (by decide) rfl (by decide) (fun _ => rfl) rfl) (zblk_eq 256 arg2 harg2 x0 3 256 (by decide) (by decide) (by decide) (by decide) rfl (by decide) (fun _ => rfl) rfl) (table_eq arg3 harg3 x1 (by decide) rfl) (table_eq arg4 harg4 x2 (by decide) rfl) (zblk_eq 128 arg2 harg2 x0 3 896 (by decide) (by decide) (by decide) (by decide) rfl (by decide) (fun _ => rfl) rfl) (zblk_eq 128 arg2 harg2 x0 3 1408 (by decide) (by decide) (by decide) (by decide) rfl (by decide) (fun _ => rfl) rfl) (sload_eq c i arg6 harg6 arg9 harg9 x4 xs 3 1 (by decide) (by decide) (by decide) (by decide) rfl (by decide) (fun _ => rfl) rfl (by decide)) (gblk_eq arg5 harg5 x3 384 (by decide) (by decide)))) (
    cons_congr (Eq.trans (by sl_kernel_rfl) (oForm_congr (lgc 2) 0 1 (zblk_eq 256 arg2 harg2 x0 3 0 (by decide) (by decide) (by decide) (by decide) rfl (by decide) (fun _ => rfl) rfl) (zblk_eq 256 arg2 harg2 x0 3 256 (by decide) (by decide) (by decide) (by decide) rfl (by decide) (fun _ => rfl) rfl) (table_eq arg3 harg3 x1 (by decide) rfl) (table_eq arg4 harg4 x2 (by decide) rfl) (zblk_eq 128 arg2 harg2 x0 3 768 (by decide) (by decide) (by decide) (by decide) rfl (by decide) (fun _ => rfl) rfl) (zblk_eq 128 arg2 harg2 x0 3 1280 (by decide) (by decide) (by decide) (by decide) rfl (by decide) (fun _ => rfl) rfl) (sload_eq c i arg6 harg6 arg9 harg9 x4 xs 3 1 (by decide) (by decide) (by decide) (by decide) rfl (by decide) (fun _ => rfl) rfl (by decide)) (gblk_eq arg5 harg5 x3 256 (by decide) (by decide)))) (
    cons_congr (Eq.trans (by sl_kernel_rfl) (oForm_congr (lgc 1) 1 0 (zblk_eq 256 arg2 harg2 x0 3 0 (by decide) (by decide) (by decide) (by decide) rfl (by decide) (fun _ => rfl) rfl) (zblk_eq 256 arg2 harg2 x0 3 256 (by decide) (by decide) (by decide) (by decide) rfl (by decide) (fun _ => rfl) rfl) (table_eq arg3 harg3 x1 (by decide) rfl) (table_eq arg4 harg4 x2 (by decide) rfl) (zblk_eq 128 arg2 harg2 x0 3 640 (by decide) (by decide) (by decide) (by decide) rfl (by decide) (fun _ => rfl) rfl) (zblk_eq 128 arg2 harg2 x0 3 1152 (by decide) (by decide) (by decide) (by decide) rfl (by decide) (fun _ => rfl) rfl) (sload_eq c i arg6 harg6 arg9 harg9 x4 xs 3 0 (by decide) (by decide) (by decide) (by decide) rfl (by decide) (fun _ => rfl) rfl (by decide)) (gblk_eq arg5 harg5 x3 128 (by decide) (by decide)))) (
    cons_congr (Eq.trans (by sl_kernel_rfl) (oForm_congr (lgc 0) 0 0 (zblk_eq 256 arg2 harg2 x0 3 0 (by decide) (by decide) (by decide) (by decide) rfl (by decide) (fun _ => rfl) rfl) (zblk_eq 256 arg2 harg2 x0 3 256 (by decide) (by decide) (by decide) (by decide) rfl (by decide) (fun _ => rfl) rfl) (table_eq arg3 harg3 x1 (by decide) rfl) (table_eq arg4 harg4 x2 (by decide) rfl) (zblk_eq 128 arg2 harg2 x0 3 512 (by decide) (by decide) (by decide) (by decide) rfl (by decide) (fun _ => rfl) rfl) (zblk_eq 128 arg2 harg2 x0 3 1024 (by decide) (by decide) (by decide) (by decide) rfl (by decide) (fun _ => rfl) rfl) (sload_eq c i arg6 harg6 arg9 harg9 x4 xs 3 0 (by decide) (by decide) (by decide) (by decide) rfl (by decide) (fun _ => rfl) rfl (by decide)) (gblk_eq arg5 harg5 x3 0 (by decide) (by decide)))) (
    cons_congr (Eq.trans (by sl_kernel_rfl) (oForm_congr (lgc 3) 1 1 (zblk_eq 256 arg2 harg2 x0 2 0 (by decide) (by decide) (by decide) (by decide) rfl (by decide) (fun _ => rfl) rfl) (zblk_eq 256 arg2 harg2 x0 2 256 (by decide) (by decide) (by decide) (by decide) rfl (by decide) (fun _ => rfl) rfl) (table_eq arg3 harg3 x1 (by decide) rfl) (table_eq arg4 harg4 x2 (by decide) rfl) (zblk_eq 128 arg2 harg2 x0 2 896 (by decide) (by decide) (by decide) (by decide) rfl (by decide) (fun _ => rfl) rfl) (zblk_eq 128 arg2 harg2 x0 2 1408 (by decide) (by decide) (by decide) (by decide) rfl (by decide) (fun _ => rfl) rfl) (sload_eq c i arg6 harg6 arg9 harg9 x4 xs 2 1 (by decide) (by decide) (by decide) (by decide) rfl (by decide) (fun _ => rfl) rfl (by decide)) (gblk_eq arg5 harg5 x3 384 (by decide) (by decide)))) (
    cons_congr (Eq.trans (by sl_kernel_rfl) (oForm_congr (lgc 2) 0 1 (zblk_eq 256 arg2 harg2 x0 2 0 (by decide) (by decide) (by decide) (by decide) rfl (by decide) (fun _ => rfl) rfl) (zblk_eq 256 arg2 harg2 x0 2 256 (by decide) (by decide) (by decide) (by decide) rfl (by decide) (fun _ => rfl) rfl) (table_eq arg3 harg3 x1 (by decide) rfl) (table_eq arg4 harg4 x2 (by decide) rfl) (zblk_eq 128 arg2 harg2 x0 2 768 (by decide) (by decide) (by decide) (by decide) rfl (by decide) (fun _ => rfl) rfl) (zblk_eq 128 arg2 harg2 x0 2 1280 (by decide) (by decide) (by decide) (by decide) rfl (by decide) (fun _ => rfl) rfl) (sload_eq c i arg6 harg6 arg9 harg9 x4 xs 2 1 (by decide) (by decide) (by decide) (by decide) rfl (by decide) (fun _ => rfl) rfl (by decide)) (gblk_eq arg5 harg5 x3 256 (by decide) (by decide)))) (
    cons_congr (Eq.trans (by sl_kernel_rfl) (oForm_congr (lgc 1) 1 0 (zblk_eq 256 arg2 harg2 x0 2 0 (by decide) (by decide) (by decide) (by decide) rfl (by decide) (fun _ => rfl) rfl) (zblk_eq 256 arg2 harg2 x0 2 256 (by decide) (by decide) (by decide) (by decide) rfl (by decide) (fun _ => rfl) rfl) (table_eq arg3 harg3 x1 (by decide) rfl) (table_eq arg4 harg4 x2 (by decide) rfl) (zblk_eq 128 arg2 harg2 x0 2 640 (by decide) (by decide) (by decide) (by decide) rfl (by decide) (fun _ => rfl) rfl) (zblk_eq 128 arg2 harg2 x0 2 1152 (by decide) (by decide) (by decide) (by decide) rfl (by decide) (fun _ => rfl) rfl) (sload_eq c i arg6 harg6 arg9 harg9 x4 xs 2 0 (by decide) (by decide) (by decide) (by decide) rfl (by decide) (fun _ => rfl) rfl (by decide)) (gblk_eq arg5 harg5 x3 128 (by decide) (by decide)))) (
    cons_congr (Eq.trans (by sl_kernel_rfl) (oForm_congr (lgc 0) 0 0 (zblk_eq 256 arg2 harg2 x0 2 0 (by decide) (by decide) (by decide) (by decide) rfl (by decide) (fun _ => rfl) rfl) (zblk_eq 256 arg2 harg2 x0 2 256 (by decide) (by decide) (by decide) (by decide) rfl (by decide) (fun _ => rfl) rfl) (table_eq arg3 harg3 x1 (by decide) rfl) (table_eq arg4 harg4 x2 (by decide) rfl) (zblk_eq 128 arg2 harg2 x0 2 512 (by decide) (by decide) (by decide) (by decide) rfl (by decide) (fun _ => rfl) rfl) (zblk_eq 128 arg2 harg2 x0 2 1024 (by decide) (by decide) (by decide) (by decide) rfl (by decide) (fun _ => rfl) rfl) (sload_eq c i arg6 harg6 arg9 harg9 x4 xs 2 0 (by decide) (by decide) (by decide) (by decide) rfl (by decide) (fun _ => rfl) rfl (by decide)) (gblk_eq arg5 harg5 x3 0 (by decide) (by decide)))) (
    cons_congr (Eq.trans (by sl_kernel_rfl) (oForm_congr (lgc 3) 1 1 (zblk_eq 256 arg2 harg2 x0 1 0 (by decide) (by decide) (by decide) (by decide) rfl (by decide) (fun _ => rfl) rfl) (zblk_eq 256 arg2 harg2 x0 1 256 (by decide) (by decide) (by decide) (by decide) rfl (by decide) (fun _ => rfl) rfl) (table_eq arg3 harg3 x1 (by decide) rfl) (table_eq arg4 harg4 x2 (by decide) rfl) (zblk_eq 128 arg2 harg2 x0 1 896 (by decide) (by decide) (by decide) (by decide) rfl (by decide) (fun _ => rfl) rfl) (zblk_eq 128 arg2 harg2 x0 1 1408 (by decide) (by decide) (by decide) (by decide) rfl (by decide) (fun _ => rfl) rfl) (sload_eq c i arg6 harg6 arg9 harg9 x4 xs 1 1 (by decide) (by decide) (by decide) (by decide) rfl (by decide) (fun _ => rfl) rfl (by decide)) (gblk_eq arg5 harg5 x3 384 (by decide) (by decide)))) (
    cons_congr (Eq.trans (by sl_kernel_rfl) (oForm_congr (lgc 2) 0 1 (zblk_eq 256 arg2 harg2 x0 1 0 (by decide) (by decide) (by decide) (by decide) rfl (by decide) (fun _ => rfl) rfl) (zblk_eq 256 arg2 harg2 x0 1 256 (by decide) (by decide) (by decide) (by decide) rfl (by decide) (fun _ => rfl) rfl) (table_eq arg3 harg3 x1 (by decide) rfl) (table_eq arg4 harg4 x2 (by decide) rfl) (zblk_eq 128 arg2 harg2 x0 1 768 (by decide) (by decide) (by decide) (by decide) rfl (by decide) (fun _ => rfl) rfl) (zblk_eq 128 arg2 harg2 x0 1 1280 (by decide) (by decide) (by decide) (by decide) rfl (by decide) (fun _ => rfl) rfl) (sload_eq c i arg6 harg6 arg9 harg9 x4 xs 1 1 (by decide) (by decide) (by decide) (by decide) rfl (by decide) (fun _ => rfl) rfl (by decide)) (gblk_eq arg5 harg5 x3 256 (by decide) (by decide)))) (
    cons_congr (Eq.trans (by sl_kernel_rfl) (oForm_congr (lgc 1) 1 0 (zblk_eq 256 arg2 harg2 x0 1 0 (by decide) (by decide) (by decide) (by decide) rfl (by decide) (fun _ => rfl) rfl) (zblk_eq 256 arg2 harg2 x0 1 256 (by decide) (by decide) (by decide) (by decide) rfl (by decide) (fun _ => rfl) rfl) (table_eq arg3 harg3 x1 (by decide) rfl) (table_eq arg4 harg4 x2 (by decide) rfl) (zblk_eq 128 arg2 harg2 x0 1 640 (by decide) (by decide) (by decide) (by decide) rfl (by decide) (fun _ => rfl) rfl) (zblk_eq 128 arg2 harg2 x0 1 1152 (by decide) (by decide) (by decide) (by decide) rfl (by decide) (fun _ => rfl) rfl) (sload_eq c i arg6 harg6 arg9 harg9 x4 xs 1 0 (by decide) (by decide) (by decide) (by decide) rfl (by decide) (fun _ => rfl) rfl (by decide)) (gblk_eq arg5 harg5 x3 128 (by decide) (by decide)))) (
    cons_congr (Eq.trans (by sl_kernel_rfl) (oForm_congr (lgc 0) 0 0 (zblk_eq 256 arg2 harg2 x0 1 0 (by decide) (by decide) (by decide) (by decide) rfl (by decide) (fun _ => rfl) rfl) (zblk_eq 256 arg2 harg2 x0 1 256 (by decide) (by decide) (by decide) (by decide) rfl (by decide) (fun _ => rfl) rfl) (table_eq arg3 harg3 x1 (by decide) rfl) (table_eq arg4 harg4 x2 (by decide) rfl) (zblk_eq 128 arg2 harg2 x0 1 512 (by decide) (by decide) (by decide) (by decide) rfl (by decide) (fun _ => rfl) rfl) (zblk_eq 128 arg2 harg2 x0 1 1024 (by decide) (by decide) (by decide) (by decide) rfl (by decide) (fun _ => rfl) rfl) (sload_eq c i arg6 harg6 arg9 harg9 x4 xs 1 0 (by decide) (by decide) (by decide) (by decide) rfl (by decide) (fun _ => rfl) rfl (by decide)) (gblk_eq arg5 harg5 x3 0 (by decide) (by decide)))) (
    cons_congr (Eq.trans (by sl_kernel_rfl) (oForm_congr (lgc 3) 1 1 (zblk_eq 256 arg2 harg2 x0 0 0 (by decide) (by decide) (by decide) (by decide) rfl (by decide) (fun _ => rfl) rfl) (zblk_eq 256 arg2 harg2 x0 0 256 (by decide) (by decide) (by decide) (by decide) rfl (by decide) (fun _ => rfl) rfl) (table_eq arg3 harg3 x1 (by decide) rfl) (table_eq arg4 harg4 x2 (by decide) rfl) (zblk_eq 128 arg2 harg2 x0 0 896 (by decide) (by decide) (by decide) (by decide) rfl (by decide) (fun _ => rfl) rfl) (zblk_eq 128 arg2 harg2 x0 0 1408 (by decide) (by decide) (by decide) (by decide) rfl (by decide) (fun _ => rfl) rfl) (sload_eq c i arg6 harg6 arg9 harg9 x4 xs 0 1 (by decide) (by decide) (by decide) (by decide) rfl (by decide) (fun _ => rfl) rfl (by decide)) (gblk_eq arg5 harg5 x3 384 (by decide) (by decide)))) (
    cons_congr (Eq.trans (by sl_kernel_rfl) (oForm_congr (lgc 2) 0 1 (zblk_eq 256 arg2 harg2 x0 0 0 (by decide) (by decide) (by decide) (by decide) rfl (by decide) (fun _ => rfl) rfl) (zblk_eq 256 arg2 harg2 x0 0 256 (by decide) (by decide) (by decide) (by decide) rfl (by decide) (fun _ => rfl) rfl) (table_eq arg3 harg3 x1 (by decide) rfl) (table_eq arg4 harg4 x2 (by decide) rfl) (zblk_eq 128 arg2 harg2 x0 0 768 (by decide) (by decide) (by decide) (by decide) rfl (by decide) (fun _ => rfl) rfl) (zblk_eq 128 arg2 harg2 x0 0 1280 (by decide) (by decide) (by decide) (by decide) rfl (by decide) (fun _ => rfl) rfl) (sload_eq c i arg6 harg6 arg9 harg9 x4 xs 0 1 (by decide) (by decide) (by decide) (by decide) rfl (by decide) (fun _ => rfl) rfl (by decide)) (gblk_eq arg5 harg5 x3 256 (by decide) (by decide)))) (
    cons_congr (Eq.trans (by sl_kernel_rfl) (oForm_congr (lgc 1) 1 0 (zblk_eq 256 arg2 harg2 x0 0 0 (by decide) (by decide) (by decide) (by decide) rfl (by decide) (fun _ => rfl) rfl) (zblk_eq 256 arg2 harg2 x0 0 256 (by decide) (by decide) (by decide) (by decide) rfl (by decide) (fun _ => rfl) rfl) (table_eq arg3 harg3 x1 (by decide) rfl) (table_eq arg4 harg4 x2 (by decide) rfl) (zblk_eq 128 arg2 harg2 x0 0 640 (by decide) (by decide) (by decide) (by decide) rfl (by decide) (fun _ => rfl) rfl) (zblk_eq 128 arg2 harg2 x0 0 1152 (by decide) (by decide) (by decide) (by decide) rfl (by decide) (fun _ => rfl) rfl) (sload_eq c i arg6 harg6 arg9 harg9 x4 xs 0 0 (by decide) (by decide) (by decide) (by decide) rfl (by decide) (fun _ => rfl) rfl (by decide)) (gblk_eq arg5 harg5 x3 128 (by decide) (by decide)))) (
    cons_congr (Eq.trans (by sl_kernel_rfl) (oForm_congr (lgc 0) 0 0 (zblk_eq 256 arg2 harg2 x0 0 0 (by decide) (by decide) (by decide) (by decide) rfl (by decide) (fun _ => rfl) rfl) (zblk_eq 256 arg2 harg2 x0 0 256 (by decide) (by decide) (by decide) (by decide) rfl (by decide) (fun _ => rfl) rfl) (table_eq arg3 harg3 x1 (by decide) rfl) (table_eq arg4 harg4 x2 (by decide) rfl) (zblk_eq 128 arg2 harg2 x0 0 512 (by decide) (by decide) (by decide) (by decide) rfl (by decide) (fun _ => rfl) rfl) (zblk_eq 128 arg2 harg2 x0 0 1024 (by decide) (by decide) (by decide) (by decide) rfl (by decide) (fun _ => rfl) rfl) (sload_eq c i arg6 harg6 arg9 harg9 x4 xs 0 0 (by decide) (by decide) (by decide) (by decide) rfl (by decide) (fun _ => rfl) rfl (by decide)) (gblk_eq arg5 harg5 x3 0 (by decide) (by decide)))) (
    rfl))))))))))))))))

/-- What the body stores into the carried state. -/
theorem sList_eq : bodyRun.sl.HS_8 c i arg2 harg2 arg3 harg3 arg4 harg4 arg6 harg6 arg9 harg9 x0 x1 x2 x4 xs = sList i x0 x1 x2 x4 xs := by
  unfold bodyRun.sl.HS_8 sList
  exact cons_congr (congrArg (Rect.payAlong (r := Rect.unit (s := S2x128x128) ![1, 0, 0] S1x128x128.size inb_S2x128x128_S1x128x128_1_0_0) _) (Eq.trans (by sl_kernel_rfl) (sForm_congr (lgc 2) (lgc 3) (gcc 2) (gcc 3) 1 (zblk_eq 256 arg2 harg2 x0 3 256 (by decide) (by decide) (by decide) (by decide) rfl (by decide) (fun _ => rfl) rfl) (table_eq arg3 harg3 x1 (by decide) rfl) (table_eq arg4 harg4 x2 (by decide) rfl) (zblk_eq 128 arg2 harg2 x0 3 768 (by decide) (by decide) (by decide) (by decide) rfl (by decide) (fun _ => rfl) rfl) (zblk_eq 128 arg2 harg2 x0 3 896 (by decide) (by decide) (by decide) (by decide) rfl (by decide) (fun _ => rfl) rfl) (sload_eq c i arg6 harg6 arg9 harg9 x4 xs 3 1 (by decide) (by decide) (by decide) (by decide) rfl (by decide) (fun _ => rfl) rfl (by decide))))) (
    cons_congr (congrArg (Rect.payAlong (r := Rect.unit (s := S2x128x128) ![0, 0, 0] S1x128x128.size inb_S2x128x128_S1x128x128_0_0_0) _) (Eq.trans (by sl_kernel_rfl) (sForm_congr (lgc 0) (lgc 1) (gcc 0) (gcc 1) 0 (zblk_eq 256 arg2 harg2 x0 3 256 (by decide) (by decide) (by decide) (by decide) rfl (by decide) (fun _ => rfl) rfl) (table_eq arg3 harg3 x1 (by decide) rfl) (table_eq arg4 harg4 x2 (by decide) rfl) (zblk_eq 128 arg2 harg2 x0 3 512 (by decide) (by decide) (by decide) (by decide) rfl (by decide) (fun _ => rfl) rfl) (zblk_eq 128 arg2 harg2 x0 3 640 (by decide) (by decide) (by decide) (by decide) rfl (by decide) (fun _ => rfl) rfl) (sload_eq c i arg6 harg6 arg9 harg9 x4 xs 3 0 (by decide) (by decide) (by decide) (by decide) rfl (by decide) (fun _ => rfl) rfl (by decide))))) (
    cons_congr (congrArg (Rect.payAlong (r := Rect.unit (s := S2x128x128) ![1, 0, 0] S1x128x128.size inb_S2x128x128_S1x128x128_1_0_0) _) (Eq.trans (by sl_kernel_rfl) (sForm_congr (lgc 2) (lgc 3) (gcc 2) (gcc 3) 1 (zblk_eq 256 arg2 harg2 x0 2 256 (by decide) (by decide) (by decide) (by decide) rfl (by decide) (fun _ => rfl) rfl) (table_eq arg3 harg3 x1 (by decide) rfl) (table_eq arg4 harg4 x2 (by decide) rfl) (zblk_eq 128 arg2 harg2 x0 2 768 (by decide) (by decide) (by decide) (by decide) rfl (by decide) (fun _ => rfl) rfl) (zblk_eq 128 arg2 harg2 x0 2 896 (by decide) (by decide) (by decide) (by decide) rfl (by decide) (fun _ => rfl) rfl) (sload_eq c i arg6 harg6 arg9 harg9 x4 xs 2 1 (by decide) (by decide) (by decide) (by decide) rfl (by decide) (fun _ => rfl) rfl (by decide))))) (
    cons_congr (congrArg (Rect.payAlong (r := Rect.unit (s := S2x128x128) ![0, 0, 0] S1x128x128.size inb_S2x128x128_S1x128x128_0_0_0) _) (Eq.trans (by sl_kernel_rfl) (sForm_congr (lgc 0) (lgc 1) (gcc 0) (gcc 1) 0 (zblk_eq 256 arg2 harg2 x0 2 256 (by decide) (by decide) (by decide) (by decide) rfl (by decide) (fun _ => rfl) rfl) (table_eq arg3 harg3 x1 (by decide) rfl) (table_eq arg4 harg4 x2 (by decide) rfl) (zblk_eq 128 arg2 harg2 x0 2 512 (by decide) (by decide) (by decide) (by decide) rfl (by decide) (fun _ => rfl) rfl) (zblk_eq 128 arg2 harg2 x0 2 640 (by decide) (by decide) (by decide) (by decide) rfl (by decide) (fun _ => rfl) rfl) (sload_eq c i arg6 harg6 arg9 harg9 x4 xs 2 0 (by decide) (by decide) (by decide) (by decide) rfl (by decide) (fun _ => rfl) rfl (by decide))))) (
    cons_congr (congrArg (Rect.payAlong (r := Rect.unit (s := S2x128x128) ![1, 0, 0] S1x128x128.size inb_S2x128x128_S1x128x128_1_0_0) _) (Eq.trans (by sl_kernel_rfl) (sForm_congr (lgc 2) (lgc 3) (gcc 2) (gcc 3) 1 (zblk_eq 256 arg2 harg2 x0 1 256 (by decide) (by decide) (by decide) (by decide) rfl (by decide) (fun _ => rfl) rfl) (table_eq arg3 harg3 x1 (by decide) rfl) (table_eq arg4 harg4 x2 (by decide) rfl) (zblk_eq 128 arg2 harg2 x0 1 768 (by decide) (by decide) (by decide) (by decide) rfl (by decide) (fun _ => rfl) rfl) (zblk_eq 128 arg2 harg2 x0 1 896 (by decide) (by decide) (by decide) (by decide) rfl (by decide) (fun _ => rfl) rfl) (sload_eq c i arg6 harg6 arg9 harg9 x4 xs 1 1 (by decide) (by decide) (by decide) (by decide) rfl (by decide) (fun _ => rfl) rfl (by decide))))) (
    cons_congr (congrArg (Rect.payAlong (r := Rect.unit (s := S2x128x128) ![0, 0, 0] S1x128x128.size inb_S2x128x128_S1x128x128_0_0_0) _) (Eq.trans (by sl_kernel_rfl) (sForm_congr (lgc 0) (lgc 1) (gcc 0) (gcc 1) 0 (zblk_eq 256 arg2 harg2 x0 1 256 (by decide) (by decide) (by decide) (by decide) rfl (by decide) (fun _ => rfl) rfl) (table_eq arg3 harg3 x1 (by decide) rfl) (table_eq arg4 harg4 x2 (by decide) rfl) (zblk_eq 128 arg2 harg2 x0 1 512 (by decide) (by decide) (by decide) (by decide) rfl (by decide) (fun _ => rfl) rfl) (zblk_eq 128 arg2 harg2 x0 1 640 (by decide) (by decide) (by decide) (by decide) rfl (by decide) (fun _ => rfl) rfl) (sload_eq c i arg6 harg6 arg9 harg9 x4 xs 1 0 (by decide) (by decide) (by decide) (by decide) rfl (by decide) (fun _ => rfl) rfl (by decide))))) (
    cons_congr (congrArg (Rect.payAlong (r := Rect.unit (s := S2x128x128) ![1, 0, 0] S1x128x128.size inb_S2x128x128_S1x128x128_1_0_0) _) (Eq.trans (by sl_kernel_rfl) (sForm_congr (lgc 2) (lgc 3) (gcc 2) (gcc 3) 1 (zblk_eq 256 arg2 harg2 x0 0 256 (by decide) (by decide) (by decide) (by decide) rfl (by decide) (fun _ => rfl) rfl) (table_eq arg3 harg3 x1 (by decide) rfl) (table_eq arg4 harg4 x2 (by decide) rfl) (zblk_eq 128 arg2 harg2 x0 0 768 (by decide) (by decide) (by decide) (by decide) rfl (by decide) (fun _ => rfl) rfl) (zblk_eq 128 arg2 harg2 x0 0 896 (by decide) (by decide) (by decide) (by decide) rfl (by decide) (fun _ => rfl) rfl) (sload_eq c i arg6 harg6 arg9 harg9 x4 xs 0 1 (by decide) (by decide) (by decide) (by decide) rfl (by decide) (fun _ => rfl) rfl (by decide))))) (
    cons_congr (congrArg (Rect.payAlong (r := Rect.unit (s := S2x128x128) ![0, 0, 0] S1x128x128.size inb_S2x128x128_S1x128x128_0_0_0) _) (Eq.trans (by sl_kernel_rfl) (sForm_congr (lgc 0) (lgc 1) (gcc 0) (gcc 1) 0 (zblk_eq 256 arg2 harg2 x0 0 256 (by decide) (by decide) (by decide) (by decide) rfl (by decide) (fun _ => rfl) rfl) (table_eq arg3 harg3 x1 (by decide) rfl) (table_eq arg4 harg4 x2 (by decide) rfl) (zblk_eq 128 arg2 harg2 x0 0 512 (by decide) (by decide) (by decide) (by decide) rfl (by decide) (fun _ => rfl) rfl) (zblk_eq 128 arg2 harg2 x0 0 640 (by decide) (by decide) (by decide) (by decide) rfl (by decide) (fun _ => rfl) rfl) (sload_eq c i arg6 harg6 arg9 harg9 x4 xs 0 0 (by decide) (by decide) (by decide) (by decide) rfl (by decide) (fun _ => rfl) rfl (by decide))))) (
    rfl))))))))

end

end Cert.KernelIdeal.Hand

end
-- ==== Proof.IdealStep.lean ====
/-
  What one grid point of the retention kernel leaves, at an index: the output block and the carried
  state as retention's own formulas of the blocks the point is given.
-/
module

public import proofs.«01_k».proof.Proof.IdealPieces
public import Idealize.ShloMosaic.Lib.Ring

@[expose] public section

set_option maxRecDepth 65536
set_option maxHeartbeats 4000000

noncomputable section

namespace Cert.KernelIdeal.Hand

open Cert.KernelIdeal.Gen
open Idealize.ShloMosaic Idealize.ShloMosaic.TcCoe Idealize.ShloMosaic.Tactic Idealize.SL.Sem

section

variable (x0 : Vec Ideal S4x128x1536 .f32) (x1 x2 : Vec Ideal S128x256 .f32) (x3 : Vec Ideal S1x512 .f32)
  (s : Vec Ideal S4x2x128x128 .f32)

/-- Head `h`'s rotated queries of sequence `g`, scaled. -/
def qh (g h : Fin 4) (i : Fin 128) (d : Fin 64) : EReal :=
  sRope (fun a b => x0 (ix3 g a ⟨b.val, by omega⟩)) (fun a b => x1 (ix2 a b)) (fun a b => x2 (ix2 a b)) i
    ⟨64 * h.val + d.val, by omega⟩ * Ideal.ofBits .f32 0x3E000000#32

/-- Head `h`'s rotated keys. -/
def kh (g h : Fin 4) (i : Fin 128) (d : Fin 64) : EReal :=
  sRope (fun a b => x0 (ix3 g a ⟨256 + b.val, by omega⟩)) (fun a b => x1 (ix2 a b)) (fun a b => x2 (ix2 a b)) i
    ⟨64 * h.val + d.val, by omega⟩

/-- Head `h`'s values. -/
def vh (g h : Fin 4) (j e : Fin 128) : EReal := x0 (ix3 g j ⟨512 + 128 * h.val + e.val, by omega⟩)

/-- Head `h`'s gates. -/
def zh (g h : Fin 4) (i e : Fin 128) : EReal := x0 (ix3 g i ⟨1024 + 128 * h.val + e.val, by omega⟩)

/-- Head `h`'s gains. -/
def gh (h : Fin 4) (e : Fin 128) : EReal := x3 (ix2 0 ⟨128 * h.val + e.val, by omega⟩)

/-- Head `h`'s state. -/
def Sh (g h : Fin 4) (d : Fin 64) (e : Fin 128) : EReal :=
  s (ix4 g ⟨h.val / 2, by omega⟩ ⟨64 * (h.val % 2) + d.val, by omega⟩ e)

/-- The output of head `h` of sequence `g`. -/
def oAt (g h : Fin 4) (i e : Fin 128) : EReal :=
  Cert.Retention.norm (fun e => Cert.Retention.out (lgc h) (qh x0 x1 x2 g h) (kh x0 x1 x2 g h) (vh x0 g h) (Sh s g h) i e)
    (gh x3 h) (zh x0 g h i) e

/-- The state head `h` of sequence `g` is left. -/
def nAt (g h : Fin 4) (d : Fin 64) (e : Fin 128) : EReal :=
  Cert.Retention.next (lgc h) (gcc h) (kh x0 x1 x2 g h) (vh x0 g h) (Sh s g h) d e

/-- The output block a point leaves. -/
def stepO : Vec Ideal S4x128x512 .bf16 := fun y =>
  oAt x0 x1 x2 x3 s (y 0) ⟨(y 2).val / 128, Nat.div_lt_of_lt_mul (show (y 2).val < 128 * 4 from (y 2).isLt)⟩ (y 1)
    ⟨(y 2).val % 128, Nat.mod_lt _ (by decide)⟩

/-- The state a point leaves. -/
def stepS : Vec Ideal S4x2x128x128 .f32 := fun y =>
  nAt x0 x1 x2 s (y 0) ⟨2 * (y 1).val + (y 2).val / 64, by
      have h1 : (y 1).val < 2 := (y 1).isLt
      have h2 : (y 2).val < 128 := (y 2).isLt
      omega⟩ ⟨(y 2).val % 64, Nat.mod_lt _ (by decide)⟩ (y 3)

theorem pairOf_at (p : Fin 2) (z : FVec Ideal S128x256 .f32) (i d : Fin 128) :
    pairOf p z (ix2 i d) = z (ix2 i ⟨128 * p.val + d.val, by omega⟩) := by
  match p with
  | ⟨0, _⟩ =>
    show extractStridedSlice S128x128 ![0, 0] z slices_S128x256_o0_0_S128x128 (ix2 i d) = _
    pointwise
  | ⟨1, _⟩ =>
    show extractStridedSlice S128x128 ![0, 128] z slices_S128x256_o0_128_S128x128 (ix2 i d) = _
    pointwise

theorem zblk_at (n g off : ℕ) (hg : g < 4) (ho : off + n ≤ 1536) (i : Fin 128) (c : Fin n) :
    zblk n x0 g off hg ho (ix2 i c) = x0 (ix3 ⟨g, hg⟩ i ⟨off + c.val, by omega⟩) := rfl

theorem oPay_at (g : Fin 4) (p e : Fin 2) (h : Fin 4) (hh : h.val = 2 * p.val + e.val) (ov og on : ℕ) (hv : _) (hg : _) (hn : _)
    (eo : ov = 512 + 128 * h.val) (eg : og = 1024 + 128 * h.val) (en : on = 128 * h.val) (u : Fin 1) (i c : Fin 128) :
    oPay x0 x1 x2 x3 s g p e h ov og on hv hg hn (ix3 u i c) = oAt x0 x1 x2 x3 s g h i c := by
  subst eo eg en
  have hq : ∀ (off : ℕ) (ho : off + 256 ≤ 1536) (i d : Fin 128), pairOf p (vRope (zblk 256 x0 g.val off g.isLt ho) x1 x2) (ix2 i d)
      = sRope (fun a b => x0 (ix3 g a ⟨off + b.val, by omega⟩)) (fun a b => x1 (ix2 a b)) (fun a b => x2 (ix2 a b)) i
          ⟨128 * p.val + d.val, by omega⟩ := fun off ho i d => by rw [pairOf_at, vRope_at]; rfl
  have hs : ∀ d e : Fin 128, shapeCast S128x128 (sblk s g p) shapeCasts_S1x128x128_S128x128 (ix2 d e) = s (ix4 g p d e) := by
    intro d e; pointwise; rfl
  have hqq : ∀ (i d : Fin 128), pairOf p (vRopeQ (zblk 256 x0 g.val 0 g.isLt (by decide)) x1 x2) (ix2 i d)
      = sRope (fun a b => x0 (ix3 g a ⟨b.val, by omega⟩)) (fun a b => x1 (ix2 a b)) (fun a b => x2 (ix2 a b)) i
          ⟨128 * p.val + d.val, by omega⟩ * Ideal.ofBits .f32 0x3E000000#32 := fun i d => by
    rw [pairOf_at]; unfold vRopeQ; pointwise [vRope_at]
    congr 2; funext a b; rw [zblk_at]; congr 2; exact Fin.ext (Nat.zero_add _)
  unfold oPay oForm
  rw [vNorm_at]
  unfold oAt
  congr 1
  funext c
  match e, hh with
  | ⟨0, _⟩, hh =>
    show vO (lgc h) (vMask k0_pay9 _) _ _ _ (ix2 i c) = _
    rw [vO_lo]
    simp only [hq, hqq, hs]
    congr 1
    · funext i d; exact congrArg (fun t => sRope _ _ _ i t * _) (Fin.ext (by simp at hh ⊢; omega))
    · funext i d; exact congrArg (fun t => sRope _ _ _ i t) (Fin.ext (by simp at hh ⊢; omega))
    · funext d e; unfold Sh; congr 2
      · exact Fin.ext (by simp at hh ⊢; omega)
      · exact Fin.ext (by simp at hh ⊢; omega)
  | ⟨1, _⟩, hh =>
    show vO (lgc h) (vMask (xori k0_pay9 (constantI S128x128 1 1#1)) _) _ _ _ (ix2 i c) = _
    rw [vO_hi]
    simp only [hq, hqq, hs]
    congr 1
    · funext i d; exact congrArg (fun t => sRope _ _ _ i t * _) (Fin.ext (by simp at hh ⊢; omega))
    · funext i d; exact congrArg (fun t => sRope _ _ _ i t) (Fin.ext (by simp at hh ⊢; omega))
    · funext d e; unfold Sh; congr 2
      · exact Fin.ext (by simp at hh ⊢; omega)
      · exact Fin.ext (by simp at hh ⊢; omega)

theorem sPay_at (g : Fin 4) (p : Fin 2) (h0 h1 : Fin 4) (e0 : h0.val = 2 * p.val) (e1 : h1.val = 2 * p.val + 1) (o0 o1 : ℕ) (hv : _) (hg : _)
    (eo : o0 = 512 + 128 * h0.val) (eg : o1 = 512 + 128 * h1.val) (u : Fin 1) (d e : Fin 128) :
    sPay x0 x1 x2 s g p h0 h1 o0 o1 hv hg (ix3 u d e)
      = nAt x0 x1 x2 s g ⟨2 * p.val + d.val / 64, by omega⟩ ⟨d.val % 64, Nat.mod_lt _ (by decide)⟩ e := by
  subst eo eg
  have hq : ∀ (off : ℕ) (ho : off + 256 ≤ 1536) (i d : Fin 128), pairOf p (vRope (zblk 256 x0 g.val off g.isLt ho) x1 x2) (ix2 i d)
      = sRope (fun a b => x0 (ix3 g a ⟨off + b.val, by omega⟩)) (fun a b => x1 (ix2 a b)) (fun a b => x2 (ix2 a b)) i
          ⟨128 * p.val + d.val, by omega⟩ := fun off ho i d => by rw [pairOf_at, vRope_at]; rfl
  have hs : ∀ d e : Fin 128, shapeCast S128x128 (sblk s g p) shapeCasts_S1x128x128_S128x128 (ix2 d e) = s (ix4 g p d e) := by
    intro d e; pointwise; rfl
  unfold sPay sForm
  by_cases hd : d.val < 64
  · obtain ⟨d', rfl⟩ : ∃ d' : Fin 64, d = ⟨d'.val, d'.isLt.trans (by decide)⟩ := ⟨⟨d.val, hd⟩, rfl⟩
    rw [vS_lo]
    refine Eq.trans ?_ (congrArg₂ (fun h d => nAt x0 x1 x2 s g h d e) (x := h0) (y := d')
      (Fin.ext (show h0.val = 2 * p.val + d'.val / 64 by omega)) (Fin.ext (show d'.val = d'.val % 64 by omega)))
    show _ = nAt x0 x1 x2 s g h0 d' e
    unfold nAt
    simp only [hq, hs]
    congr 1
    · funext i d; exact congrArg (fun t => sRope _ _ _ i t) (Fin.ext (by simp; omega))
    · funext d e; unfold Sh; congr 2
      · exact Fin.ext (by simp; omega)
      · exact Fin.ext (by simp; omega)
  · obtain ⟨d', rfl⟩ : ∃ d' : Fin 64, d = ⟨64 + d'.val, Nat.add_lt_add_left d'.isLt 64⟩ := ⟨⟨d.val - 64, by omega⟩, Fin.ext (by simp; omega)⟩
    rw [vS_hi]
    refine Eq.trans ?_ (congrArg₂ (fun h d => nAt x0 x1 x2 s g h d e) (x := h1) (y := d')
      (Fin.ext (show h1.val = 2 * p.val + (64 + d'.val) / 64 by omega)) (Fin.ext (show d'.val = (64 + d'.val) % 64 by omega)))
    show _ = nAt x0 x1 x2 s g h1 d' e
    unfold nAt
    simp only [hq, hs]
    congr 1
    · funext i d; exact congrArg (fun t => sRope _ _ _ i t) (Fin.ext (by simp; omega))
    · funext d e; unfold Sh; congr 2
      · exact Fin.ext (by simp; omega)
      · exact Fin.ext (by simp; omega)

theorem stepO_at (y : S4x128x512.Idx) (g h : Fin 4) (i e : Fin 128) (h0 : (y 0).val = g.val) (h1 : (y 1).val = i.val)
    (h2 : (y 2).val = 128 * h.val + e.val) : stepO x0 x1 x2 x3 s y = oAt x0 x1 x2 x3 s g h i e := by
  unfold stepO
  congr 1
  · exact Fin.ext h0
  · exact Fin.ext (by show (y 2).val / 128 = _; omega)
  · exact Fin.ext h1
  · exact Fin.ext (by show (y 2).val % 128 = _; omega)

theorem stepS_at (y : S4x2x128x128.Idx) (g : Fin 4) (p : Fin 2) (d e : Fin 128) (h0 : (y 0).val = g.val) (h1 : (y 1).val = p.val)
    (h2 : (y 2).val = d.val) (h3 : (y 3).val = e.val) : stepS x0 x1 x2 s y
      = nAt x0 x1 x2 s g ⟨2 * p.val + d.val / 64, by omega⟩ ⟨d.val % 64, Nat.mod_lt _ (by decide)⟩ e := by
  unfold stepS
  congr 1
  · exact Fin.ext h0
  · exact Fin.ext (by show 2 * (y 1).val + (y 2).val / 64 = _; simp only [h1, h2])
  · exact Fin.ext (by show (y 2).val % 64 = _; simp only [h2])
  · exact Fin.ext h3

/-- One piece of the output block, read where it lands. -/
theorem oPiece (g : Fin 4) (p e : Fin 2) (h : Fin 4) (hh : h.val = 2 * p.val + e.val) (ov og on : ℕ) (hv : _) (hg : _) (hn : _)
    (eo : ov = 512 + 128 * h.val) (eg : og = 1024 + 128 * h.val) (en : on = 128 * h.val) (inb : _)
    (x : (Rect.unit (s := S4x128x512) ![g.val, 0, on] S1x128x128.size inb).shape.Idx) :
    oPay x0 x1 x2 x3 s g p e h ov og on hv hg hn x
      = stepO x0 x1 x2 x3 s ((Rect.unit (s := S4x128x512) ![g.val, 0, on] S1x128x128.size inb).emb x) := by
  have b0 : (x 0).val < 1 := (x 0).isLt
  have hx : x = ix3 (x 0) (x 1) (x 2) := by
    funext a
    match a with
    | ⟨0, _⟩ => rfl
    | ⟨1, _⟩ => rfl
    | ⟨2, _⟩ => rfl
  refine (congrArg (oPay x0 x1 x2 x3 s g p e h ov og on hv hg hn) hx).trans
    ((oPay_at x0 x1 x2 x3 s g p e h hh ov og on hv hg hn eo eg en (x 0) (x 1) (x 2)).trans
      (stepO_at x0 x1 x2 x3 s _ g h (x 1) (x 2) ?_ ?_ ?_).symm)
  · show g.val + 1 * (x 0).val = _; omega
  · show 0 + 1 * (x 1).val = (x 1).val; omega
  · show on + 1 * (x 2).val = 128 * h.val + (x 2).val; omega

/-- One piece of the state, read where it lands. -/
theorem sPiece (g : Fin 4) (p : Fin 2) (h0 h1 : Fin 4) (e0 : h0.val = 2 * p.val) (e1 : h1.val = 2 * p.val + 1) (o0 o1 : ℕ) (hv : _) (hg : _)
    (eo : o0 = 512 + 128 * h0.val) (eg : o1 = 512 + 128 * h1.val) (i1 : _) (i2 : _) (w1 : _) (w2 : _) (w3 : _) (hR : _)
    (x : ((Rect.unit (s := S4x2x128x128) ![g.val, 0, 0, 0] S1x2x128x128.size i1).within
      ((Rect.unit (s := S2x128x128) ![p.val, 0, 0] S1x128x128.size i2).consLift ![1, 2, 128, 128] w1 w2) w3).shape.Idx) :
    Rect.payAlong (r := Rect.unit (s := S2x128x128) ![p.val, 0, 0] S1x128x128.size i2) hR
        (sPay x0 x1 x2 s g p h0 h1 o0 o1 hv hg) x
      = stepS x0 x1 x2 s (((Rect.unit (s := S4x2x128x128) ![g.val, 0, 0, 0] S1x2x128x128.size i1).within
      ((Rect.unit (s := S2x128x128) ![p.val, 0, 0] S1x128x128.size i2).consLift ![1, 2, 128, 128] w1 w2) w3).emb x) := by
  have b0 : (x 0).val < 1 := (x 0).isLt
  have b1 : (x 1).val < 1 := (x 1).isLt
  have b2 : (x 2).val < 128 := (x 2).isLt
  have b3 : (x 3).val < 128 := (x 3).isLt
  refine (Rect.payAlong_consLift (Rect.unit (s := S2x128x128) ![p.val, 0, 0] S1x128x128.size i2) ![1, 2, 128, 128] w1 w2 _ hR x
    (ix3 (x 1) (x 2) (x 3)) ?_).trans ?_
  · intro a
    match a with
    | ⟨0, _⟩ => rfl
    | ⟨1, _⟩ => rfl
    | ⟨2, _⟩ => rfl
  refine (sPay_at x0 x1 x2 s g p h0 h1 e0 e1 o0 o1 hv hg eo eg (x 1) (x 2) (x 3)).trans (stepS_at x0 x1 x2 s _ g p (x 2) (x 3) ?_ ?_ ?_ ?_).symm
  · show (g.val + 0) + 1 * (x 0).val = g.val; omega
  · show (0 + p.val) + 1 * (x 1).val = p.val; omega
  · show (0 + 0) + 1 * (x 2).val = (x 2).val; omega
  · show (0 + 0) + 1 * (x 3).val = (x 3).val; omega

end

section

variable (i : grid0.Coords) (x0 : Vec Ideal S4x128x1536 .f32) (x1 x2 : Vec Ideal S128x256 .f32) (x3 : Vec Ideal S1x512 .f32)
  (x4 xs : Vec Ideal S4x2x128x128 .f32)

theorem oList_pieces : ∀ q ∈ (oList i x0 x1 x2 x3 x4 xs), ∀ x : q.1.shape.Idx, q.2 x = (stepO x0 x1 x2 x3 (sIn i x4 xs)) (q.1.emb x) := by
  intro q hq x
  simp only [oList, List.mem_cons, List.not_mem_nil, or_false] at hq
  rcases hq with rfl | rfl | rfl | rfl | rfl | rfl | rfl | rfl | rfl | rfl | rfl | rfl | rfl | rfl | rfl | rfl
  · exact oPiece x0 x1 x2 x3 (sIn i x4 xs) 3 1 1 3 rfl 896 1408 384 _ _ _ rfl rfl rfl inb_S4x128x512_S1x128x128_3_0_384 x
  · exact oPiece x0 x1 x2 x3 (sIn i x4 xs) 3 1 0 2 rfl 768 1280 256 _ _ _ rfl rfl rfl inb_S4x128x512_S1x128x128_3_0_256 x
  · exact oPiece x0 x1 x2 x3 (sIn i x4 xs) 3 0 1 1 rfl 640 1152 128 _ _ _ rfl rfl rfl inb_S4x128x512_S1x128x128_3_0_128 x
  · exact oPiece x0 x1 x2 x3 (sIn i x4 xs) 3 0 0 0 rfl 512 1024 0 _ _ _ rfl rfl rfl inb_S4x128x512_S1x128x128_3_0_0 x
  · exact oPiece x0 x1 x2 x3 (sIn i x4 xs) 2 1 1 3 rfl 896 1408 384 _ _ _ rfl rfl rfl inb_S4x128x512_S1x128x128_2_0_384 x
  · exact oPiece x0 x1 x2 x3 (sIn i x4 xs) 2 1 0 2 rfl 768 1280 256 _ _ _ rfl rfl rfl inb_S4x128x512_S1x128x128_2_0_256 x
  · exact oPiece x0 x1 x2 x3 (sIn i x4 xs) 2 0 1 1 rfl 640 1152 128 _ _ _ rfl rfl rfl inb_S4x128x512_S1x128x128_2_0_128 x
  · exact oPiece x0 x1 x2 x3 (sIn i x4 xs) 2 0 0 0 rfl 512 1024 0 _ _ _ rfl rfl rfl inb_S4x128x512_S1x128x128_2_0_0 x
  · exact oPiece x0 x1 x2 x3 (sIn i x4 xs) 1 1 1 3 rfl 896 1408 384 _ _ _ rfl rfl rfl inb_S4x128x512_S1x128x128_1_0_384 x
  · exact oPiece x0 x1 x2 x3 (sIn i x4 xs) 1 1 0 2 rfl 768 1280 256 _ _ _ rfl rfl rfl inb_S4x128x512_S1x128x128_1_0_256 x
  · exact oPiece x0 x1 x2 x3 (sIn i x4 xs) 1 0 1 1 rfl 640 1152 128 _ _ _ rfl rfl rfl inb_S4x128x512_S1x128x128_1_0_128 x
  · exact oPiece x0 x1 x2 x3 (sIn i x4 xs) 1 0 0 0 rfl 512 1024 0 _ _ _ rfl rfl rfl inb_S4x128x512_S1x128x128_1_0_0 x
  · exact oPiece x0 x1 x2 x3 (sIn i x4 xs) 0 1 1 3 rfl 896 1408 384 _ _ _ rfl rfl rfl inb_S4x128x512_S1x128x128_0_0_384 x
  · exact oPiece x0 x1 x2 x3 (sIn i x4 xs) 0 1 0 2 rfl 768 1280 256 _ _ _ rfl rfl rfl inb_S4x128x512_S1x128x128_0_0_256 x
  · exact oPiece x0 x1 x2 x3 (sIn i x4 xs) 0 0 1 1 rfl 640 1152 128 _ _ _ rfl rfl rfl inb_S4x128x512_S1x128x128_0_0_128 x
  · exact oPiece x0 x1 x2 x3 (sIn i x4 xs) 0 0 0 0 rfl 512 1024 0 _ _ _ rfl rfl rfl inb_S4x128x512_S1x128x128_0_0_0 x

theorem oList_cover (y : S4x128x512.Idx) : ∃ q ∈ (oList i x0 x1 x2 x3 x4 xs), y ∈ q.1.set :=
  View.cover_of_tiledL ((oList i x0 x1 x2 x3 x4 xs)) S1x128x128.size (by sl_kernel_rfl) y

/-- Stored into a whole buffer, the pieces read as the step. -/
theorem oList_read {κ : Kind} {sp : Space} (v : View sig κ sp S4x128x512 .bf16) (f : v.ty.Contents (Elt Ideal)) :
    v.read (Elt Ideal) (v.writes (Elt Ideal) f ((oList i x0 x1 x2 x3 x4 xs))) = (stepO x0 x1 x2 x3 (sIn i x4 xs)) :=
  funext fun y => View.read_writes_apply_of_pieces v f _ _ (oList_pieces i x0 x1 x2 x3 x4 xs) y (oList_cover i x0 x1 x2 x3 x4 xs y)

theorem sList_pieces : ∀ q ∈ (sList i x0 x1 x2 x4 xs), ∀ x : q.1.shape.Idx, q.2 x = (stepS x0 x1 x2 (sIn i x4 xs)) (q.1.emb x) := by
  intro q hq x
  simp only [sList, List.mem_cons, List.not_mem_nil, or_false] at hq
  rcases hq with rfl | rfl | rfl | rfl | rfl | rfl | rfl | rfl
  · exact sPiece x0 x1 x2 (sIn i x4 xs) 3 1 2 3 rfl rfl 768 896 _ _ rfl rfl inb_S4x2x128x128_S1x2x128x128_3_0_0_0 inb_S2x128x128_S1x128x128_1_0_0 rfl (by decide) (fun _ => rfl) rfl x
  · exact sPiece x0 x1 x2 (sIn i x4 xs) 3 0 0 1 rfl rfl 512 640 _ _ rfl rfl inb_S4x2x128x128_S1x2x128x128_3_0_0_0 inb_S2x128x128_S1x128x128_0_0_0 rfl (by decide) (fun _ => rfl) rfl x
  · exact sPiece x0 x1 x2 (sIn i x4 xs) 2 1 2 3 rfl rfl 768 896 _ _ rfl rfl inb_S4x2x128x128_S1x2x128x128_2_0_0_0 inb_S2x128x128_S1x128x128_1_0_0 rfl (by decide) (fun _ => rfl) rfl x
  · exact sPiece x0 x1 x2 (sIn i x4 xs) 2 0 0 1 rfl rfl 512 640 _ _ rfl rfl inb_S4x2x128x128_S1x2x128x128_2_0_0_0 inb_S2x128x128_S1x128x128_0_0_0 rfl (by decide) (fun _ => rfl) rfl x
  · exact sPiece x0 x1 x2 (sIn i x4 xs) 1 1 2 3 rfl rfl 768 896 _ _ rfl rfl inb_S4x2x128x128_S1x2x128x128_1_0_0_0 inb_S2x128x128_S1x128x128_1_0_0 rfl (by decide) (fun _ => rfl) rfl x
  · exact sPiece x0 x1 x2 (sIn i x4 xs) 1 0 0 1 rfl rfl 512 640 _ _ rfl rfl inb_S4x2x128x128_S1x2x128x128_1_0_0_0 inb_S2x128x128_S1x128x128_0_0_0 rfl (by decide) (fun _ => rfl) rfl x
  · exact sPiece x0 x1 x2 (sIn i x4 xs) 0 1 2 3 rfl rfl 768 896 _ _ rfl rfl inb_S4x2x128x128_S1x2x128x128_0_0_0_0 inb_S2x128x128_S1x128x128_1_0_0 rfl (by decide) (fun _ => rfl) rfl x
  · exact sPiece x0 x1 x2 (sIn i x4 xs) 0 0 0 1 rfl rfl 512 640 _ _ rfl rfl inb_S4x2x128x128_S1x2x128x128_0_0_0_0 inb_S2x128x128_S1x128x128_0_0_0 rfl (by decide) (fun _ => rfl) rfl x

theorem sList_cover (y : S4x2x128x128.Idx) : ∃ q ∈ (sList i x0 x1 x2 x4 xs), y ∈ q.1.set :=
  View.cover_of_tiledL ((sList i x0 x1 x2 x4 xs)) ![1, 1, 128, 128] (by sl_kernel_rfl) y

/-- Stored into a whole buffer, the pieces read as the step. -/
theorem sList_read {κ : Kind} {sp : Space} (v : View sig κ sp S4x2x128x128 .f32) (f : v.ty.Contents (Elt Ideal)) :
    v.read (Elt Ideal) (v.writes (Elt Ideal) f ((sList i x0 x1 x2 x4 xs))) = (stepS x0 x1 x2 (sIn i x4 xs)) :=
  funext fun y => View.read_writes_apply_of_pieces v f _ _ (sList_pieces i x0 x1 x2 x4 xs) y (sList_cover i x0 x1 x2 x4 xs y)

end

end Cert.KernelIdeal.Hand

end
-- ==== Proof.IdealRun.lean ====
/-
  The retention kernel's run with what it computes: at each grid point the output block and the carried
  state are the point's step on its blocks and the state carried into it, so after the run the two result
  arrays hold, block by block, these steps.
-/
module

public import proofs.«01_k».proof.Proof.IdealStep
public import proofs.«01_k».proof.Proof.IdealFrame

@[expose] public section

set_option maxRecDepth 65536
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

local notation "𝕄" => MT nD τ sig Unit (Elt Ideal) ℕ (UR sig nD τ) ℕ

/-! ## What the body leaves, as the step -/

section

variable (c : Dev nD) (i : grid0.Coords)
    (arg2 : Memref sig .tc .vmem S4x128x1536 .f32) (harg2 : arg2.IsWhole)
    (arg3 : Memref sig .tc .vmem S128x256 .f32) (harg3 : arg3.IsWhole)
    (arg4 : Memref sig .tc .vmem S128x256 .f32) (harg4 : arg4.IsWhole)
    (arg5 : Memref sig .tc .vmem S1x512 .f32) (harg5 : arg5.IsWhole)
    (arg6 : Memref sig .tc .vmem S4x2x128x128 .f32) (harg6 : arg6.IsWhole)
    (arg7 : Memref sig .tc .vmem S4x128x512 .bf16) (harg7 : arg7.IsWhole)
    (arg8 : Memref sig .tc .vmem S4x2x128x128 .f32) (harg8 : arg8.IsWhole)
    (arg9 : Memref sig .tc .vmem S4x2x128x128 .f32) (harg9 : arg9.IsWhole)
    (x0 : Vec Ideal S4x128x1536 .f32) (x1 : Vec Ideal S128x256 .f32) (x2 : Vec Ideal S128x256 .f32)
    (x3 : Vec Ideal S1x512 .f32) (x4 : Vec Ideal S4x2x128x128 .f32) (xs : Vec Ideal S4x2x128x128 .f32)

theorem out_eq : arg7.view.read (Elt Ideal) (arg7.view.writes (Elt Ideal) arg7.view.junk
      (bodyRun c i arg2 harg2 arg3 harg3 arg4 harg4 arg5 harg5 arg6 harg6 arg7 harg7 arg8 harg8 arg9 harg9 x0 x1 x2 x3 x4 xs).1.1)
    = stepO x0 x1 x2 x3 (sIn i x4 xs) := by
  rw [show (bodyRun c i arg2 harg2 arg3 harg3 arg4 harg4 arg5 harg5 arg6 harg6 arg7 harg7 arg8 harg8 arg9 harg9 x0 x1 x2 x3 x4 xs).1.1
      = bodyRun.sl.H5_16 c i arg2 harg2 arg3 harg3 arg4 harg4 arg5 harg5 arg6 harg6 arg9 harg9 x0 x1 x2 x3 x4 xs from rfl, oList_eq]
  exact oList_read i x0 x1 x2 x3 x4 xs _ _

theorem scr_eq : arg9.view.read (Elt Ideal) (arg9.view.writes (Elt Ideal) arg9.view.junk
      (bodyRun c i arg2 harg2 arg3 harg3 arg4 harg4 arg5 harg5 arg6 harg6 arg7 harg7 arg8 harg8 arg9 harg9 x0 x1 x2 x3 x4 xs).1.2.1)
    = stepS x0 x1 x2 (sIn i x4 xs) := by
  rw [show (bodyRun c i arg2 harg2 arg3 harg3 arg4 harg4 arg5 harg5 arg6 harg6 arg7 harg7 arg8 harg8 arg9 harg9 x0 x1 x2 x3 x4 xs).1.2.1
      = bodyRun.sl.HS_8 c i arg2 harg2 arg3 harg3 arg4 harg4 arg6 harg6 arg9 harg9 x0 x1 x2 x4 xs from rfl, sList_eq]
  exact sList_read i x0 x1 x2 x4 xs _ _

theorem fin_eq : (bodyRun c i arg2 harg2 arg3 harg3 arg4 harg4 arg5 harg5 arg6 harg6 arg7 harg7 arg8 harg8 arg9 harg9 x0 x1 x2 x3 x4 xs).1.2.2
    = stepS x0 x1 x2 (sIn i x4 xs) := by
  refine Eq.trans ?_ (scr_eq c i arg2 harg2 arg3 harg3 arg4 harg4 arg5 harg5 arg6 harg6 arg7 harg7 arg8 harg8 arg9 harg9 x0 x1 x2 x3 x4 xs)
  funext y
  refine congrArg (arg9.view.read (Elt Ideal) (arg9.view.writes (Elt Ideal) arg9.view.junk
    (bodyRun.sl.HS_8 c i arg2 harg2 arg3 harg3 arg4 harg4 arg6 harg6 arg9 harg9 x0 x1 x2 x4 xs))) (a₁ := (Rect.unit (s := S4x2x128x128) ![0, 0, 0, 0] S4x2x128x128.size inb_S4x2x128x128_S4x2x128x128_0_0_0_0).emb y) ?_
  exact Rect.emb_unit_full _ _

end

/-! ## The conditions at a point -/

theorem first_iff : ∀ t : Fin cfg0.N, bodyRun.sl.v2 (grid0.coords t) = 1#1 ↔ t.val % 16 = 0 := by decide +kernel
theorem last_iff : ∀ t : Fin cfg0.N, k0_cond2 (grid0.coords t) = 1#1 ↔ t.val % 16 = 15 := by decide +kernel
theorem flush6 : ∀ t : Fin cfg0.N, (cfg0.win 6).flush t = decide (t.val % 16 = 15) := by decide +kernel

variable (m : (ℓ : Loc nD τ sig) → Buf (Elt Ideal) ℓ) (ρ : Dev nD → PrngReg)

/-! ## The states -/

/-- The carried state before point `n`. -/
def Sseq (c : Dev nD) : ℕ → Vec Ideal S4x2x128x128 .f32
  | 0 => fun _ => 0
  | n + 1 => if h : n < cfg0.N then
      stepS (X0_0 m c ⟨n, h⟩) (iblk m c 1 ⟨n, h⟩) (iblk m c 2 ⟨n, h⟩) (sIn (grid0.coords ⟨n, h⟩) (iblk m c 4 ⟨n, h⟩) (Sseq c n))
    else Sseq c n

/-- The state point `t` works on. -/
def sAt (c : Dev nD) (t : Fin cfg0.N) : Vec Ideal S4x2x128x128 .f32 := sIn (grid0.coords t) (iblk m c 4 t) (Sseq m c t.val)

theorem Sseq_succ (c : Dev nD) (t : Fin cfg0.N) :
    Sseq m c (t.val + 1) = stepS (X0_0 m c t) (iblk m c 1 t) (iblk m c 2 t) (sAt m c t) := by
  show (if h : t.val < cfg0.N then _ else _) = _
  rw [dif_pos t.isLt]; rfl

/-- The region's invariant: before the first point the carried state is at anything, afterwards at what the point before left. -/
def PhiS (c : Dev nD) : ℕ → sProp 𝕄
  | 0 => Pipeline.ΦA spec0 c
  | n + 1 => iprop(iprop(owns (c : Thread nD τ) msS fullShare (Sseq m c (n + 1))) ∗ (∃ r, prngReg c r))

/-- The arrays as the region finds them, every input block as fetched, the outputs at the steps. -/
def vdats (_ : Fin 1) (c : Dev nD) : Dat τ (Elt Ideal) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => stepO (X0_0 m c t) (iblk m c 1 t) (iblk m c 2 t) (iblk m c 3 t) (sAt m c t)
    | ⟨6, _⟩ => stepS (X0_0 m c t) (iblk m c 1 t) (iblk m c 2 t) (sAt m c t)
  Φ t := PhiS m c t.val
  q _ := fullShare
  owed _ := 0

theorem vA_eq (c : Dev nD) (w : Fin cfg0.W) : (vdats m 0 c).A w = V m c (Pipeline.arrRef spec0 w) := by
  dsimp only [vdats]

theorem vafter0 (c : Dev nD) (t : Fin cfg0.N) : (vdats m 0 c).after 0 t = X0_0 m c t := by dsimp only [vdats]
theorem vafter1 (c : Dev nD) (t : Fin cfg0.N) : (vdats m 0 c).after 1 t = iblk m c 1 t := by dsimp only [vdats]
theorem vafter2 (c : Dev nD) (t : Fin cfg0.N) : (vdats m 0 c).after 2 t = iblk m c 2 t := by dsimp only [vdats]
theorem vafter3 (c : Dev nD) (t : Fin cfg0.N) : (vdats m 0 c).after 3 t = iblk m c 3 t := by dsimp only [vdats]
theorem vafter4 (c : Dev nD) (t : Fin cfg0.N) : (vdats m 0 c).after 4 t = iblk m c 4 t := by dsimp only [vdats]
theorem vafter5 (c : Dev nD) (t : Fin cfg0.N) : (vdats m 0 c).after 5 t
    = stepO (X0_0 m c t) (iblk m c 1 t) (iblk m c 2 t) (iblk m c 3 t) (sAt m c t) := by dsimp only [vdats]
theorem vafter6 (c : Dev nD) (t : Fin cfg0.N) : (vdats m 0 c).after 6 t
    = stepS (X0_0 m c t) (iblk m c 1 t) (iblk m c 2 t) (sAt m c t) := by dsimp only [vdats]

theorem vbefore0 (c : Dev nD) (t : Fin cfg0.N) (d) : (vdats m 0 c).before 0 t d = X0_0 m c t :=
  before0_0_of m (vdats m 0 c) (vA_eq m c 0) (vafter0 m c) t d
theorem vbefore1 (c : Dev nD) (t : Fin cfg0.N) (d) : (vdats m 0 c).before 1 t d = iblk m c 1 t :=
  before0_1_of m (vdats m 0 c) (vA_eq m c 1) (vafter1 m c) t d
theorem vbefore2 (c : Dev nD) (t : Fin cfg0.N) (d) : (vdats m 0 c).before 2 t d = iblk m c 2 t :=
  before0_2_of m (vdats m 0 c) (vA_eq m c 2) (vafter2 m c) t d
theorem vbefore3 (c : Dev nD) (t : Fin cfg0.N) (d) : (vdats m 0 c).before 3 t d = iblk m c 3 t :=
  before0_3_of m (vdats m 0 c) (vA_eq m c 3) (vafter3 m c) t d
theorem vbefore4 (c : Dev nD) (t : Fin cfg0.N) (d) : (vdats m 0 c).before 4 t d = iblk m c 4 t :=
  before0_4_of m (vdats m 0 c) (vA_eq m c 4) (vafter4 m c) t d

/-- Before any point the invariant hands over the carried state, at what the point works on when it is not a group's first. -/
theorem Phi_in (c : Dev nD) (t : Fin cfg0.N) : (vdats m 0 c).Φ t.castSucc
    ⊢ iprop((∃ d, ⌜sIn (grid0.coords t) (iblk m c 4 t) d = sAt m c t⌝ ∗ owns (c : Thread nD τ) msS fullShare d) ∗ (∃ r, prngReg c r)) := by
  rw [show (vdats m 0 c).Φ t.castSucc = PhiS m c t.val from rfl]
  by_cases hz : t.val = 0
  · rw [hz, show PhiS m c 0 = Pipeline.ΦA spec0 c from rfl, rest_eq]
    iintro ⟨⟨%ds, HS⟩, Hg⟩
    isplitl [HS]
    · iexists ds
      isplitr
      · ipureintro
        unfold sAt sIn
        rw [if_pos ((first_iff t).mpr (by omega)), if_pos ((first_iff t).mpr (by omega))]
      iexact HS
    iexact Hg
  · obtain ⟨n, hn⟩ : ∃ n, t.val = n + 1 := ⟨t.val - 1, by omega⟩
    rw [hn, show PhiS m c (n + 1) = iprop(iprop(owns (c : Thread nD τ) msS fullShare (Sseq m c (n + 1))) ∗ (∃ r, prngReg c r)) from rfl, ← hn]
    iintro ⟨HS, Hg⟩
    isplitl [HS]
    · iexists _
      isplitr
      swap; · iexact HS
      ipureintro; rfl
    iexact Hg

/-! ## The body at a point -/

theorem idle6 (t : Fin cfg0.N) : cfg0.idle 6 (cfg0.grid.coords t) = !(k0_cond2 (grid0.coords t) == 1#1) := rfl

/-- The final state's buffer at a group's last chunk, -/
theorem leaves6_last (c : Dev nD) (t : Fin cfg0.N) (h : t.val % 16 = 15) : (vdats m 0 c).leavesExact 6 t
    = owns (c : Thread nD τ) (ms6 t) fullShare (stepS (X0_0 m c t) (iblk m c 1 t) (iblk m c 2 t) (sAt m c t)) := by
  unfold Dat.leavesExact
  rw [idle6, (last_iff t).mpr h]
  exact congrArg (owns (c : Thread nD τ) (ms6 t) fullShare) (vafter6 m c t)

/-- and at the others. -/
theorem leaves6_idle (c : Dev nD) (t : Fin cfg0.N) (h : ¬t.val % 16 = 15) : (vdats m 0 c).leavesExact 6 t
    = iprop(∃ d, owns (c : Thread nD τ) (ms6 t) fullShare ((vdats m 0 c).before 6 t d)) := by
  refine Dat.leavesExact_idle _ 6 t ?_ ?_
  · rw [idle6]
    have : ¬k0_cond2 (grid0.coords t) = 1#1 := fun h' => h ((last_iff t).mp h')
    simp [this]
  · rw [flush6]; exact decide_eq_false h

/-- What the body is given at point `t`, window by window. -/
def vpre (c : Dev nD) (t : Fin cfg0.N) : sProp 𝕄 :=
  iprop((vdats m 0 c).Φ t.castSucc ∗ (vdats m 0 c).owesAt () t.castSucc
    ∗ (∃ d, owns (c : Thread nD τ) (ms0 t) fullShare ((vdats m 0 c).before 0 t d))
    ∗ (∃ d, owns (c : Thread nD τ) (ms1 t) fullShare ((vdats m 0 c).before 1 t d))
    ∗ (∃ d, owns (c : Thread nD τ) (ms2 t) fullShare ((vdats m 0 c).before 2 t d))
    ∗ (∃ d, owns (c : Thread nD τ) (ms3 t) fullShare ((vdats m 0 c).before 3 t d))
    ∗ (∃ d, owns (c : Thread nD τ) (ms4 t) fullShare ((vdats m 0 c).before 4 t d))
    ∗ (∃ d, owns (c : Thread nD τ) (ms5 t) fullShare ((vdats m 0 c).before 5 t d))
    ∗ (∃ d, owns (c : Thread nD τ) (ms6 t) fullShare ((vdats m 0 c).before 6 t d)))

/-- What it gives back. -/
def vpost (c : Dev nD) (t : Fin cfg0.N) : sProp 𝕄 :=
  iprop((vdats m 0 c).Φ t.succ ∗ (vdats m 0 c).owesAt () t.succ
    ∗ owns (c : Thread nD τ) (ms0 t) fullShare ((vdats m 0 c).after 0 t)
    ∗ owns (c : Thread nD τ) (ms1 t) fullShare ((vdats m 0 c).after 1 t)
    ∗ owns (c : Thread nD τ) (ms2 t) fullShare ((vdats m 0 c).after 2 t)
    ∗ owns (c : Thread nD τ) (ms3 t) fullShare ((vdats m 0 c).after 3 t)
    ∗ owns (c : Thread nD τ) (ms4 t) fullShare ((vdats m 0 c).after 4 t)
    ∗ owns (c : Thread nD τ) (ms5 t) fullShare ((vdats m 0 c).after 5 t)
    ∗ (vdats m 0 c).leavesExact 6 t)

set_option maxHeartbeats 1600000 in
theorem vbody (c : Dev nD) (t : Fin cfg0.N) :
    vpre m c t ⊢ wp Idealize.ShloMosaic.frame (wpE (defs₀ (F := Ideal)) Variants.none c none) Set.univ (bodyAt0 t) (fun _ => vpost m c t) := by
  have hpre : vpre m c t ⊢ iprop((iprop((∃ d, ⌜sIn (grid0.coords t) (iblk m c 4 t) d = sAt m c t⌝ ∗ owns (c : Thread nD τ) msS fullShare d) ∗ (∃ r, prngReg c r)))
    ∗ (vdats m 0 c).owesAt () t.castSucc
    ∗ (∃ d, owns (c : Thread nD τ) (ms0 t) fullShare ((vdats m 0 c).before 0 t d))
    ∗ (∃ d, owns (c : Thread nD τ) (ms1 t) fullShare ((vdats m 0 c).before 1 t d))
    ∗ (∃ d, owns (c : Thread nD τ) (ms2 t) fullShare ((vdats m 0 c).before 2 t d))
    ∗ (∃ d, owns (c : Thread nD τ) (ms3 t) fullShare ((vdats m 0 c).before 3 t d))
    ∗ (∃ d, owns (c : Thread nD τ) (ms4 t) fullShare ((vdats m 0 c).before 4 t d))
    ∗ (∃ d, owns (c : Thread nD τ) (ms5 t) fullShare ((vdats m 0 c).before 5 t d))
    ∗ (∃ d, owns (c : Thread nD τ) (ms6 t) fullShare ((vdats m 0 c).before 6 t d))) := by
    unfold vpre
    iintro ⟨HP, HR⟩
    isplitl [HP]
    · iapply (Phi_in m c t); iexact HP
    iexact HR
  refine hpre.trans ?_
  unfold vpost bodyAt0
  simp only [vbefore0, vbefore1, vbefore2, vbefore3, vbefore4]
  rw [show (vdats m 0 c).owesAt () t.succ = (vdats m 0 c).owesAt () t.castSucc from rfl,
    show (vdats m 0 c).Φ t.succ = iprop(iprop(owns (c : Thread nD τ) msS fullShare (Sseq m c (t.val + 1))) ∗ (∃ r, prngReg c r)) from rfl,
    vafter0, vafter1, vafter2, vafter3, vafter4, vafter5, Sseq_succ]
  iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%d6, H6⟩⟩
  iapply ((bodyRun c (grid0.coords t) (ms0 t) (hs0 t) (ms1 t) (hs1 t) (ms2 t) (hs2 t) (ms3 t) (hs3 t) (ms4 t) (hs4 t)
    (ms5 t) (hs5 t) (ms6 t) (hs6 t) msS (Memref.isWhole_whole _) (X0_0 m c t) (iblk m c 1 t) (iblk m c 2 t) (iblk m c 3 t) (iblk m c 4 t) ds).2
      ((vdats m 0 c).before 6 t d6) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  rw [out_eq, scr_eq, fin_eq, hds]
  iintro ⟨H0, H1, H2, H3, H4, H5, H6, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  by_cases hl : t.val % 16 = 15
  · rw [leaves6_last m c t hl, if_pos ((last_iff t).mpr hl)]
    iexact H6
  · rw [leaves6_idle m c t hl, if_neg (fun h => hl ((last_iff t).mp h))]
    iexists d6; iexact H6

theorem vobligation (c : Dev nD) :
    BodyObligation (vdats m 0 c) (defs₀ (F := Ideal)) Variants.none () Set.univ := fun t => by
  rw [bigSep_W0, bigSep_W0, row_eq]
  exact triple_restated (vbody m c t) rfl .rfl fun _ => .rfl

/-! ## The run -/

/-- After the last point the carried state's contents are forgotten. -/
theorem Phi_out (c : Dev nD) : (vdats m 0 c).Φ (Fin.last cfg0.N) ⊢ Pipeline.ΦA spec0 c := by
  rw [show (vdats m 0 c).Φ (Fin.last cfg0.N) = PhiS m c 32 from rfl,
    show PhiS m c 32 = iprop(iprop(owns (c : Thread nD τ) msS fullShare (Sseq m c 32)) ∗ (∃ r, prngReg c r)) from rfl, rest_eq]
  iintro ⟨HS, Hg⟩
  isplitl [HS]
  · iexists _; iexact HS
  iexact Hg

-- the run's configuration is found by unifying its conclusion with this statement
set_option backward.isDefEq.respectTransparency.types false in
theorem vrun : θ_run defs (onTc (τ := τ) (main (F := Ideal))) (s₀ m ρ) (fun r =>
    Pipeline.FramePost cfgs (vdats m) (0 : Fin 1) (V m) r ∧ r.2.sem = fun _ => 0) :=
  Pipeline.θ_run_frame_track (Q' := _) cfgs (vdats m) (0 : Fin 1) launch0 defs₀ Variants.none m ρ main
    (hbody := fun c => (vobligation m c).loose) (hshare := fun c => (vdats m 0 c).share_full fun _ => rfl)
    (howed := fun _ _ => rfl) (V := V m) (hmain := hmain m Variants.none) (hA := vA_eq m)
    (hin := fun _ => .rfl) (hout := Phi_out m)

end Cert.KernelIdeal.Hand

end
-- ==== Proof.IdealHost.lean ====
/-
  What the retention kernel's host part hands its region: the tables of cosines and sines, the zero state
  and the gains, at an index.
-/
module

public import proofs.«01_k».proof.Proof.IdealRun
public import proofs.«01_k».proof.Proof.Whole
public import Idealize.ShloMosaic.Lib.StableHlo.RunRead
public import Idealize.ShloMosaic.Lib.Pipeline.ValueKit.Geometry

@[expose] public section

set_option maxRecDepth 65536
set_option maxHeartbeats 4000000

noncomputable section

namespace Cert.KernelIdeal.Hand

open Cert.KernelIdeal.Gen
open Idealize.ShloMosaic Idealize.ShloMosaic.TcCoe Idealize.ShloMosaic.Tactic Idealize.SL.Sem
open Idealize.ShloMosaic.StableHlo

/-- An array of the kernel's, as a vector over the extended reals. -/
abbrev vec (s : Shape) (x : FVec Ideal s .f32) : FVec Ideal s .f32 := x

variable (m : (ℓ : Loc nD τ sig) → Buf (Elt Ideal) ℓ)

/-- The angles, as the host part computes them. -/
def angT : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

/-- Two halves of a head's lanes side by side, the same for the four heads. -/
def tab (a b : FVec Ideal S2048x32 .f32) : FVec Ideal S2048x256 .f32 :=
  shapeCast S2048x256 (broadcastInDim S1x2048x4x64 ![0, 1, 2, 3] bcast_S1x2048x1x64_S1x2048x4x64_0_1_2_3
    (shapeCast S1x2048x1x64 (concatenate S2048x64 1 [⟨S2048x32, a⟩, ⟨S2048x32, b⟩] concatenates_S2048x32_S2048x32_S2048x64_d1) shapeCasts_S2048x64_S1x2048x1x64)) shapeCasts_S1x2048x4x64_S2048x256

theorem angT_at (t : Fin 2048) (f : Fin 32) : angT (ix2 t f) = Cert.Retention.ang t f := by
  unfold angT
  pointwise
  rfl

theorem tab_at (a b : FVec Ideal S2048x32 .f32) (t : Fin 2048) (k : Fin 256) :
    tab a b (ix2 t k) = if k.val % 64 < 32 then a (ix2 t ⟨k.val % 32, Nat.mod_lt _ (by decide)⟩)
        else b (ix2 t ⟨k.val % 32, Nat.mod_lt _ (by decide)⟩) := by
  unfold tab
  pointwise
  split
  · congr 2; exact Fin.ext (by simp only; omega)
  · congr 2; exact Fin.ext (by simp only; omega)

theorem V_cos (c : Dev nD) : vec S2048x256 (V m c main_v24) = tab (Host.cos angT) (Host.cos angT) := by
  unfold V hostOps0 angT tab
  after_results_simp
  try rfl

theorem V_sin (c : Dev nD) : vec S2048x256 (V m c main_v27) = tab (Host.negf (Host.sin angT)) (Host.sin angT) := by
  unfold V hostOps0 angT tab
  after_results_simp
  try rfl

theorem V_zero (c : Dev nD) : (vec S8x2x128x128 (V m c main_v28))
    = broadcastInDim S8x2x128x128 ![] bcast_S_S8x2x128x128 (constant (F := Ideal) S_ .f32 0x00000000#32) := by
  unfold V hostOps0
  after_results_simp
  try rfl

theorem V_gain (c : Dev nD) : (vec S1x512 (V m c main_v29)) = broadcastInDim S1x512 ![1] bcast_S512_S1x512_1 (m ((c : Thread nD τ).loc main_arg1)) := by
  unfold V hostOps0
  after_results_simp
  try rfl

theorem zero_at (c : Dev nD) (y : S8x2x128x128.Idx) : (vec S8x2x128x128 (V m c main_v28)) y = (0 : EReal) := by
  rw [V_zero]
  pointwise

theorem gain_at (c : Dev nD) (u : Fin 1) (k : Fin 512) :
    (vec S1x512 (V m c main_v29)) (ix2 u k) = (vec S512 (m ((c : Thread nD τ).loc main_arg1))) (ix1 k) := by
  rw [V_gain]
  pointwise

theorem cos_at (c : Dev nD) (t : Fin 2048) (k : Fin 256) : (vec S2048x256 (V m c main_v24)) (ix2 t k)
    = Ideal.cos (Cert.Retention.ang t ⟨k.val % 32, Nat.mod_lt _ (by decide)⟩) := by
  rw [V_cos, tab_at, ite_self]
  pointwise [angT_at]

theorem sin_at (c : Dev nD) (t : Fin 2048) (k : Fin 256) : (vec S2048x256 (V m c main_v27)) (ix2 t k)
    = if k.val % 64 < 32 then -Ideal.sin (Cert.Retention.ang t ⟨k.val % 32, Nat.mod_lt _ (by decide)⟩)
      else Ideal.sin (Cert.Retention.ang t ⟨k.val % 32, Nat.mod_lt _ (by decide)⟩) := by
  rw [V_sin, tab_at]
  pointwise [angT_at]

/-! ## The blocks at coordinates -/

theorem idx0 : ∀ t : Fin cfg0.N, win0_0.index t = ![t.val / 16, t.val % 16, 0] := by decide +kernel
theorem idx1 : ∀ t : Fin cfg0.N, win0_1.index t = ![t.val % 16, 0] := by decide +kernel
theorem idx2 : ∀ t : Fin cfg0.N, win0_2.index t = ![t.val % 16, 0] := by decide +kernel
theorem idx3 : ∀ t : Fin cfg0.N, win0_3.index t = ![0, 0] := by decide +kernel
theorem idx4 : ∀ t : Fin cfg0.N, win0_4.index t = ![t.val / 16, 0, 0, 0] := by decide +kernel
theorem idx5 : ∀ t : Fin cfg0.N, win0_5.index t = ![t.val / 16, t.val % 16, 0] := by decide +kernel
theorem idx6 : ∀ t : Fin cfg0.N, win0_6.index t = ![t.val / 16, 0, 0, 0] := by decide +kernel

/-- The projected activations, by batch, position and column. -/
def zin (c : Dev nD) (b : Fin 8) (t : Fin 2048) (k : Fin 8192) : EReal :=
  (vec S8x2048x8192 (m ((c : Thread nD τ).loc main_arg0))) (ix3 b t k)

/-- The gains. -/
def gin (c : Dev nD) (k : Fin 512) : EReal := (vec S512 (m ((c : Thread nD τ).loc main_arg1))) (ix1 k)

theorem tlt (t : Fin cfg0.N) : t.val < 32 := by
  have h := t.isLt
  have hN : cfg0.N = 32 := N_0
  omega

/-- The batch element of sequence `g` at point `t`. -/
def bat (t : Fin cfg0.N) (g : Fin 4) : Fin 8 := ⟨4 * (t.val / 16) + g.val, by have h := tlt t; have := g.isLt; omega⟩

open Cert.Retention (pos)

theorem z_blk (c : Dev nD) (t : Fin cfg0.N) (g : Fin 4) (i : Fin 128) (k : Fin 1536) :
    (vec S4x128x1536 (X0_0 m c t)) (ix3 g i k) = zin m c (bat t g) (pos (t.val % 16) i) ⟨k.val, by omega⟩ := by
  show X0_0 m c t (ix3 g i k) = _
  unfold X0_0 Pipeline.Window.fill
  rw [dif_pos (moved0_0 t _)]
  blk_simp [iblk, idx0]
  rw [V_main_arg0]
  unfold zin
  refine congrArg (vec S8x2048x8192 (m ((c : Thread nD τ).loc main_arg0))) ?_
  have ht := tlt t
  unfold pos bat
  blk_ext [idx0]

theorem cos_blk (c : Dev nD) (t : Fin cfg0.N) (i : Fin 128) (k : Fin 256) :
    (vec S128x256 (iblk m c 1 t)) (ix2 i k)
      = Ideal.cos (Cert.Retention.ang (pos (t.val % 16) i) ⟨k.val % 32, Nat.mod_lt _ (by decide)⟩) := by
  refine Eq.trans ?_ (cos_at m c (pos (t.val % 16) i) k)
  show iblk m c 1 t (ix2 i k) = _
  blk_simp [iblk, idx1]
  refine congrArg (vec S2048x256 (V m c main_v24)) ?_
  have ht := tlt t
  unfold pos
  blk_ext [idx1]

theorem sin_blk (c : Dev nD) (t : Fin cfg0.N) (i : Fin 128) (k : Fin 256) :
    (vec S128x256 (iblk m c 2 t)) (ix2 i k)
      = if k.val % 64 < 32 then -Ideal.sin (Cert.Retention.ang (pos (t.val % 16) i) ⟨k.val % 32, Nat.mod_lt _ (by decide)⟩)
        else Ideal.sin (Cert.Retention.ang (pos (t.val % 16) i) ⟨k.val % 32, Nat.mod_lt _ (by decide)⟩) := by
  refine Eq.trans ?_ (sin_at m c (pos (t.val % 16) i) k)
  show iblk m c 2 t (ix2 i k) = _
  blk_simp [iblk, idx2]
  refine congrArg (vec S2048x256 (V m c main_v27)) ?_
  have ht := tlt t
  unfold pos
  blk_ext [idx2]

theorem gain_blk (c : Dev nD) (t : Fin cfg0.N) (k : Fin 512) :
    (vec S1x512 (iblk m c 3 t)) (ix2 0 k) = gin m c k := by
  refine Eq.trans ?_ (gain_at m c 0 k)
  show iblk m c 3 t (ix2 0 k) = _
  blk_simp [iblk, idx3]
  refine congrArg (vec S1x512 (V m c main_v29)) ?_
  blk_ext [idx3]

theorem zero_blk (c : Dev nD) (t : Fin cfg0.N) : iblk m c 4 t = fun _ => (0 : EReal) := by
  funext y
  exact zero_at m c _

/-! ## The step's ingredients -/

open Cert.Retention

theorem lgc_eq (h : Fin 4) : lgc h = lgv h := by
  match h with
  | 0 => exact (IdealRules.named_const.ideal_named_scalar _ _ _ _ rfl).trans (by unfold lgv; norm_num)
  | 1 => exact (IdealRules.named_const.ideal_named_scalar _ _ _ _ rfl).trans (by unfold lgv; norm_num)
  | 2 => exact (IdealRules.named_const.ideal_named_scalar _ _ _ _ rfl).trans (by unfold lgv; norm_num)
  | 3 => exact (IdealRules.named_const.ideal_named_scalar _ _ _ _ rfl).trans (by unfold lgv; norm_num)

theorem gcc_eq (h : Fin 4) : gcc h = gcv h := by
  match h with
  | 0 => exact (IdealRules.named_const.ideal_named_scalar _ _ _ _ rfl).trans (by unfold gcv; norm_num)
  | 1 => exact (IdealRules.named_const.ideal_named_scalar _ _ _ _ rfl).trans (by unfold gcv; norm_num)
  | 2 => exact (IdealRules.named_const.ideal_named_scalar _ _ _ _ rfl).trans (by unfold gcv; norm_num)
  | 3 => exact (IdealRules.named_const.ideal_named_scalar _ _ _ _ rfl).trans (by unfold gcv; norm_num)

/-- The rotation a block computes is the rotation by its rows' positions. -/
theorem rope_rot (z : Fin 8 → Fin 2048 → Fin 8192 → EReal) (off : ℕ) (ho : off ≤ 256) (b : Fin 8) (t : Fin 2048)
    (zz cc ss : Fin 128 → Fin 256 → EReal) (i : Fin 128)
    (hz : ∀ k, zz i k = z b t ⟨off + k.val, by omega⟩)
    (hc : ∀ k : Fin 256, cc i k = Ideal.cos (ang t ⟨k.val % 32, Nat.mod_lt _ (by decide)⟩))
    (hs : ∀ k : Fin 256, ss i k = if k.val % 64 < 32 then -Ideal.sin (ang t ⟨k.val % 32, Nat.mod_lt _ (by decide)⟩)
      else Ideal.sin (ang t ⟨k.val % 32, Nat.mod_lt _ (by decide)⟩))
    (h : Fin 4) (d : Fin 64) :
    sRope zz cc ss i ⟨64 * h.val + d.val, by omega⟩ = rot z off ho b t h d := by
  unfold sRope rot
  have e : (64 * h.val + d.val) % 64 = d.val := by omega
  by_cases hd : d.val < 32
  · rw [if_pos (show (64 * h.val + d.val) % 64 < 32 by omega), dif_pos hd, hz, hz, hc, hs, if_pos (show (64 * h.val + d.val) % 64 < 32 by omega)]
    rw [mul_neg, sub_eq_add_neg]
    have ea : (⟨(64 * h.val + d.val) % 32, Nat.mod_lt _ (by decide)⟩ : Fin 32) = ⟨d.val, hd⟩ := Fin.ext (by simp only; omega)
    have e1 : (⟨off + (64 * h.val + d.val), by omega⟩ : Fin 8192) = ⟨off + 64 * h.val + d.val, by omega⟩ := Fin.ext (by simp only; omega)
    have e2 : (⟨off + (64 * h.val + d.val + 32) % 256, by omega⟩ : Fin 8192) = ⟨off + 64 * h.val + (d.val + 32), by omega⟩ := Fin.ext (by simp only; omega)
    simp only [ea, e1, e2]
  · rw [if_neg (show ¬(64 * h.val + d.val) % 64 < 32 by omega), dif_neg hd, hz, hz, hc, hs, if_neg (show ¬(64 * h.val + d.val) % 64 < 32 by omega)]
    rw [add_comm]
    have ea : (⟨(64 * h.val + d.val) % 32, Nat.mod_lt _ (by decide)⟩ : Fin 32) = ⟨d.val - 32, by omega⟩ := Fin.ext (by simp only; omega)
    have e1 : (⟨off + (64 * h.val + d.val), by omega⟩ : Fin 8192) = ⟨off + 64 * h.val + d.val, by omega⟩ := Fin.ext (by simp only; omega)
    have e2 : (⟨off + (64 * h.val + d.val + 224) % 256, by omega⟩ : Fin 8192) = ⟨off + 64 * h.val + (d.val - 32), by omega⟩ := Fin.ext (by simp only; omega)
    simp only [ea, e1, e2]

theorem qh_eq (c : Dev nD) (t : Fin cfg0.N) (g h : Fin 4) :
    qh (X0_0 m c t) (iblk m c 1 t) (iblk m c 2 t) g h = qG (zin m c) (bat t g) h (t.val % 16) := by
  funext i d
  unfold qh qG
  congr 1
  refine rope_rot (zin m c) 0 (by decide) (bat t g) (pos (t.val % 16) i) _ _ _ i (fun k => ?_) (fun k => cos_blk m c t i k) (fun k => sin_blk m c t i k) h d
  exact (z_blk m c t g i _).trans (congrArg (zin m c (bat t g) (pos (t.val % 16) i)) (Fin.ext (Nat.zero_add _).symm))

theorem kh_eq (c : Dev nD) (t : Fin cfg0.N) (g h : Fin 4) :
    kh (X0_0 m c t) (iblk m c 1 t) (iblk m c 2 t) g h = kG (zin m c) (bat t g) h (t.val % 16) := by
  funext i d
  unfold kh kG
  exact rope_rot (zin m c) 256 (by decide) (bat t g) (pos (t.val % 16) i) _ _ _ i (fun k => z_blk m c t g i _) (fun k => cos_blk m c t i k) (fun k => sin_blk m c t i k) h d

theorem vh_eq (c : Dev nD) (t : Fin cfg0.N) (g h : Fin 4) :
    vh (X0_0 m c t) g h = vG (zin m c) (bat t g) h (t.val % 16) := by
  funext j e
  exact z_blk m c t g j _

theorem zh_eq (c : Dev nD) (t : Fin cfg0.N) (g h : Fin 4) (i e : Fin 128) :
    zh (X0_0 m c t) g h i e = zin m c (bat t g) (pos (t.val % 16) i) ⟨1024 + 128 * h.val + e.val, by omega⟩ :=
  z_blk m c t g i _

theorem gh_eq (c : Dev nD) (t : Fin cfg0.N) (h : Fin 4) (e : Fin 128) :
    gh (iblk m c 3 t) h e = gin m c ⟨128 * h.val + e.val, by omega⟩ := gain_blk m c t _

/-! ## The carried states -/

/-- What a point works on: the batch's states before its chunk. -/
theorem sAt_eq (c : Dev nD) : ∀ n (hn : n < cfg0.N) (g h : Fin 4),
    Sh (sAt m c ⟨n, hn⟩) g h = stG (zin m c) (bat ⟨n, hn⟩ g) h (n % 16) := by
  intro n
  induction n with
  | zero =>
    intro hn g h
    unfold sAt sIn
    rw [if_pos ((first_iff _).mpr rfl), zero_blk]
    rfl
  | succ n ih =>
    intro hn g h
    by_cases h0 : (n + 1) % 16 = 0
    · unfold sAt sIn
      rw [if_pos ((first_iff _).mpr h0), zero_blk, h0]
      rfl
    · have hn' : n < cfg0.N := by omega
      have hb : bat ⟨n + 1, hn⟩ g = bat ⟨n, hn'⟩ g := Fin.ext (by unfold bat; simp only; omega)
      have hc : (n + 1) % 16 = n % 16 + 1 := by omega
      unfold sAt sIn
      rw [if_neg (fun h => h0 ((first_iff _).mp h)), hb, hc]
      rw [show Sseq m c (⟨n + 1, hn⟩ : Fin cfg0.N).val = _ from Sseq_succ m c ⟨n, hn'⟩]
      funext d e
      unfold Sh
      rw [stepS_at _ _ _ _ _ g ⟨h.val / 2, by omega⟩ ⟨64 * (h.val % 2) + d.val, by omega⟩ e rfl rfl rfl rfl]
      unfold nAt
      rw [lgc_eq, gcc_eq, kh_eq, vh_eq, ih hn']
      have eh : (⟨2 * (h.val / 2) + (64 * (h.val % 2) + d.val) / 64, by omega⟩ : Fin 4) = h := Fin.ext (by simp only; omega)
      have ed : (⟨(64 * (h.val % 2) + d.val) % 64, Nat.mod_lt _ (by decide)⟩ : Fin 64) = d := Fin.ext (by simp only; omega)
      simp only [eh, ed]
      rfl

theorem oAt_eq (c : Dev nD) (t : Fin cfg0.N) (g h : Fin 4) (i e : Fin 128) :
    oAt (X0_0 m c t) (iblk m c 1 t) (iblk m c 2 t) (iblk m c 3 t) (sAt m c t) g h i e
      = outG (zin m c) (gin m c) (bat t g) h (t.val % 16) i e := by
  unfold oAt outG
  rw [lgc_eq, qh_eq, kh_eq, vh_eq, sAt_eq m c t.val t.isLt]
  congr 1
  · funext e; exact gh_eq m c t h e
  · funext e; exact zh_eq m c t g h i e

theorem nAt_eq (c : Dev nD) (t : Fin cfg0.N) (g h : Fin 4) (d : Fin 64) (e : Fin 128) :
    nAt (X0_0 m c t) (iblk m c 1 t) (iblk m c 2 t) (sAt m c t) g h d e
      = stG (zin m c) (bat t g) h (t.val % 16 + 1) d e := by
  unfold nAt
  rw [lgc_eq, gcc_eq, kh_eq, vh_eq, sAt_eq m c t.val t.isLt]
  rfl

/-! ## The result arrays -/

/-- The output array of retention. -/
def outV (z : Fin 8 → Fin 2048 → Fin 8192 → EReal) (gn : Fin 512 → EReal) : FVec Ideal S8x2048x512 .bf16 :=
  fun y => outA z gn (y 0) (y 1) (y 2)

/-- The array of final states. -/
def finV (z : Fin 8 → Fin 2048 → Fin 8192 → EReal) : FVec Ideal S8x2x128x128 .f32 := fun y => finA z (y 0) (y 1) (y 2) (y 3)

theorem stepO_out (c : Dev nD) (t : Fin cfg0.N) (y : S4x128x512.Idx) (w : S8x2048x512.Idx)
    (h0 : (w 0).val = t.val / 16 * 4 + (y 0).val) (h1 : (w 1).val = t.val % 16 * 128 + (y 1).val) (h2 : (w 2).val = (y 2).val) :
    stepO (X0_0 m c t) (iblk m c 1 t) (iblk m c 2 t) (iblk m c 3 t) (sAt m c t) y = outV (zin m c) (gin m c) w := by
  have hy0 : (y 0).val < 4 := (y 0).isLt
  have hy1 : (y 1).val < 128 := (y 1).isLt
  have hy2 : (y 2).val < 512 := (y 2).isLt
  have ht := tlt t
  rw [stepO_at _ _ _ _ _ y ⟨(y 0).val, hy0⟩ ⟨(y 2).val / 128, by omega⟩ ⟨(y 1).val, hy1⟩ ⟨(y 2).val % 128, Nat.mod_lt _ (by decide)⟩ rfl rfl (by simp only; omega),
    oAt_eq]
  unfold outV outA
  have e0 : w 0 = bat t ⟨(y 0).val, hy0⟩ := Fin.ext (by unfold bat; simp only; omega)
  have e1 : (w 1).val / 128 = t.val % 16 := by omega
  have e2 : (⟨(w 1).val % 128, Nat.mod_lt _ (by decide)⟩ : Fin 128) = ⟨(y 1).val, hy1⟩ := Fin.ext (by simp only; omega)
  have e3 : (⟨(w 2).val / 128, by have : (w 2).val < 512 := (w 2).isLt; omega⟩ : Fin 4) = ⟨(y 2).val / 128, by omega⟩ := Fin.ext (by simp only; omega)
  have e4 : (⟨(w 2).val % 128, Nat.mod_lt _ (by decide)⟩ : Fin 128) = ⟨(y 2).val % 128, Nat.mod_lt _ (by decide)⟩ := Fin.ext (by simp only; omega)
  exact (by rw [e0, e1, e2, e3, e4] : outG (zin m c) (gin m c) (w 0) ⟨(w 2).val / 128, by have : (w 2).val < 512 := (w 2).isLt; omega⟩ ((w 1).val / 128)
    ⟨(w 1).val % 128, Nat.mod_lt _ (by decide)⟩ ⟨(w 2).val % 128, Nat.mod_lt _ (by decide)⟩ = _).symm

theorem stepS_fin (c : Dev nD) (t : Fin cfg0.N) (hl : t.val % 16 = 15) (y : S4x2x128x128.Idx) (w : S8x2x128x128.Idx)
    (h0 : (w 0).val = t.val / 16 * 4 + (y 0).val) (h1 : (w 1).val = (y 1).val) (h2 : (w 2).val = (y 2).val) (h3 : (w 3).val = (y 3).val) :
    stepS (X0_0 m c t) (iblk m c 1 t) (iblk m c 2 t) (sAt m c t) y = finV (zin m c) w := by
  have hy0 : (y 0).val < 4 := (y 0).isLt
  have hy1 : (y 1).val < 2 := (y 1).isLt
  have hy2 : (y 2).val < 128 := (y 2).isLt
  have hy3 : (y 3).val < 128 := (y 3).isLt
  have ht := tlt t
  rw [stepS_at _ _ _ _ y ⟨(y 0).val, hy0⟩ ⟨(y 1).val, hy1⟩ ⟨(y 2).val, hy2⟩ ⟨(y 3).val, hy3⟩ rfl rfl rfl rfl,
    nAt_eq, hl]
  have e0 : w 0 = bat t ⟨(y 0).val, hy0⟩ := Fin.ext (by unfold bat; simp only; omega)
  have e1 : w 1 = ⟨(y 1).val, hy1⟩ := Fin.ext h1
  have e2 : w 2 = ⟨(y 2).val, hy2⟩ := Fin.ext h2
  have e3 : w 3 = ⟨(y 3).val, hy3⟩ := Fin.ext h3
  exact (by rw [e0, e1, e2, e3]; rfl : finA (zin m c) (w 0) (w 1) (w 2) (w 3) = _).symm

theorem arr5 (c : Dev nD) : (vdats m 0 c).arrAt 5 cfg0.N = outV (zin m c) (gin m c) := by
  refine (vdats m 0 c).arrAt_eq_of_covers 5 _ (by decide +kernel) fun t hf y => ?_
  blk_simp
  rw [vafter5]
  refine stepO_out m c t y _ ?_ ?_ ?_ <;> blk_simp [idx5] <;> simp

theorem arr6 (c : Dev nD) : (vdats m 0 c).arrAt 6 cfg0.N = finV (zin m c) := by
  refine (vdats m 0 c).arrAt_eq_of_covers 6 _ (by decide +kernel) fun t hf y => ?_
  blk_simp
  rw [vafter6]
  refine stepS_fin m c t ((flush0_6 t).mp hf) y _ ?_ ?_ ?_ ?_ <;> blk_simp [idx6] <;> simp

variable (ρ : Dev nD → PrngReg)

/-- The kernel's run: the two results hold retention's outputs and final states, the arguments are unchanged. -/
theorem run_value : θ_run defs (onTc (τ := τ) (main (F := Ideal))) (s₀ m ρ) fun r => ∀ c : Dev nD,
      r.2.mem ((c.tc : Thread nD τ).loc main_v30_0) = outV (zin m c) (gin m c)
      ∧ r.2.mem ((c.tc : Thread nD τ).loc main_v30_1) = finV (zin m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 5).trans (arr5 m c), ((h.1 c).1 6).trans (arr6 m c),
      ((h.1 c).1 0).trans (((vdats m 0 c).arrAt_in 0 rfl _).trans ((vA_eq m c 0).trans (V_main_arg0 m c))),
      ((h.1 c).2 main_arg1 (by decide)).trans (V_main_arg1 m c)⟩)
    (vrun m ρ)

end Cert.KernelIdeal.Hand

end
-- ==== Proof.RefOut.lean ====
/-
  Retention's reference: its two results are the outputs and the final states.
-/
module

public import proofs.«01_k».proof.Proof.RefValue
public import proofs.«01_k».proof.Proof.IdealHost
public import proofs.«01_k».proof.Defs

@[expose] public section

set_option maxRecDepth 65536
set_option maxHeartbeats 4000000

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic Idealize.SL.Sem
open Idealize.ShloMosaic.StableHlo
open Cert.Retention

variable (V0 : Valuation τ sig (Elt Ideal))

/-- The output as the reference computes it. -/
def outR : FVec Ideal S8x2048x512 .bf16 :=
  truncf .bf16 (mulf (mulf (shapeCast _ (mulf (subf (res_main_v237 V0) (broadcastInDim S8x2048x4x128 ![0, 1, 2, 3] bcast_S8x2048x4x1_S8x2048x4x128_0_1_2_3 (res_main_v241 V0))) (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf (res_main_v243 V0) (res_main_v243 V0)) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x358637BD#32)))))) shapeCasts_S8x2048x4x128_S8x2048x512) (broadcastInDim S8x2048x512 ![0, 1, 2] bcast_S1x1x512_S8x2048x512_0_1_2 (broadcastInDim S1x1x512 ![2] bcast_S512_S1x1x512_2 (V0 (Proc.devRef .tc main_arg1))))) (mulf (res_main_v4 V0) (Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf (res_main_v4 V0))))))) bitsLt_bf16_f32

/-- The final states as the reference computes them. -/
def finR : FVec Ideal S8x2x128x128 .f32 :=
  shapeCast _ (addf (mulf (broadcastInDim S8x4x64x128 ![0, 1, 2, 3] bcast_S1x4x1x1_S8x4x64x128_0_1_2_3 (res_main_v125 V0)) (res_main_v200 V0)) (shapeCast _ (extractStridedSlice S8x1x4x64x128 ![0, 15, 0, 0, 0] (res_main_v121 V0) slices_S8x16x4x64x128_S8x1x4x64x128_0_15_0_0_0) shapeCasts_S8x1x4x64x128_S8x4x64x128)) shapeCasts_S8x4x64x128_S8x2x128x128

theorem v4_at (b : Fin 8) (t : Fin 2048) (k : Fin 512) :
    (vec S8x2048x512 (res_main_v4 V0)) (ix3 b t k) = zin V0 b t ⟨1024 + k.val, by omega⟩ := by
  unfold res_main_v4
  pointwise
  unfold zin
  pointwise

theorem outR_at (b : Fin 8) (t : Fin 2048) (k : Fin 512) : outR V0 (ix3 b t k) = outA (zin V0) (gin V0) b t k := by
  unfold outR
  pointwise
  have hx : ∀ x, res_main_v243 V0 (ix4 b t ⟨k.val / 128, by omega⟩ x) = cen (row V0 b t ⟨k.val / 128, by omega⟩) x :=
    fun x => v243_at V0 b t _ x
  simp only [hx]
  rw [show res_main_v237 V0 _ = _ from v237_at V0 _ _ _ _, show res_main_v241 V0 _ = _ from v241_at V0 _ _ _ _,
    show res_main_v4 V0 _ = _ from v4_at V0 _ _ _]
  unfold outA outG Cert.Retention.norm
  have e1 : (⟨128 * (k.val / 128) + k.val % 128, by omega⟩ : Fin 512) = k := Fin.ext (by simp only; omega)
  have e2 : (⟨1024 + 128 * (k.val / 128) + k.val % 128, by omega⟩ : Fin 8192) = ⟨1024 + k.val, by omega⟩ := Fin.ext (by simp only; omega)
  have e3 : pos (t.val / 128) ⟨t.val % 128, Nat.mod_lt _ (by decide)⟩ = t := Fin.ext (by simp only [pos]; omega)
  simp only [e1, e2, e3]
  rfl

theorem finR_at (b : Fin 8) (p : Fin 2) (r e : Fin 128) : finR V0 (ix4 b p r e) = finA (zin V0) b p r e := by
  unfold finR
  pointwise
  rw [show res_main_v125 V0 _ = _ from v125_at V0 _ _ _ _, show res_main_v200 V0 _ = _ from v200_at V0 _ _ _ _,
    show res_main_v121 V0 _ = _ from v121_at V0 _ _ _ _ _]
  unfold finA
  have e1 : (⟨p.val * 2 + r.val / 64, by omega⟩ : Fin 4) = ⟨2 * p.val + r.val / 64, by omega⟩ := Fin.ext (by simp only; omega)
  rw [e1]
  rfl

/-- The kernel and its reference end with equal results. -/
theorem algebraic : Cert.algebraic_KernelIdeal_ReferenceIdeal := by
  intro m ρ m' ρ' _ hagree
  have hz : ∀ c, zin (launchContents m' c) = Cert.KernelIdeal.Hand.zin m c := fun c => by
    funext b t k
    exact congrFun (hagree c).1 (ix3 b t k)
  have hg : ∀ c, gin (launchContents m' c) = Cert.KernelIdeal.Hand.gin m c := fun c => by
    funext k
    exact congrFun (hagree c).2 (ix1 k)
  refine ⟨fun c => Cert.KernelIdeal.Hand.outV (Cert.KernelIdeal.Hand.zin m c) (Cert.KernelIdeal.Hand.gin m c),
    fun c => Cert.KernelIdeal.Hand.finV (Cert.KernelIdeal.Hand.zin m c), Cert.KernelIdeal.Hand.run_value m ρ, ?_⟩
  refine (θ_run Cert.ReferenceIdeal.defs _ _).mono (fun _ h c => ⟨(h c).1.trans ?_, (h c).2.1.trans ?_, (h c).2.2.1, (h c).2.2.2⟩)
    (Cert.ReferenceIdeal.Value.run (F := Ideal) m' ρ')
  · show outR (launchContents m' c) = _
    funext y
    beta_reduce
    rw [← hz, ← hg]
    obtain ⟨b, t, k, rfl⟩ : ∃ b t k, y = ix3 b t k := ⟨y 0, y 1, y 2, by funext a; fin_cases a <;> rfl⟩
    exact outR_at _ b t k
  · show finR (launchContents m' c) = _
    funext y
    beta_reduce
    rw [← hz]
    obtain ⟨b, p, r, e, rfl⟩ : ∃ b p r e, y = ix4 b p r e := ⟨y 0, y 1, y 2, y 3, by funext a; fin_cases a <;> rfl⟩
    exact finR_at _ b p r e

end Cert.ReferenceIdeal.Hand

end
-- ==== Proof.InBody.lean ====
/-
  The input projection's kernel body at a grid point.  At a block of rows' first point it normalises the
  rows into the scratch and writes the narrow product; at every point it writes the product of the
  normalised rows with the point's columns of the weights.
-/
module

public import proofs.«01_k».proof.Proof.Gen.Kernel2Ideal.Skeleton
public import proofs.«01_k».proof.Proof.Gen.Kernel2Ideal.Frame
public import Idealize.ShloMosaic.Lib.WholeRead
public import Idealize.ShloMosaic.Lib.VecWindow

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A buffer loaded whole. -/
theorem full_at {S : Shape} {e : EltTy} (arg : Memref sig .tc .vmem S e) (harg : arg.IsWhole) (x : Vec F S e)
    (p : Fin S.rank → ℕ) (h : ∀ a, p a + S.size a ≤ S.size a) :
    View.readAt (Elt F) arg.view (Rect.unit (s := S) p S.size h).toLoadRect (harg.unread x) = x := by
  funext y
  rw [harg.readAt_unread]
  congr 1
  funext a
  exact Fin.ext (show p a + 1 * (y a).val = (y a).val by have := h a; omega)

section

variable (c : Dev nD) (i : grid0.Coords)
    (arg2 : Memref sig .tc .vmem S2048x1024 .f32) (harg2 : arg2.IsWhole) (arg3 : Memref sig .tc .vmem S1x1024 .f32) (harg3 : arg3.IsWhole)
    (arg4 : Memref sig .tc .vmem S1024x1024 .bf16) (harg4 : arg4.IsWhole) (arg5 : Memref sig .tc .vmem S1024x256 .bf16) (harg5 : arg5.IsWhole)
    (arg6 : Memref sig .tc .vmem S2048x1024 .f32) (harg6 : arg6.IsWhole) (arg7 : Memref sig .tc .vmem S2048x256 .f32) (harg7 : arg7.IsWhole)
    (arg8 : Memref sig .tc .vmem S2048x1024 .bf16) (harg8 : arg8.IsWhole)
    (x0 : Vec F S2048x1024 .f32) (x1 : Vec F S1x1024 .f32) (x2 : Vec F S1024x1024 .bf16) (x3 : Vec F S1024x256 .bf16)

set_option maxHeartbeats 4000000 in
/-- At a block of rows' first point: from the four inputs and anything in the other buffers, the body ends
    with the normalised rows in the scratch and both products written. -/
theorem bodyFirst (hc : k0_cond1 i = 1#1) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay4 (k0_pay2 x0 x1) x2)
            ∗ owns (c : Thread nD τ) arg7 fullShare (k0_pay3 x0 x1 x3)
            ∗ owns (c : Thread nD τ) arg8 fullShare (k0_pay2 x0 x1)) -∗ K ⟨⟩))
      ⊢ wp frame (wpE (defs₀ (F := F)) Variants.none c none) E
          (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds, %fs, -, HS⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full (Val := Elt F) _ _ _ _ _).trans ?_
    rw [full_at arg4 harg4]
    refine congrArg (k0_pay4 · x2) ?_
    unfold bodyFirst.sl.v3
    refine (View.readCov_full (Val := Elt F) _ _ _ _ _).trans ?_
    rw [full_at arg2 harg2, full_at arg3 harg3]
  isplitl [H5]
  · iexists _; isplitr; swap; · iexact H5
    ipureintro
    refine (View.read_writes_full (Val := Elt F) _ _ _ _ _).trans ?_
    rw [full_at arg5 harg5, full_at arg2 harg2, full_at arg3 harg3]
  iexists _; isplitr; swap; · iexact HS
  ipureintro
  refine (View.read_writes_full (Val := Elt F) _ _ _ _ _).trans ?_
  rw [full_at arg2 harg2, full_at arg3 harg3]

set_option maxHeartbeats 4000000 in
/-- At the other points: the scratch's rows times the point's columns; the narrow product is not touched. -/
theorem bodyNext (hc : ¬k0_cond1 i = 1#1) (xs : Vec F S2048x1024 .bf16) (y : Vec F S2048x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare y
        ∗ owns (c : Thread nD τ) arg8 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay4 xs x2)
            ∗ owns (c : Thread nD τ) arg7 fullShare y
            ∗ owns (c : Thread nD τ) arg8 fullShare xs) -∗ K ⟨⟩))
      ⊢ wp frame (wpE (defs₀ (F := F)) Variants.none c none) E
          (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
  obtain rfl := harg2.eq_unread hf0; obtain rfl := harg3.eq_unread hf1; obtain rfl := harg4.eq_unread hf2; obtain rfl := harg5.eq_unread hf3
  obtain rfl := harg7.eq_unread hf5; obtain rfl := harg8.eq_unread hfs
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full (Val := Elt F) _ _ _ _ _).trans ?_
    rw [full_at arg4 harg4, full_at arg8 harg8]
  isplitl [H5]
  · iexists _; isplitr; · ipureintro; exact harg7.read_unread _
    iexact H5
  iexists _; isplitr; · ipureintro; exact harg8.read_unread _
  iexact HS

end

end Cert.Kernel2Ideal.Hand

end
-- ==== Proof.InRun.lean ====
/-
  The input projection's run: after every point the scratch holds the normalised rows of the point's block
  of rows, the wide output block their product with the point's columns, and the narrow output block the
  product written at the block's first point.  The frame is read off the same run.
-/
module

public import proofs.«01_k».proof.Proof.InBody
public import Idealize.ShloMosaic.Lib.Claim
public import Idealize.ShloMosaic.Lib.Pipeline.TableIdle

@[expose] public section

set_option maxRecDepth 65536
set_option maxHeartbeats 4000000

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body is called with -/

/-- Window 0's staging buffer at a point, and the other windows' the same way. -/
abbrev ms0 (t : Fin cfg0.N) := win0_0.stage (cfg0.slots t 0)
abbrev hs0 (t : Fin cfg0.N) := hstage0_0 ((cfg0.slots t 0).cast nbuf0_0)
abbrev ms1 (t : Fin cfg0.N) := win0_1.stage (cfg0.slots t 1)
abbrev hs1 (t : Fin cfg0.N) := hstage0_1 ((cfg0.slots t 1).cast nbuf0_1)
abbrev ms2 (t : Fin cfg0.N) := win0_2.stage (cfg0.slots t 2)
abbrev hs2 (t : Fin cfg0.N) := hstage0_2 ((cfg0.slots t 2).cast nbuf0_2)
abbrev ms3 (t : Fin cfg0.N) := win0_3.stage (cfg0.slots t 3)
abbrev hs3 (t : Fin cfg0.N) := hstage0_3 ((cfg0.slots t 3).cast nbuf0_3)
abbrev ms4 (t : Fin cfg0.N) := win0_4.stage (cfg0.slots t 4)
abbrev hs4 (t : Fin cfg0.N) := hstage0_4 ((cfg0.slots t 4).cast nbuf0_4)
abbrev ms5 (t : Fin cfg0.N) := win0_5.stage (cfg0.slots t 5)
abbrev hs5 (t : Fin cfg0.N) := hstage0_5 ((cfg0.slots t 5).cast nbuf0_5)

/-- The scratch buffer that holds the normalised rows. -/
abbrev msS : Memref sig .tc .vmem S2048x1024 .bf16 := Memref.whole cc0_scratch0

/-- What the region holds besides its windows: the scratch and the generator register, at some contents. -/
theorem rest_eq (c : Dev nD) :
    (Pipeline.ΦA spec0 c : sProp 𝕄)
      = iprop((∃ d, owns (c : Thread nD τ) msS fullShare d) ∗ (∃ r, prngReg c r)) := by
  unfold Pipeline.ΦA; rw [scopedRest0_eq]; simp only [msS, owns_whole]; try rfl

/-- The body table's row at point `t` is the body on that point's buffers. -/
theorem row_eq (t : Fin cfg0.N) :
    defs₀ (F := F) .tc cfg0.body (cfg0.bodyArgs t (cfg0.slots t)) = bodyAt0 t := by
  unfold defs₀; rw [Defs.onTc_tc]

/-! ## The points -/

theorem first_iff : ∀ t : Fin cfg0.N, k0_cond1 (grid0.coords t) = 1#1 ↔ t.val % 8 = 0 := by decide +kernel
theorem flush5 : ∀ t : Fin cfg0.N, (cfg0.win 5).flush t = decide (t.val % 8 = 7) := by decide +kernel
theorem fresh5 : ∀ t : Fin cfg0.N, cfg0.fresh 5 t.val = decide (t.val % 8 = 0) := by decide +kernel

theorem N_eq : cfg0.N = 64 := N_0

/-- The first point of the block of rows that point `n` works on. -/
def start (n : ℕ) : Fin cfg0.N := ⟨8 * (n / 8 % 8), by rw [N_eq]; omega⟩

theorem start_first (t : Fin cfg0.N) (h : t.val % 8 = 0) : start t.val = t :=
  Fin.ext (by have ht : t.val < 64 := lt_of_lt_of_eq t.isLt N_eq; show 8 * (t.val / 8 % 8) = t.val; omega)

theorem start_pred (n : ℕ) (h : ¬n % 8 = 0) : start n = start (n - 1) :=
  Fin.ext (by show 8 * (n / 8 % 8) = 8 * ((n - 1) / 8 % 8); omega)

/-- The normalised rows of point `n`'s block, and their narrow product. -/
def hAt (c : Dev nD) (n : ℕ) : Vec F S2048x1024 .bf16 := k0_pay2 (iblk m c 0 (start n)) (iblk m c 1 (start n))
def sAt (c : Dev nD) (n : ℕ) : Vec F S2048x256 .f32 := k0_pay3 (iblk m c 0 (start n)) (iblk m c 1 (start n)) (iblk m c 3 (start n))

/-- Before the first point the scratch is at anything, afterwards at the rows of the point before. -/
def PhiS (c : Dev nD) : ℕ → sProp 𝕄
  | 0 => Pipeline.ΦA spec0 c
  | n + 1 => iprop(iprop(owns (c : Thread nD τ) msS fullShare (hAt m c n)) ∗ (∃ r, prngReg c r))

/-- The arrays as the region finds them, every input block as fetched, the outputs at the products. -/
def vdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (hAt m c t.val) (iblk m c 2 t)
    | ⟨5, _⟩ => sAt m c t.val
  Φ t := PhiS m c t.val
  q _ := fullShare
  owed _ := 0

theorem vA_eq (c : Dev nD) (w : Fin cfg0.W) : (vdats m 0 c).A w = V m c (Pipeline.arrRef spec0 w) := by
  dsimp only [vdats]

theorem vafter0 (c : Dev nD) (t : Fin cfg0.N) : (vdats m 0 c).after 0 t = iblk m c 0 t := by dsimp only [vdats]
theorem vafter1 (c : Dev nD) (t : Fin cfg0.N) : (vdats m 0 c).after 1 t = iblk m c 1 t := by dsimp only [vdats]
theorem vafter2 (c : Dev nD) (t : Fin cfg0.N) : (vdats m 0 c).after 2 t = iblk m c 2 t := by dsimp only [vdats]
theorem vafter3 (c : Dev nD) (t : Fin cfg0.N) : (vdats m 0 c).after 3 t = iblk m c 3 t := by dsimp only [vdats]
theorem vafter4 (c : Dev nD) (t : Fin cfg0.N) : (vdats m 0 c).after 4 t = k0_pay4 (hAt m c t.val) (iblk m c 2 t) := by dsimp only [vdats]
theorem vafter5 (c : Dev nD) (t : Fin cfg0.N) : (vdats m 0 c).after 5 t = sAt m c t.val := by dsimp only [vdats]

theorem vbefore0 (c : Dev nD) (t : Fin cfg0.N) (d) : (vdats m 0 c).before 0 t d = iblk m c 0 t :=
  before0_0_of m (vdats m 0 c) (vA_eq m c 0) (vafter0 m c) t d
theorem vbefore1 (c : Dev nD) (t : Fin cfg0.N) (d) : (vdats m 0 c).before 1 t d = iblk m c 1 t :=
  before0_1_of m (vdats m 0 c) (vA_eq m c 1) (vafter1 m c) t d
theorem vbefore2 (c : Dev nD) (t : Fin cfg0.N) (d) : (vdats m 0 c).before 2 t d = iblk m c 2 t :=
  before0_2_of m (vdats m 0 c) (vA_eq m c 2) (vafter2 m c) t d
theorem vbefore3 (c : Dev nD) (t : Fin cfg0.N) (d) : (vdats m 0 c).before 3 t d = iblk m c 3 t :=
  before0_3_of m (vdats m 0 c) (vA_eq m c 3) (vafter3 m c) t d

/-- Past a block's first point the narrow output's buffer holds the product written there. -/
theorem vbefore5 (c : Dev nD) (t : Fin cfg0.N) (h : ¬t.val % 8 = 0) (d) : (vdats m 0 c).before 5 t d = sAt m c t.val := by
  rw [(vdats m 0 c).before_out_traj 5 rfl (fun _ _ => rfl) (fun t _ _ hfr => ?_) t.val t rfl d, fresh5, if_neg (by simpa using h), vafter5]
  · unfold sAt; rw [start_pred t.val h]
  · rw [fresh5] at hfr
    have h' : ¬t.val % 8 = 0 := by simpa using hfr
    rw [vafter5, vafter5]
    unfold sAt; rw [start_pred t.val h']

theorem idle5 (t : Fin cfg0.N) : cfg0.idle 5 (cfg0.grid.coords t) = !(k0_cond1 (grid0.coords t) == 1#1) := rfl

/-- The narrow output's buffer at its product is what the body owes of it at every point. -/
theorem leaves5 (c : Dev nD) (t : Fin cfg0.N) :
    (owns (c : Thread nD τ) (ms5 t) fullShare (sAt m c t.val) : sProp 𝕄) ⊢ (vdats m 0 c).leavesExact 5 t := by
  by_cases h0 : t.val % 8 = 0
  · unfold Dat.leavesExact
    rw [idle5, (first_iff t).mpr h0]
    exact .of_eq (congrArg (owns (c : Thread nD τ) (ms5 t) fullShare) (vafter5 m c t)).symm
  · have hi : cfg0.idle 5 (cfg0.grid.coords t) = true := by
      rw [idle5]
      have : ¬k0_cond1 (grid0.coords t) = 1#1 := fun h' => h0 ((first_iff t).mp h')
      simp [this]
    by_cases h7 : t.val % 8 = 7
    · unfold Dat.leavesExact
      rw [hi, flush5, decide_eq_true h7]
      exact .of_eq (congrArg (owns (c : Thread nD τ) (ms5 t) fullShare) (vafter5 m c t)).symm
    · rw [Dat.leavesExact_idle _ 5 t hi (by rw [flush5]; exact decide_eq_false h7)]
      simp only [vbefore5 m c t h0]
      iintro H
      iexists (sAt m c t.val)
      iexact H

/-! ## The body at a point -/

/-- What the body is given at point `t`, window by window. -/
def vpre (c : Dev nD) (t : Fin cfg0.N) : sProp 𝕄 :=
  iprop((vdats m 0 c).Φ t.castSucc ∗ (vdats m 0 c).owesAt () t.castSucc
    ∗ (∃ d, owns (c : Thread nD τ) (ms0 t) fullShare ((vdats m 0 c).before 0 t d))
    ∗ (∃ d, owns (c : Thread nD τ) (ms1 t) fullShare ((vdats m 0 c).before 1 t d))
    ∗ (∃ d, owns (c : Thread nD τ) (ms2 t) fullShare ((vdats m 0 c).before 2 t d))
    ∗ (∃ d, owns (c : Thread nD τ) (ms3 t) fullShare ((vdats m 0 c).before 3 t d))
    ∗ (∃ d, owns (c : Thread nD τ) (ms4 t) fullShare ((vdats m 0 c).before 4 t d))
    ∗ (∃ d, owns (c : Thread nD τ) (ms5 t) fullShare ((vdats m 0 c).before 5 t d)))

/-- What it gives back. -/
def vpost (c : Dev nD) (t : Fin cfg0.N) : sProp 𝕄 :=
  iprop((vdats m 0 c).Φ t.succ ∗ (vdats m 0 c).owesAt () t.succ
    ∗ owns (c : Thread nD τ) (ms0 t) fullShare ((vdats m 0 c).after 0 t)
    ∗ owns (c : Thread nD τ) (ms1 t) fullShare ((vdats m 0 c).after 1 t)
    ∗ owns (c : Thread nD τ) (ms2 t) fullShare ((vdats m 0 c).after 2 t)
    ∗ owns (c : Thread nD τ) (ms3 t) fullShare ((vdats m 0 c).after 3 t)
    ∗ owns (c : Thread nD τ) (ms4 t) fullShare ((vdats m 0 c).after 4 t)
    ∗ (vdats m 0 c).leavesExact 5 t)

/-- Before a point the invariant hands over the scratch at anything, -/
theorem Phi_any (c : Dev nD) (t : Fin cfg0.N) : (vdats m 0 c).Φ t.castSucc
    ⊢ iprop((∃ d, owns (c : Thread nD τ) msS fullShare d) ∗ (∃ r, prngReg c r)) := by
  rw [show (vdats m 0 c).Φ t.castSucc = PhiS m c t.val from rfl]
  by_cases hz : t.val = 0
  · rw [hz, show PhiS m c 0 = Pipeline.ΦA spec0 c from rfl, rest_eq]
  · obtain ⟨n, hn⟩ : ∃ n, t.val = n + 1 := ⟨t.val - 1, by omega⟩
    rw [hn, show PhiS m c (n + 1) = iprop(iprop(owns (c : Thread nD τ) msS fullShare (hAt m c n)) ∗ (∃ r, prngReg c r)) from rfl]
    iintro ⟨HS, Hg⟩
    isplitl [HS]
    · iexists _; iexact HS
    iexact Hg

/-- and past a block's first point at the block's rows. -/
theorem Phi_rows (c : Dev nD) (t : Fin cfg0.N) (h : ¬t.val % 8 = 0) : (vdats m 0 c).Φ t.castSucc
    = iprop(iprop(owns (c : Thread nD τ) msS fullShare (hAt m c t.val)) ∗ (∃ r, prngReg c r)) := by
  rw [show (vdats m 0 c).Φ t.castSucc = PhiS m c t.val from rfl]
  obtain ⟨n, hn⟩ : ∃ n, t.val = n + 1 := ⟨t.val - 1, by omega⟩
  have e : hAt m c (n + 1) = hAt m c n := by unfold hAt; rw [start_pred (n + 1) (by omega)]; rfl
  rw [hn, e]
  rfl

theorem vbody_first (c : Dev nD) (t : Fin cfg0.N) (h0 : t.val % 8 = 0) :
    vpre m c t ⊢ wp Idealize.ShloMosaic.frame (wpE (defs₀ (F := F)) Variants.none c none) Set.univ (bodyAt0 t) (fun _ => vpost m c t) := by
  have hpre : vpre m c t ⊢ iprop(iprop((∃ d, owns (c : Thread nD τ) msS fullShare d) ∗ (∃ r, prngReg c r))
    ∗ (vdats m 0 c).owesAt () t.castSucc
    ∗ (∃ d, owns (c : Thread nD τ) (ms0 t) fullShare ((vdats m 0 c).before 0 t d))
    ∗ (∃ d, owns (c : Thread nD τ) (ms1 t) fullShare ((vdats m 0 c).before 1 t d))
    ∗ (∃ d, owns (c : Thread nD τ) (ms2 t) fullShare ((vdats m 0 c).before 2 t d))
    ∗ (∃ d, owns (c : Thread nD τ) (ms3 t) fullShare ((vdats m 0 c).before 3 t d))
    ∗ (∃ d, owns (c : Thread nD τ) (ms4 t) fullShare ((vdats m 0 c).before 4 t d))
    ∗ (∃ d, owns (c : Thread nD τ) (ms5 t) fullShare ((vdats m 0 c).before 5 t d))) := by
    unfold vpre
    iintro ⟨HP, HR⟩
    isplitl [HP]
    · iapply (Phi_any m c t); iexact HP
    iexact HR
  refine hpre.trans ?_
  unfold vpost bodyAt0
  simp only [vbefore0, vbefore1, vbefore2, vbefore3]
  rw [show (vdats m 0 c).owesAt () t.succ = (vdats m 0 c).owesAt () t.castSucc from rfl,
    show (vdats m 0 c).Φ t.succ = iprop(iprop(owns (c : Thread nD τ) msS fullShare (hAt m c t.val)) ∗ (∃ r, prngReg c r)) from rfl,
    vafter0, vafter1, vafter2, vafter3, vafter4]
  iintro ⟨⟨⟨%ds, HS⟩, Hg⟩, Ho, ⟨%d0, H0⟩, ⟨%d1, H1⟩, ⟨%d2, H2⟩, ⟨%d3, H3⟩, ⟨%d4, H4⟩, ⟨%d5, H5⟩⟩
  iapply (bodyFirst c (grid0.coords t) (ms0 t) (hs0 t) (ms1 t) (hs1 t) (ms2 t) (hs2 t) (ms3 t) (hs3 t) (ms4 t) (hs4 t)
    (ms5 t) (hs5 t) msS (Memref.isWhole_whole _) (iblk m c 0 t) (iblk m c 1 t) (iblk m c 2 t) (iblk m c 3 t)
    ((first_iff t).mpr h0) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexists _; iexact HS
  rw [show k0_pay2 (iblk m c 0 t) (iblk m c 1 t) = hAt m c t.val by unfold hAt; rw [start_first t h0],
    show k0_pay3 (iblk m c 0 t) (iblk m c 1 t) (iblk m c 3 t) = sAt m c t.val by unfold sAt; rw [start_first t h0]]
  iintro ⟨H0, H1, H2, H3, H4, H5, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  iapply (leaves5 m c t); iexact H5

theorem vbody_next (c : Dev nD) (t : Fin cfg0.N) (h0 : ¬t.val % 8 = 0) :
    vpre m c t ⊢ wp Idealize.ShloMosaic.frame (wpE (defs₀ (F := F)) Variants.none c none) Set.univ (bodyAt0 t) (fun _ => vpost m c t) := by
  unfold vpre vpost bodyAt0
  simp only [vbefore0, vbefore1, vbefore2, vbefore3, vbefore5 m c t h0]
  rw [show (vdats m 0 c).owesAt () t.succ = (vdats m 0 c).owesAt () t.castSucc from rfl,
    show (vdats m 0 c).Φ t.succ = iprop(iprop(owns (c : Thread nD τ) msS fullShare (hAt m c t.val)) ∗ (∃ r, prngReg c r)) from rfl,
    Phi_rows m c t h0, vafter0, vafter1, vafter2, vafter3, vafter4]
  iintro ⟨⟨HS, Hg⟩, Ho, ⟨%d0, H0⟩, ⟨%d1, H1⟩, ⟨%d2, H2⟩, ⟨%d3, H3⟩, ⟨%d4, H4⟩, ⟨%d5, H5⟩⟩
  iapply (bodyNext c (grid0.coords t) (ms0 t) (hs0 t) (ms1 t) (hs1 t) (ms2 t) (hs2 t) (ms3 t) (hs3 t) (ms4 t) (hs4 t)
    (ms5 t) (hs5 t) msS (Memref.isWhole_whole _) (iblk m c 0 t) (iblk m c 1 t) (iblk m c 2 t) (iblk m c 3 t)
    (fun h => h0 ((first_iff t).mp h)) (hAt m c t.val) (sAt m c t.val) Set.univ _)
  isplitl [H0]; · iexact H0
  isplitl [H1]; · iexact H1
  isplitl [H2]; · iexact H2
  isplitl [H3]; · iexact H3
  isplitl [H4]; · iexists _; iexact H4
  isplitl [H5]; · iexact H5
  isplitl [HS]; · iexact HS
  iintro ⟨H0, H1, H2, H3, H4, H5, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  iapply (leaves5 m c t); iexact H5

theorem vbody (c : Dev nD) (t : Fin cfg0.N) :
    vpre m c t ⊢ wp Idealize.ShloMosaic.frame (wpE (defs₀ (F := F)) Variants.none c none) Set.univ (bodyAt0 t) (fun _ => vpost m c t) := by
  by_cases h0 : t.val % 8 = 0
  · exact vbody_first m c t h0
  · exact vbody_next m c t h0

theorem vobligation (c : Dev nD) :
    BodyObligation (vdats (F := F) m 0 c) (defs₀ (F := F)) Variants.none () Set.univ := fun t => by
  rw [bigSep_W0, bigSep_W0, row_eq]
  exact triple_restated (vbody m c t) rfl .rfl fun _ => .rfl

/-! ## The run and the frame -/

/-- After the last point the scratch's contents are forgotten. -/
theorem Phi_out (c : Dev nD) : (vdats (F := F) m 0 c).Φ (Fin.last cfg0.N) ⊢ Pipeline.ΦA spec0 c := by
  rw [show (vdats m 0 c).Φ (Fin.last cfg0.N) = PhiS m c 64 from rfl,
    show PhiS m c 64 = iprop(iprop(owns (c : Thread nD τ) msS fullShare (hAt m c 63)) ∗ (∃ r, prngReg c r)) from rfl, rest_eq]
  iintro ⟨HS, Hg⟩
  isplitl [HS]
  · iexists _; iexact HS
  iexact Hg

-- the run's configuration is found by unifying its conclusion with this statement
set_option backward.isDefEq.respectTransparency.types false in
theorem vrun : θ_run defs (onTc (τ := τ) (main (F := F))) (s₀ m ρ) (fun r =>
    Pipeline.FramePost cfgs (vdats m) (0 : Fin 1) (V m) r ∧ r.2.sem = fun _ => 0) :=
  Pipeline.θ_run_frame_track (Q' := _) cfgs (vdats m) (0 : Fin 1) launch0 defs₀ Variants.none m ρ main
    (hbody := fun c => (vobligation m c).loose) (hshare := fun c => (vdats m 0 c).share_full fun _ => rfl)
    (howed := fun _ _ => rfl) (V := V m) (hmain := hmain m Variants.none) (hA := vA_eq m)
    (hin := fun _ => .rfl) (hout := Phi_out m)

/-- The run with its two result arrays named and the arguments unchanged. -/
theorem run_arrays : θ_run defs (onTc (τ := τ) (main (F := F))) ⟨m, fun _ => 0, ρ⟩ (fun r => (∀ c : Dev nD,
      r.2.mem ((c.tc : Thread nD τ).loc main_v14_0) = (vdats m 0 c).arrAt 4 cfg0.N
      ∧ r.2.mem ((c.tc : Thread nD τ).loc main_v14_1) = (vdats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 4, (h.1 c).1 5,
      ((h.1 c).1 0).trans (((vdats m 0 c).arrAt_in 0 rfl _).trans ((vA_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)
    (vrun m ρ)

/-- THE FRAME, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2.2, h.2⟩) (run_arrays m ρ)

end Cert.Kernel2Ideal.Hand

end
-- ==== Proof.InHost.lean ====
/-
  The input projection as plain mathematics, and the two arrays its kernel leaves: every row normalised and
  multiplied with the weight's columns, in the order the layer's calls read them.
-/
module

public import proofs.«01_k».proof.Proof.InRun
public import proofs.«01_k».proof.Proof.Whole
public import Idealize.ShloMosaic.Lib.StableHlo.RunRead
public import Idealize.ShloMosaic.Lib.Pipeline.ValueKit.Geometry

@[expose] public section

set_option maxRecDepth 65536
set_option maxHeartbeats 4000000

noncomputable section

namespace Cert.InProj

open Idealize.ShloMosaic

/-- A row scaled to unit mean square, under its gains. -/
def nrm (x g : Fin 1024 → EReal) (k : Fin 1024) : EReal :=
  x k * Ideal.rsqrt (Ideal.div (∑ a, x a * x a) (Ideal.ofBits .f32 0x44800000#32) + Ideal.ofBits .f32 0x358637BD#32) * g k

/-- The scaled row against one column. -/
def dot (x g : Fin 1024 → EReal) (w : Fin 1024 → EReal) : EReal := ∑ k, nrm x g k * w k

/-- The weight's column that the wide product's column `j` comes from. -/
def col (j : ℕ) : ℕ :=
  if j < 1536 then j else if j < 2560 then j + 2056 else if j < 6144 then j + 2064 else if j < 7680 then j - 4608 else j - 4600

theorem col_lt (j : ℕ) (h : j < 8192) : col j < 8208 := by unfold col; split_ifs <;> omega

/-- The narrow weight: two groups of eight columns, each followed by zeros. -/
def narrow (w : Fin 1024 → Fin 8208 → EReal) (l : Fin 256) (k : Fin 1024) : EReal :=
  if h : l.val < 8 then w k ⟨3072 + l.val, by omega⟩ else if l.val < 128 then 0
  else if h : l.val < 136 then w k ⟨4488 + l.val, by omega⟩ else 0

/-- A column of zeros gives zero. -/
theorem dot_zero (x g : Fin 1024 → EReal) : dot x g (fun _ => 0) = 0 := by
  unfold dot
  simp only [mul_zero, Finset.sum_const_zero]

/-- A piece of a matrix put side by side with others along the columns, read at an index. -/
theorem piece_at {α : Type} {R C w : ℕ} (xs : List ((s : Shape) × (s.Idx → α)))
    (h : Shape.Concatenates (xs.map (·.1)) ⟨2, ![R, C]⟩ 1) (i : Fin R) (j : Fin C) (k : ℕ) (hk : k < xs.length)
    (x : (⟨2, ![R, w]⟩ : Shape).Idx → α) (hxk : xs[k] = ⟨⟨2, ![R, w]⟩, x⟩) (pre : ℕ)
    (hpre : (((xs.take k).map (·.1)).map fun s => if h : s.rank = 2 then s.size ((1 : Fin 2).cast h.symm) else 0).sum = pre)
    (hl : pre ≤ j.val) (hr : j.val - pre < w) :
    concatenate ⟨2, ![R, C]⟩ 1 xs h (ix2 i j) = x (ix2 i ⟨j.val - pre, hr⟩) := by
  refine concatenate_apply_piece (t := ⟨2, ![R, C]⟩) (1 : Fin 2) xs h (ix2 i j) k hk ⟨2, ![R, w]⟩ x hxk rfl pre hpre
    (ix2 i ⟨j.val - pre, hr⟩) (fun b hb => ?_) ?_
  · fin_cases b
    · rfl
    · exact absurd rfl hb
  · show pre + (j.val - pre) = j.val
    omega

/-- A run of columns of a matrix, read at an index. -/
theorem slice_at {α : Type} {R C w : ℕ} (off : ℕ) (x : (⟨2, ![R, C]⟩ : Shape).Idx → α)
    (h : (⟨2, ![R, C]⟩ : Shape).Slices ![0, off] ⟨2, ![R, w]⟩) (i : Fin R) (j : Fin w) (o : Fin C) (ho : o.val = off + j.val) :
    extractStridedSlice ⟨2, ![R, w]⟩ ![0, off] x h (ix2 i j) = x (ix2 i o) := by
  unfold extractStridedSlice
  refine congrArg x ?_
  funext a
  match a with
  | ⟨0, _⟩ => exact Fin.ext (show 0 + i.val = i.val by omega)
  | ⟨1, _⟩ => exact Fin.ext (show off + j.val = o.val by omega)

end Cert.InProj

namespace Cert.Kernel2Ideal.Hand

open Cert.Kernel2Ideal Cert.Kernel2Ideal.Gen Cert.InProj
open Idealize.ShloMosaic Idealize.ShloMosaic.TcCoe Idealize.ShloMosaic.Tactic Idealize.SL.Sem
open Idealize.ShloMosaic.StableHlo

/-! ## The payloads at an index -/

theorem pay1_at (x : FVec Ideal S2048x1024 .f32) (g : FVec Ideal S1x1024 .f32) (i : Fin 2048) (k : Fin 1024) :
    k0_pay1 (F := Ideal) x g (ix2 i k) = nrm (fun k => x (ix2 i k)) (fun k => g (ix2 0 k)) k := by
  unfold k0_pay1 nrm
  pointwise

theorem pay2_at (x : FVec Ideal S2048x1024 .f32) (g : FVec Ideal S1x1024 .f32) (i : Fin 2048) (k : Fin 1024) :
    k0_pay2 (F := Ideal) x g (ix2 i k) = nrm (fun k => x (ix2 i k)) (fun k => g (ix2 0 k)) k := by
  unfold k0_pay2
  pointwise [pay1_at]

theorem pay3_at (x : FVec Ideal S2048x1024 .f32) (g : FVec Ideal S1x1024 .f32) (w : FVec Ideal S1024x256 .bf16) (i : Fin 2048) (l : Fin 256) :
    k0_pay3 (F := Ideal) x g w (ix2 i l) = dot (fun k => x (ix2 i k)) (fun k => g (ix2 0 k)) (fun k => w (ix2 k l)) := by
  unfold k0_pay3 dot
  pointwise [pay1_at]

theorem pay4_at (h : FVec Ideal S2048x1024 .bf16) (w : FVec Ideal S1024x1024 .bf16) (i : Fin 2048) (j : Fin 1024) :
    k0_pay4 (F := Ideal) h w (ix2 i j) = ∑ k : Fin 1024, h (ix2 i k) * w (ix2 k j) := by
  unfold k0_pay4
  pointwise

/-! ## The host part -/

abbrev vec (s : Shape) (x : FVec Ideal s .f32) : FVec Ideal s .f32 := x
abbrev vecb (s : Shape) (x : FVec Ideal s .bf16) : FVec Ideal s .bf16 := x

/-- The wide weight's columns in the layer's order. -/
def wcat (w : FVec Ideal S1024x8208 .f32) : FVec Ideal S1024x8192 .f32 :=
  concatenate S1024x8192 1 [⟨S1024x1536, extractStridedSlice S1024x1536 ![0, 0] w slices_S1024x8208_S1024x1536_0_0⟩,
    ⟨S1024x1024, extractStridedSlice S1024x1024 ![0, 3592] w slices_S1024x8208_S1024x1024_0_3592⟩,
    ⟨S1024x512, extractStridedSlice S1024x512 ![0, 4624] w slices_S1024x8208_S1024x512_0_4624⟩,
    ⟨S1024x3072, extractStridedSlice S1024x3072 ![0, 5136] w slices_S1024x8208_S1024x3072_0_5136⟩,
    ⟨S1024x1536, extractStridedSlice S1024x1536 ![0, 1536] w slices_S1024x8208_S1024x1536_0_1536⟩,
    ⟨S1024x512, extractStridedSlice S1024x512 ![0, 3080] w slices_S1024x8208_S1024x512_0_3080⟩]
    concatenates_S1024x1536_S1024x1024_S1024x512_S1024x3072_S1024x1536_S1024x512_S1024x8192_d1

theorem wcat_at (w : FVec Ideal S1024x8208 .f32) (k : Fin 1024) (j : Fin 8192) :
    wcat w (ix2 k j) = w (ix2 k ⟨col j.val, col_lt j.val j.isLt⟩) := by
  unfold wcat
  have hj := j.isLt
  by_cases h1 : j.val < 1536
  · refine (piece_at _ _ k j 0 (by show 0 < 6; decide) _ rfl 0 rfl (by omega) (w := 1536) (by omega)).trans ?_
    exact slice_at 0 w _ k _ _ (by show col j.val = 0 + (j.val - 0); unfold col; split_ifs <;> omega)
  by_cases h2 : j.val < 2560
  · refine (piece_at _ _ k j 1 (by show 1 < 6; decide) _ rfl 1536 rfl (by omega) (w := 1024) (by omega)).trans ?_
    exact slice_at 3592 w _ k _ _ (by show col j.val = 3592 + (j.val - 1536); unfold col; split_ifs <;> omega)
  by_cases h3 : j.val < 3072
  · refine (piece_at _ _ k j 2 (by show 2 < 6; decide) _ rfl 2560 rfl (by omega) (w := 512) (by omega)).trans ?_
    exact slice_at 4624 w _ k _ _ (by show col j.val = 4624 + (j.val - 2560); unfold col; split_ifs <;> omega)
  by_cases h4 : j.val < 6144
  · refine (piece_at _ _ k j 3 (by show 3 < 6; decide) _ rfl 3072 rfl (by omega) (w := 3072) (by omega)).trans ?_
    exact slice_at 5136 w _ k _ _ (by show col j.val = 5136 + (j.val - 3072); unfold col; split_ifs <;> omega)
  by_cases h5 : j.val < 7680
  · refine (piece_at _ _ k j 4 (by show 4 < 6; decide) _ rfl 6144 rfl (by omega) (w := 1536) (by omega)).trans ?_
    exact slice_at 1536 w _ k _ _ (by show col j.val = 1536 + (j.val - 6144); unfold col; split_ifs <;> omega)
  · refine (piece_at _ _ k j 5 (by show 5 < 6; decide) _ rfl 7680 rfl (by omega) (w := 512) (by omega)).trans ?_
    exact slice_at 3080 w _ k _ _ (by show col j.val = 3080 + (j.val - 7680); unfold col; split_ifs <;> omega)

/-- The narrow weight's columns. -/
def scat (w : FVec Ideal S1024x8208 .f32) : FVec Ideal S1024x256 .f32 :=
  concatenate S1024x256 1 [⟨S1024x8, extractStridedSlice S1024x8 ![0, 3072] w slices_S1024x8208_S1024x8_0_3072⟩,
    ⟨S1024x120, broadcastInDim S1024x120 ![] bcast_S_S1024x120 (constant S_ .f32 0x00000000#32)⟩,
    ⟨S1024x8, extractStridedSlice S1024x8 ![0, 4616] w slices_S1024x8208_S1024x8_0_4616⟩,
    ⟨S1024x120, broadcastInDim S1024x120 ![] bcast_S_S1024x120 (constant S_ .f32 0x00000000#32)⟩]
    concatenates_S1024x8_S1024x120_S1024x8_S1024x120_S1024x256_d1

theorem pad_at (k : Fin 1024) (l : Fin 120) :
    (broadcastInDim S1024x120 ![] bcast_S_S1024x120 (constant (F := Ideal) S_ .f32 0x00000000#32)) (ix2 k l) = (0 : EReal) := by
  pointwise

theorem scat_at (w : FVec Ideal S1024x8208 .f32) (k : Fin 1024) (l : Fin 256) :
    scat w (ix2 k l) = narrow (fun k o => w (ix2 k o)) l k := by
  unfold scat narrow
  have hl := l.isLt
  by_cases h1 : l.val < 8
  · rw [dif_pos h1]
    refine (piece_at _ _ k l 0 (by show 0 < 4; decide) _ rfl 0 rfl (by omega) (w := 8) (by omega)).trans ?_
    exact slice_at 3072 w _ k _ _ (by show 3072 + l.val = 3072 + (l.val - 0); omega)
  rw [dif_neg h1]
  by_cases h2 : l.val < 128
  · rw [if_pos h2]
    exact (piece_at _ _ k l 1 (by show 1 < 4; decide) _ rfl 8 rfl (by omega) (w := 120) (by omega)).trans (pad_at k _)
  rw [if_neg h2]
  by_cases h3 : l.val < 136
  · rw [dif_pos h3]
    refine (piece_at _ _ k l 2 (by show 2 < 4; decide) _ rfl 128 rfl (by omega) (w := 8) (by omega)).trans ?_
    exact slice_at 4616 w _ k _ _ (by show 4488 + l.val = 4616 + (l.val - 128); omega)
  · rw [dif_neg h3]
    exact (piece_at _ _ k l 3 (by show 3 < 4; decide) _ rfl 136 rfl (by omega) (w := 120) (by omega)).trans (pad_at k _)

variable (m : (ℓ : Loc nD τ sig) → Buf (Elt Ideal) ℓ) (ρ : Dev nD → PrngReg)

theorem V_gain (c : Dev nD) : vec S1x1024 (V m c (Pipeline.arrRef spec0 1))
    = broadcastInDim S1x1024 ![1] bcast_S1024_S1x1024_1 (vec S1024 (m ((c : Thread nD τ).loc main_arg1))) := by
  show vec S1x1024 (V m c main_v13) = _
  unfold V hostOps0
  after_results_simp
  try rfl

theorem V_w (c : Dev nD) : vecb S1024x8192 (V m c (Pipeline.arrRef spec0 2))
    = truncf .bf16 (wcat (vec S1024x8208 (m ((c : Thread nD τ).loc main_arg2)))) bitsLt_bf16_f32 := by
  show vecb S1024x8192 (V m c main_v7) = _
  unfold V hostOps0 wcat
  after_results_simp
  try rfl

theorem V_s (c : Dev nD) : vecb S1024x256 (V m c (Pipeline.arrRef spec0 3))
    = truncf .bf16 (scat (vec S1024x8208 (m ((c : Thread nD τ).loc main_arg2)))) bitsLt_bf16_f32 := by
  show vecb S1024x256 (V m c main_v12) = _
  unfold V hostOps0 scat
  after_results_simp
  try rfl

/-! ## The blocks at coordinates -/

theorem idx0 : ∀ t : Fin cfg0.N, win0_0.index t = ![t.val / 8, 0] := by decide +kernel
theorem idx1 : ∀ t : Fin cfg0.N, win0_1.index t = ![0, 0] := by decide +kernel
theorem idx2 : ∀ t : Fin cfg0.N, win0_2.index t = ![0, t.val % 8] := by decide +kernel
theorem idx3 : ∀ t : Fin cfg0.N, win0_3.index t = ![0, 0] := by decide +kernel
theorem idx4 : ∀ t : Fin cfg0.N, win0_4.index t = ![t.val / 8, t.val % 8] := by decide +kernel
theorem idx5 : ∀ t : Fin cfg0.N, win0_5.index t = ![t.val / 8, 0] := by decide +kernel

theorem tlt (t : Fin cfg0.N) : t.val < 64 := lt_of_lt_of_eq t.isLt N_eq

/-- The row of the arrays that row `i` of point `t`'s blocks is, and its column. -/
def rowOf (t : Fin cfg0.N) (i : Fin 2048) : Fin 16384 := ⟨t.val / 8 * 2048 + i.val, by have := tlt t; omega⟩
def colOf (t : Fin cfg0.N) (j : Fin 1024) : Fin 8192 := ⟨t.val % 8 * 1024 + j.val, by omega⟩

theorem rowOf_start (t : Fin cfg0.N) (i : Fin 2048) : rowOf (start t.val) i = rowOf t i :=
  Fin.ext (by have := tlt t; show 8 * (t.val / 8 % 8) / 8 * 2048 + i.val = t.val / 8 * 2048 + i.val; omega)

def xin (c : Dev nD) (i : Fin 16384) (k : Fin 1024) : EReal := (vec S16384x1024 (m ((c : Thread nD τ).loc main_arg0))) (ix2 i k)
def gin (c : Dev nD) (k : Fin 1024) : EReal := (vec S1024 (m ((c : Thread nD τ).loc main_arg1))) (ix1 k)
def win (c : Dev nD) (k : Fin 1024) (o : Fin 8208) : EReal := (vec S1024x8208 (m ((c : Thread nD τ).loc main_arg2))) (ix2 k o)

theorem x_blk (c : Dev nD) (t : Fin cfg0.N) (i : Fin 2048) (k : Fin 1024) :
    (vec S2048x1024 (iblk m c 0 t)) (ix2 i k) = xin m c (rowOf t i) k := by
  show iblk m c 0 t (ix2 i k) = _
  blk_simp [iblk, idx0]
  rw [V_main_arg0]
  unfold xin
  refine congrArg (vec S16384x1024 (m ((c : Thread nD τ).loc main_arg0))) ?_
  unfold rowOf
  blk_ext [idx0]

theorem g_blk (c : Dev nD) (t : Fin cfg0.N) (k : Fin 1024) :
    (vec S1x1024 (iblk m c 1 t)) (ix2 0 k) = gin m c k := by
  have e : (vec S1x1024 (V m c (Pipeline.arrRef spec0 1))) (ix2 0 k) = gin m c k := by
    rw [V_gain]; unfold gin; pointwise
  refine Eq.trans ?_ e
  show iblk m c 1 t (ix2 0 k) = _
  blk_simp [iblk, idx1]
  refine congrArg (vec S1x1024 (V m c (Pipeline.arrRef spec0 1))) ?_
  blk_ext [idx1]

theorem w_blk (c : Dev nD) (t : Fin cfg0.N) (k : Fin 1024) (j : Fin 1024) :
    (vecb S1024x1024 (iblk m c 2 t)) (ix2 k j) = win m c k ⟨col (colOf t j).val, col_lt _ (colOf t j).isLt⟩ := by
  refine Eq.trans ?_ ((congrFun (V_w m c) (ix2 k (colOf t j))).trans (wcat_at _ k (colOf t j)))
  show iblk m c 2 t (ix2 k j) = _
  blk_simp [iblk, idx2]
  refine congrArg (vecb S1024x8192 (V m c (Pipeline.arrRef spec0 2))) ?_
  unfold colOf
  blk_ext [idx2]

theorem s_blk (c : Dev nD) (t : Fin cfg0.N) (k : Fin 1024) (l : Fin 256) :
    (vecb S1024x256 (iblk m c 3 t)) (ix2 k l) = narrow (win m c) l k := by
  refine Eq.trans ?_ ((congrFun (V_s m c) (ix2 k l)).trans (scat_at _ k l))
  show iblk m c 3 t (ix2 k l) = _
  blk_simp [iblk, idx3]
  refine congrArg (vecb S1024x256 (V m c (Pipeline.arrRef spec0 3))) ?_
  blk_ext [idx3]

/-! ## The result arrays -/

/-- The wide product and the narrow one, as arrays. -/
def zAt (c : Dev nD) (i : Fin 16384) (j : Fin 8192) : EReal :=
  dot (xin m c i) (gin m c) (fun k => win m c k ⟨col j.val, col_lt _ j.isLt⟩)
def zArr (c : Dev nD) : FVec Ideal S16384x8192 .f32 := fun y => zAt m c (y 0) (y 1)
def sArr (c : Dev nD) : FVec Ideal S16384x256 .f32 := fun y => dot (xin m c (y 0)) (gin m c) (narrow (win m c) (y 1))

theorem out4 (c : Dev nD) (t : Fin cfg0.N) (y : S2048x1024.Idx) (w : S16384x8192.Idx)
    (h0 : (w 0).val = t.val / 8 * 2048 + (y 0).val) (h1 : (w 1).val = t.val % 8 * 1024 + (y 1).val) :
    k0_pay4 (F := Ideal) (hAt m c t.val) (iblk m c 2 t) y = zArr m c w := by
  obtain ⟨i, j, rfl⟩ : ∃ i j, y = ix2 i j := ⟨y 0, y 1, by funext a; fin_cases a <;> rfl⟩
  have e0 : w 0 = rowOf t i := Fin.ext h0
  have e1 : w 1 = colOf t j := Fin.ext h1
  have hx : ∀ k, iblk m c 0 (start t.val) (ix2 i k) = _ := x_blk m c (start t.val) i
  have hg : ∀ k, iblk m c 1 (start t.val) (ix2 0 k) = _ := g_blk m c (start t.val)
  have hw : ∀ k, iblk m c 2 t (ix2 k j) = _ := fun k => w_blk m c t k j
  refine (pay4_at _ _ i j).trans ?_
  unfold zArr
  rw [e0, e1]
  unfold zAt dot
  refine Finset.sum_congr rfl fun k _ => ?_
  rw [hw k]
  refine congrArg (· * _) ?_
  refine (pay2_at _ _ i k).trans ?_
  congr 1
  · funext k; exact (hx k).trans (by rw [rowOf_start])
  · funext k; exact hg k

theorem out5 (c : Dev nD) (t : Fin cfg0.N) (y : S2048x256.Idx) (w : S16384x256.Idx)
    (h0 : (w 0).val = t.val / 8 * 2048 + (y 0).val) (h1 : (w 1).val = (y 1).val) :
    sAt (F := Ideal) m c t.val y = sArr m c w := by
  obtain ⟨i, l, rfl⟩ : ∃ i l, y = ix2 i l := ⟨y 0, y 1, by funext a; fin_cases a <;> rfl⟩
  have e0 : w 0 = rowOf t i := Fin.ext h0
  have e1 : w 1 = l := Fin.ext h1
  have hx : ∀ k, iblk m c 0 (start t.val) (ix2 i k) = _ := x_blk m c (start t.val) i
  have hg : ∀ k, iblk m c 1 (start t.val) (ix2 0 k) = _ := g_blk m c (start t.val)
  have hs : ∀ k, iblk m c 3 (start t.val) (ix2 k l) = _ := fun k => s_blk m c (start t.val) k l
  refine (pay3_at _ _ _ i l).trans ?_
  unfold sArr
  rw [e0, e1]
  congr 1
  · funext k; exact (hx k).trans (by rw [rowOf_start])
  · funext k; exact hg k
  · funext k; exact hs k

theorem arr4 (c : Dev nD) : (vdats m 0 c).arrAt 4 cfg0.N = zArr m c := by
  refine (vdats m 0 c).arrAt_eq_of_covers 4 _ (by decide +kernel) fun t hf y => ?_
  blk_simp
  rw [vafter4]
  refine out4 m c t y _ ?_ ?_ <;> blk_simp [idx4] <;> simp

theorem arr5 (c : Dev nD) : (vdats m 0 c).arrAt 5 cfg0.N = sArr m c := by
  refine (vdats m 0 c).arrAt_eq_of_covers 5 _ (by decide +kernel) fun t hf y => ?_
  blk_simp
  rw [vafter5]
  refine out5 m c t y _ ?_ ?_ <;> blk_simp [idx5] <;> simp

/-- What the kernel ends with. -/
theorem run_value : θ_run defs (onTc (τ := τ) (main (F := Ideal))) ⟨m, fun _ => 0, ρ⟩ (fun r => ∀ c : Dev nD,
      r.2.mem ((c.tc : Thread nD τ).loc main_v14_0) = zArr m c
      ∧ r.2.mem ((c.tc : Thread nD τ).loc main_v14_1) = sArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1.trans (arr4 m c), (h.1 c).2.1.trans (arr5 m c), (h.1 c).2.2⟩) (run_arrays m ρ)

end Cert.Kernel2Ideal.Hand

end
-- ==== Proof.InRef.lean ====
/-
  The input projection's reference: its two results are the wide and the narrow product at every row and
  column.
-/
module

public import proofs.«01_k».proof.Proof.InHost
public import proofs.«01_k».proof.Proof.InBitsRun
public import proofs.«01_k».proof.Proof.Gen.Reference2Ideal.Run
public import proofs.«01_k».proof.Defs

@[expose] public section

set_option maxRecDepth 65536
set_option maxHeartbeats 4000000

noncomputable section

namespace Cert.Reference2Ideal.Hand

open Cert.Reference2Ideal Cert.Reference2Ideal.Gen Cert.Reference2Ideal.Value Cert.InProj
open Idealize.ShloMosaic Idealize.ShloMosaic.TcCoe Idealize.ShloMosaic.Tactic Idealize.SL.Sem
open Idealize.ShloMosaic.StableHlo

/-- The normalised rows times the whole weight, as the reference computes it. -/
def prod (x : FVec Ideal S16384x1024 .f32) (g : FVec Ideal S1024 .f32) (w : FVec Ideal S1024x8208 .f32) : FVec Ideal S16384x8208 .f32 :=
  Host.dotGeneral (φ₁ := .f32) (φ₂ := .f32) dot_S16384x1024_S1024x8208_S16384x8208_1_0_0_1_n_n none
    (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
      (broadcastInDim S16384x1024 ![0, 1] bcast_S1x1024_S16384x1024_0_1 (broadcastInDim S1x1024 ![1] bcast_S1024_S1x1024_1 g))) w

theorem prod_at (x : FVec Ideal S16384x1024 .f32) (g : FVec Ideal S1024 .f32) (w : FVec Ideal S1024x8208 .f32) (i : Fin 16384) (o : Fin 8208) :
    prod x g w (ix2 i o) = dot (fun k => x (ix2 i k)) (fun k => g (ix1 k)) (fun k => w (ix2 k o)) := by
  unfold prod dot nrm
  pointwise

/-- Its columns in the layer's order. -/
def wide (p : FVec Ideal S16384x8208 .f32) : FVec Ideal S16384x8192 .f32 :=
  concatenate S16384x8192 1 [⟨S16384x256, extractStridedSlice S16384x256 ![0, 0] p slices_S16384x8208_S16384x256_0_0⟩,
    ⟨S16384x256, extractStridedSlice S16384x256 ![0, 256] p slices_S16384x8208_S16384x256_0_256⟩,
    ⟨S16384x512, extractStridedSlice S16384x512 ![0, 512] p slices_S16384x8208_S16384x512_0_512⟩,
    ⟨S16384x512, extractStridedSlice S16384x512 ![0, 1024] p slices_S16384x8208_S16384x512_0_1024⟩,
    ⟨S16384x1024, extractStridedSlice S16384x1024 ![0, 3592] p slices_S16384x8208_S16384x1024_0_3592⟩,
    ⟨S16384x512, extractStridedSlice S16384x512 ![0, 4624] p slices_S16384x8208_S16384x512_0_4624⟩,
    ⟨S16384x3072, extractStridedSlice S16384x3072 ![0, 5136] p slices_S16384x8208_S16384x3072_0_5136⟩,
    ⟨S16384x512, extractStridedSlice S16384x512 ![0, 1536] p slices_S16384x8208_S16384x512_0_1536⟩,
    ⟨S16384x512, extractStridedSlice S16384x512 ![0, 2048] p slices_S16384x8208_S16384x512_0_2048⟩,
    ⟨S16384x512, extractStridedSlice S16384x512 ![0, 2560] p slices_S16384x8208_S16384x512_0_2560⟩,
    ⟨S16384x512, extractStridedSlice S16384x512 ![0, 3080] p slices_S16384x8208_S16384x512_0_3080⟩]
    concatenates_S16384x256_S16384x256_S16384x512_S16384x512_S16384x1024_S16384x512_S16384x3072_S16384x512_S16384x512_S16384x512_S16384x512_S16384x8192_d1

theorem wide_at (p : FVec Ideal S16384x8208 .f32) (i : Fin 16384) (j : Fin 8192) :
    wide p (ix2 i j) = p (ix2 i ⟨col j.val, col_lt j.val j.isLt⟩) := by
  unfold wide
  have hj := j.isLt
  by_cases h0 : j.val < 256
  · refine (piece_at _ _ i j 0 (by show 0 < 11; decide) _ rfl 0 rfl (by omega) (w := 256) (by omega)).trans ?_
    exact slice_at 0 p _ i _ _ (by show col j.val = 0 + (j.val - 0); unfold col; split_ifs <;> omega)
  by_cases h1 : j.val < 512
  · refine (piece_at _ _ i j 1 (by show 1 < 11; decide) _ rfl 256 rfl (by omega) (w := 256) (by omega)).trans ?_
    exact slice_at 256 p _ i _ _ (by show col j.val = 256 + (j.val - 256); unfold col; split_ifs <;> omega)
  by_cases h2 : j.val < 1024
  · refine (piece_at _ _ i j 2 (by show 2 < 11; decide) _ rfl 512 rfl (by omega) (w := 512) (by omega)).trans ?_
    exact slice_at 512 p _ i _ _ (by show col j.val = 512 + (j.val - 512); unfold col; split_ifs <;> omega)
  by_cases h3 : j.val < 1536
  · refine (piece_at _ _ i j 3 (by show 3 < 11; decide) _ rfl 1024 rfl (by omega) (w := 512) (by omega)).trans ?_
    exact slice_at 1024 p _ i _ _ (by show col j.val = 1024 + (j.val - 1024); unfold col; split_ifs <;> omega)
  by_cases h4 : j.val < 2560
  · refine (piece_at _ _ i j 4 (by show 4 < 11; decide) _ rfl 1536 rfl (by omega) (w := 1024) (by omega)).trans ?_
    exact slice_at 3592 p _ i _ _ (by show col j.val = 3592 + (j.val - 1536); unfold col; split_ifs <;> omega)
  by_cases h5 : j.val < 3072
  · refine (piece_at _ _ i j 5 (by show 5 < 11; decide) _ rfl 2560 rfl (by omega) (w := 512) (by omega)).trans ?_
    exact slice_at 4624 p _ i _ _ (by show col j.val = 4624 + (j.val - 2560); unfold col; split_ifs <;> omega)
  by_cases h6 : j.val < 6144
  · refine (piece_at _ _ i j 6 (by show 6 < 11; decide) _ rfl 3072 rfl (by omega) (w := 3072) (by omega)).trans ?_
    exact slice_at 5136 p _ i _ _ (by show col j.val = 5136 + (j.val - 3072); unfold col; split_ifs <;> omega)
  by_cases h7 : j.val < 6656
  · refine (piece_at _ _ i j 7 (by show 7 < 11; decide) _ rfl 6144 rfl (by omega) (w := 512) (by omega)).trans ?_
    exact slice_at 1536 p _ i _ _ (by show col j.val = 1536 + (j.val - 6144); unfold col; split_ifs <;> omega)
  by_cases h8 : j.val < 7168
  · refine (piece_at _ _ i j 8 (by show 8 < 11; decide) _ rfl 6656 rfl (by omega) (w := 512) (by omega)).trans ?_
    exact slice_at 2048 p _ i _ _ (by show col j.val = 2048 + (j.val - 6656); unfold col; split_ifs <;> omega)
  by_cases h9 : j.val < 7680
  · refine (piece_at _ _ i j 9 (by show 9 < 11; decide) _ rfl 7168 rfl (by omega) (w := 512) (by omega)).trans ?_
    exact slice_at 2560 p _ i _ _ (by show col j.val = 2560 + (j.val - 7168); unfold col; split_ifs <;> omega)
  · refine (piece_at _ _ i j 10 (by show 10 < 11; decide) _ rfl 7680 rfl (by omega) (w := 512) (by omega)).trans ?_
    exact slice_at 3080 p _ i _ _ (by show col j.val = 3080 + (j.val - 7680); unfold col; split_ifs <;> omega)

/-- The two groups of eight columns, each followed by zeros. -/
def small (p : FVec Ideal S16384x8208 .f32) : FVec Ideal S16384x256 .f32 :=
  concatenate S16384x256 1 [⟨S16384x8, extractStridedSlice S16384x8 ![0, 3072] p slices_S16384x8208_S16384x8_0_3072⟩,
    ⟨S16384x120, broadcastInDim S16384x120 ![] bcast_S_S16384x120 (constant S_ .f32 0x00000000#32)⟩,
    ⟨S16384x8, extractStridedSlice S16384x8 ![0, 4616] p slices_S16384x8208_S16384x8_0_4616⟩,
    ⟨S16384x120, broadcastInDim S16384x120 ![] bcast_S_S16384x120 (constant S_ .f32 0x00000000#32)⟩]
    concatenates_S16384x8_S16384x120_S16384x8_S16384x120_S16384x256_d1

theorem pad_at (i : Fin 16384) (l : Fin 120) :
    (broadcastInDim S16384x120 ![] bcast_S_S16384x120 (constant (F := Ideal) S_ .f32 0x00000000#32)) (ix2 i l) = (0 : EReal) := by
  pointwise

theorem small_at (x : FVec Ideal S16384x1024 .f32) (g : FVec Ideal S1024 .f32) (w : FVec Ideal S1024x8208 .f32) (i : Fin 16384) (l : Fin 256) :
    small (prod x g w) (ix2 i l) = dot (fun k => x (ix2 i k)) (fun k => g (ix1 k)) (narrow (fun k o => w (ix2 k o)) l) := by
  unfold small
  have hl := l.isLt
  by_cases h1 : l.val < 8
  · have e : narrow (fun k o => w (ix2 k o)) l = fun k => w (ix2 k ⟨3072 + l.val, by omega⟩) := by
      funext k; unfold narrow; rw [dif_pos h1]
    rw [e]
    refine (piece_at _ _ i l 0 (by show 0 < 4; decide) _ rfl 0 rfl (by omega) (w := 8) (by omega)).trans ?_
    exact (slice_at 3072 _ _ i _ _ (by show 3072 + l.val = 3072 + (l.val - 0); omega)).trans (prod_at x g w i ⟨3072 + l.val, by omega⟩)
  by_cases h2 : l.val < 128
  · have e : narrow (fun k o => w (ix2 k o)) l = fun _ => 0 := by
      funext k; unfold narrow; rw [dif_neg h1, if_pos h2]
    rw [e, dot_zero]
    exact (piece_at _ _ i l 1 (by show 1 < 4; decide) _ rfl 8 rfl (by omega) (w := 120) (by omega)).trans (pad_at i _)
  by_cases h3 : l.val < 136
  · have e : narrow (fun k o => w (ix2 k o)) l = fun k => w (ix2 k ⟨4488 + l.val, by omega⟩) := by
      funext k; unfold narrow; rw [dif_neg h1, if_neg h2, dif_pos h3]
    rw [e]
    refine (piece_at _ _ i l 2 (by show 2 < 4; decide) _ rfl 128 rfl (by omega) (w := 8) (by omega)).trans ?_
    exact (slice_at 4616 _ _ i _ _ (by show 4488 + l.val = 4616 + (l.val - 128); omega)).trans (prod_at x g w i ⟨4488 + l.val, by omega⟩)
  · have e : narrow (fun k o => w (ix2 k o)) l = fun _ => 0 := by
      funext k; unfold narrow; rw [dif_neg h1, if_neg h2, dif_neg h3]
    rw [e, dot_zero]
    exact (piece_at _ _ i l 3 (by show 3 < 4; decide) _ rfl 136 rfl (by omega) (w := 120) (by omega)).trans (pad_at i _)

/-- The kernel and its reference end with equal results. -/
theorem algebraic : Cert.algebraic_Kernel2Ideal_Reference2Ideal := by
  intro m ρ m' ρ' _ hagree
  refine ⟨fun c => Cert.Kernel2Ideal.Hand.zArr m c, fun c => Cert.Kernel2Ideal.Hand.sArr m c, Cert.Kernel2Ideal.Hand.run_value m ρ, ?_⟩
  refine (θ_run Cert.Reference2Ideal.defs _ _).mono (fun _ h c => ⟨(h c).1.trans ?_, (h c).2.1.trans ?_, (h c).2.2⟩)
    (Cert.Reference2Ideal.Value.run (F := Ideal) m' ρ')
  · obtain ⟨h0, h1, h2⟩ := hagree c
    unfold res_main_v28
    show wide (prod (m' ((c.tc : Thread nD τ).loc main_arg0)) (m' ((c.tc : Thread nD τ).loc main_arg1)) (m' ((c.tc : Thread nD τ).loc main_arg2))) = _
    rw [h0, h1, h2]
    funext y
    obtain ⟨i, j, rfl⟩ : ∃ i j, y = ix2 i j := ⟨y 0, y 1, by funext a; fin_cases a <;> rfl⟩
    exact (wide_at _ i j).trans (prod_at _ _ _ i _)
  · obtain ⟨h0, h1, h2⟩ := hagree c
    show small (prod (m' ((c.tc : Thread nD τ).loc main_arg0)) (m' ((c.tc : Thread nD τ).loc main_arg1)) (m' ((c.tc : Thread nD τ).loc main_arg2))) = _
    rw [h0, h1, h2]
    funext y
    obtain ⟨i, l, rfl⟩ : ∃ i l, y = ix2 i l := ⟨y 0, y 1, by funext a; fin_cases a <;> rfl⟩
    exact small_at _ _ _ i l

/-- The frames: of the kernel at machine numbers, of the idealized kernel, of the reference. -/
theorem frame_bits : Cert.quiescent_Kernel2 := fun m ρ _ => Cert.Kernel2.Hand.frame (F := Bits) m ρ

theorem frame_ideal : Cert.quiescent_Kernel2Ideal := fun m ρ _ => Cert.Kernel2Ideal.Hand.frame (F := Ideal) m ρ

theorem frame : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

end Cert.Reference2Ideal.Hand

end
-- ==== Proof.Merge.lean ====
/-
  The merge of the three mixers, as plain mathematics and as its kernel computes it: what a grid point
  stores, and the array the grid leaves.
-/
module

public import proofs.«01_k».proof.Proof.Gen.Kernel3Ideal.Value
public import proofs.«01_k».proof.Proof.Whole
public import Idealize.ShloMosaic.Lib.WholeRead
public import Idealize.ShloMosaic.Lib.VecWindow
public import Idealize.ShloMosaic.Lib.StableHlo.RunRead
public import Idealize.ShloMosaic.Lib.Pipeline.ValueKit.Geometry

@[expose] public section

set_option maxRecDepth 65536
set_option maxHeartbeats 4000000

noncomputable section

namespace Cert.Merge

open Idealize.ShloMosaic

/-- A mixer's output projected back, under its gate. -/
def branch (gate : EReal) (o : Fin 512 → EReal) (w : Fin 512 → EReal) : EReal := Ideal.logistic gate * ∑ a, o a * w a

/-- The gated sum of the three branches at a row and column. -/
def mixed (z : Fin 3072 → EReal) (r f s : Fin 512 → EReal) (wr wf ws : Fin 512 → Fin 1024 → EReal) (j : Fin 1024) : EReal :=
  branch (z ⟨j.val, by omega⟩) r (fun a => wr a j) + branch (z ⟨1024 + j.val, by omega⟩) f (fun a => wf a j)
    + branch (z ⟨2048 + j.val, by omega⟩) s (fun a => ws a j)

/-- A row of the layer's output: the residual and the projected gated sum. -/
def row (x : Fin 1024 → EReal) (z : Fin 3072 → EReal) (r f s : Fin 512 → EReal) (wr wf ws : Fin 512 → Fin 1024 → EReal)
    (wo : Fin 1024 → Fin 1024 → EReal) (k : Fin 1024) : EReal :=
  x k + ∑ j, mixed z r f s wr wf ws j * wo j k

end Cert.Merge

namespace Cert.Kernel3Ideal.Hand

open Cert.Kernel3Ideal Cert.Kernel3Ideal.Gen
open Idealize.ShloMosaic Idealize.ShloMosaic.TcCoe Idealize.ShloMosaic.Tactic Idealize.SL.Sem
open Idealize.ShloMosaic.StableHlo

/-- What a point stores, at an index. -/
theorem pay_at (x0 : FVec Ideal S512x1024 .f32) (x1 x2 x3 : FVec Ideal S512x512 .bf16) (ga gb gc : FVec Ideal S512x1024 .f32)
    (x5 x6 x7 : FVec Ideal S512x1024 .bf16) (x8 : FVec Ideal S1024x1024 .bf16) (z : Fin 512 → Fin 3072 → EReal)
    (ha : ∀ i j, ga (ix2 i j) = z i ⟨j.val, by omega⟩) (hb : ∀ i j, gb (ix2 i j) = z i ⟨1024 + j.val, by omega⟩)
    (hc : ∀ i j, gc (ix2 i j) = z i ⟨2048 + j.val, by omega⟩) (i : Fin 512) (k : Fin 1024) :
    k0_pay1 (F := Ideal) x1 x5 x2 x6 x3 x7 ga gb gc x0 x8 (ix2 i k)
      = Cert.Merge.row (fun k => x0 (ix2 i k)) (z i) (fun a => x1 (ix2 i a)) (fun a => x2 (ix2 i a)) (fun a => x3 (ix2 i a))
          (fun a j => x5 (ix2 a j)) (fun a j => x6 (ix2 a j)) (fun a j => x7 (ix2 a j)) (fun j k => x8 (ix2 j k)) k := by
  unfold k0_pay1 Cert.Merge.row Cert.Merge.mixed Cert.Merge.branch
  pointwise
  simp only [ha, hb, hc]

section

variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x3072 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S512x1024 .f32) (harg10 : arg10.IsWhole)
    (x0 : Vec Ideal S512x1024 .f32) (x1 : Vec Ideal S512x512 .bf16) (x2 : Vec Ideal S512x512 .bf16) (x3 : Vec Ideal S512x512 .bf16) (x4 : Vec Ideal S512x3072 .f32) (x5 : Vec Ideal S512x1024 .bf16) (x6 : Vec Ideal S512x1024 .bf16) (x7 : Vec Ideal S512x1024 .bf16) (x8 : Vec Ideal S1024x1024 .bf16)

/-- The gate columns loaded from `off` on. -/
theorem gate_at (off : ℕ) (h : _) (i : Fin 512) (j : Fin 1024) (ho : off + j.val < 3072) :
    View.readAt (Elt Ideal) arg5.view (Rect.unit (s := S512x3072) ![0, off] S512x1024.size h).toLoadRect (harg5.unread x4) (ix2 i j)
      = x4 (ix2 i ⟨off + j.val, ho⟩) := by
  rw [harg5.readAt_unread]
  congr 1
  funext a
  match a with
  | ⟨0, _⟩ => exact Fin.ext (show 0 + 1 * i.val = i.val by omega)
  | ⟨1, _⟩ => exact Fin.ext (show off + 1 * j.val = off + j.val by omega)

/-- A block loaded whole. -/
theorem full_at {S : Shape} {e : EltTy} (arg : Memref sig .tc .vmem S e) (harg : arg.IsWhole) (x : Vec Ideal S e)
    (p : Fin S.rank → ℕ) (hp : ∀ a, p a = 0) (h : _) :
    View.readAt (Elt Ideal) arg.view (Rect.unit (s := S) p S.size h).toLoadRect (harg.unread x) = x := by
  funext y
  rw [harg.readAt_unread]
  congr 1
  funext a
  exact Fin.ext (show p a + 1 * (y a).val = (y a).val by rw [hp]; omega)

theorem out_at (i' : Fin 512) (k : Fin 1024) :
    out0_A_9 (F := Ideal) c i arg1 harg1 arg2 harg2 arg3 harg3 arg4 harg4 arg5 harg5 arg6 harg6 arg7 harg7 arg8 harg8 arg9 harg9 arg10 harg10 x0 x1 x2 x3 x4 x5 x6 x7 x8 (ix2 i' k)
      = Cert.Merge.row (fun k => x0 (ix2 i' k)) (fun l => x4 (ix2 i' l)) (fun a => x1 (ix2 i' a)) (fun a => x2 (ix2 i' a)) (fun a => x3 (ix2 i' a))
          (fun a j => x5 (ix2 a j)) (fun a j => x6 (ix2 a j)) (fun a j => x7 (ix2 a j)) (fun j k => x8 (ix2 j k)) k := by
  unfold out0_A_9
  refine (congrFun (View.read_writes_full (Val := Elt Ideal) VO0_9 VO0_9.junk inb_S512x1024_S512x1024_0_0
    (k0_pay1 (F := Ideal)
      (View.readAt (Elt Ideal) arg2.view (Rect.unit (s := S512x512) ![0, 0] S512x512.size inb_S512x512_S512x512_0_0).toLoadRect (harg2.unread x1))
      (View.readAt (Elt Ideal) arg6.view (Rect.unit (s := S512x1024) ![0, 0] S512x1024.size inb_S512x1024_S512x1024_0_0).toLoadRect (harg6.unread x5))
      (View.readAt (Elt Ideal) arg3.view (Rect.unit (s := S512x512) ![0, 0] S512x512.size inb_S512x512_S512x512_0_0).toLoadRect (harg3.unread x2))
      (View.readAt (Elt Ideal) arg7.view (Rect.unit (s := S512x1024) ![0, 0] S512x1024.size inb_S512x1024_S512x1024_0_0).toLoadRect (harg7.unread x6))
      (View.readAt (Elt Ideal) arg4.view (Rect.unit (s := S512x512) ![0, 0] S512x512.size inb_S512x512_S512x512_0_0).toLoadRect (harg4.unread x3))
      (View.readAt (Elt Ideal) arg8.view (Rect.unit (s := S512x1024) ![0, 0] S512x1024.size inb_S512x1024_S512x1024_0_0).toLoadRect (harg8.unread x7))
      (View.readAt (Elt Ideal) arg5.view (Rect.unit (s := S512x3072) ![0, 0] S512x1024.size inb_S512x3072_S512x1024_0_0).toLoadRect (harg5.unread x4))
      (View.readAt (Elt Ideal) arg5.view (Rect.unit (s := S512x3072) ![0, 1024] S512x1024.size inb_S512x3072_S512x1024_0_1024).toLoadRect (harg5.unread x4))
      (View.readAt (Elt Ideal) arg5.view (Rect.unit (s := S512x3072) ![0, 2048] S512x1024.size inb_S512x3072_S512x1024_0_2048).toLoadRect (harg5.unread x4))
      (View.readAt (Elt Ideal) arg1.view (Rect.unit (s := S512x1024) ![0, 0] S512x1024.size inb_S512x1024_S512x1024_0_0).toLoadRect (harg1.unread x0))
      (View.readAt (Elt Ideal) arg9.view (Rect.unit (s := S1024x1024) ![0, 0] S1024x1024.size inb_S1024x1024_S1024x1024_0_0).toLoadRect (harg9.unread x8)))
    []) (ix2 i' k)).trans ?_
  have h0 : ∀ a : Fin 2, ![0, 0] a = 0 := by intro a; fin_cases a <;> rfl
  rw [full_at arg2 harg2 x1 _ h0, full_at arg6 harg6 x5 _ h0, full_at arg3 harg3 x2 _ h0, full_at arg7 harg7 x6 _ h0,
    full_at arg4 harg4 x3 _ h0, full_at arg8 harg8 x7 _ h0, full_at arg1 harg1 x0 _ h0, full_at arg9 harg9 x8 _ h0]
  exact pay_at x0 x1 x2 x3 _ _ _ x5 x6 x7 x8 (fun i l => x4 (ix2 i l))
    (fun i j => (gate_at arg5 harg5 x4 0 _ i j (by omega)).trans (congrArg x4 (congrArg (ix2 i) (Fin.ext (Nat.zero_add _)))))
    (fun i j => gate_at arg5 harg5 x4 1024 _ i j (by omega)) (fun i j => gate_at arg5 harg5 x4 2048 _ i j (by omega)) i' k

end

/-! ## The blocks at coordinates -/

abbrev vec (s : Shape) (x : FVec Ideal s .f32) : FVec Ideal s .f32 := x
abbrev vecb (s : Shape) (x : FVec Ideal s .bf16) : FVec Ideal s .bf16 := x

variable (m : (ℓ : Loc nD τ sig) → Buf (Elt Ideal) ℓ)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 1] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![t.val, 0] := by decide +kernel

theorem tlt (t : Fin cfg0.N) : t.val < 32 := by
  have h := t.isLt
  have hN : cfg0.N = 32 := N_0
  omega

/-- The row of the arrays that row `i` of point `t`'s blocks is. -/
def rowOf (t : Fin cfg0.N) (i : Fin 512) : Fin 16384 := ⟨t.val * 512 + i.val, by have := tlt t; omega⟩

def xin (c : Dev nD) (i : Fin 16384) (k : Fin 1024) : EReal := (vec S16384x1024 (m ((c : Thread nD τ).loc main_arg0))) (ix2 i k)
def rin (c : Dev nD) (i : Fin 16384) (k : Fin 512) : EReal := (vecb S16384x512 (m ((c : Thread nD τ).loc main_arg1))) (ix2 i k)
def fin (c : Dev nD) (i : Fin 16384) (k : Fin 512) : EReal := (vecb S16384x512 (m ((c : Thread nD τ).loc main_arg2))) (ix2 i k)
def sin (c : Dev nD) (i : Fin 16384) (k : Fin 512) : EReal := (vecb S16384x512 (m ((c : Thread nD τ).loc main_arg3))) (ix2 i k)
def zin (c : Dev nD) (i : Fin 16384) (k : Fin 8192) : EReal := (vec S16384x8192 (m ((c : Thread nD τ).loc main_arg4))) (ix2 i k)
def wrin (c : Dev nD) (a : Fin 512) (j : Fin 1024) : EReal := (vec S512x1024 (m ((c : Thread nD τ).loc main_arg5))) (ix2 a j)
def wfin (c : Dev nD) (a : Fin 512) (j : Fin 1024) : EReal := (vec S512x1024 (m ((c : Thread nD τ).loc main_arg6))) (ix2 a j)
def wsin (c : Dev nD) (a : Fin 512) (j : Fin 1024) : EReal := (vec S512x1024 (m ((c : Thread nD τ).loc main_arg7))) (ix2 a j)
def woin (c : Dev nD) (a : Fin 1024) (j : Fin 1024) : EReal := (vec S1024x1024 (m ((c : Thread nD τ).loc main_arg8))) (ix2 a j)

theorem V_wr (c : Dev nD) : vecb S512x1024 (V m c (Pipeline.arrRef spec0 5)) = truncf .bf16 (vec S512x1024 (m ((c : Thread nD τ).loc main_arg5))) bitsLt_bf16_f32 := by
  show vecb S512x1024 (V m c main_v0) = _
  unfold V hostOps0
  after_results_simp
  try rfl
theorem V_wf (c : Dev nD) : vecb S512x1024 (V m c (Pipeline.arrRef spec0 6)) = truncf .bf16 (vec S512x1024 (m ((c : Thread nD τ).loc main_arg6))) bitsLt_bf16_f32 := by
  show vecb S512x1024 (V m c main_v1) = _
  unfold V hostOps0
  after_results_simp
  try rfl
theorem V_ws (c : Dev nD) : vecb S512x1024 (V m c (Pipeline.arrRef spec0 7)) = truncf .bf16 (vec S512x1024 (m ((c : Thread nD τ).loc main_arg7))) bitsLt_bf16_f32 := by
  show vecb S512x1024 (V m c main_v2) = _
  unfold V hostOps0
  after_results_simp
  try rfl
theorem V_wo (c : Dev nD) : vecb S1024x1024 (V m c (Pipeline.arrRef spec0 8)) = truncf .bf16 (vec S1024x1024 (m ((c : Thread nD τ).loc main_arg8))) bitsLt_bf16_f32 := by
  show vecb S1024x1024 (V m c main_v3) = _
  unfold V hostOps0
  after_results_simp
  try rfl

theorem x_blk (c : Dev nD) (t : Fin cfg0.N) (i : Fin 512) (k : Fin 1024) :
    (vec S512x1024 (iblk m c 0 t)) (ix2 i k) = xin m c (rowOf t i) k := by
  show iblk m c 0 t (ix2 i k) = _
  blk_simp [iblk, idx0]
  rw [V_main_arg0]
  unfold xin
  refine congrArg (vec S16384x1024 (m ((c : Thread nD τ).loc main_arg0))) ?_
  unfold rowOf
  blk_ext [idx0]

theorem r_blk (c : Dev nD) (t : Fin cfg0.N) (i : Fin 512) (k : Fin 512) :
    (vecb S512x512 (iblk m c 1 t)) (ix2 i k) = rin m c (rowOf t i) k := by
  show iblk m c 1 t (ix2 i k) = _
  blk_simp [iblk, idx1]
  rw [V_main_arg1]
  unfold rin
  refine congrArg (vecb S16384x512 (m ((c : Thread nD τ).loc main_arg1))) ?_
  unfold rowOf
  blk_ext [idx1]

theorem f_blk (c : Dev nD) (t : Fin cfg0.N) (i : Fin 512) (k : Fin 512) :
    (vecb S512x512 (iblk m c 2 t)) (ix2 i k) = fin m c (rowOf t i) k := by
  show iblk m c 2 t (ix2 i k) = _
  blk_simp [iblk, idx2]
  rw [V_main_arg2]
  unfold fin
  refine congrArg (vecb S16384x512 (m ((c : Thread nD τ).loc main_arg2))) ?_
  unfold rowOf
  blk_ext [idx2]

theorem s_blk (c : Dev nD) (t : Fin cfg0.N) (i : Fin 512) (k : Fin 512) :
    (vecb S512x512 (iblk m c 3 t)) (ix2 i k) = sin m c (rowOf t i) k := by
  show iblk m c 3 t (ix2 i k) = _
  blk_simp [iblk, idx3]
  rw [V_main_arg3]
  unfold sin
  refine congrArg (vecb S16384x512 (m ((c : Thread nD τ).loc main_arg3))) ?_
  unfold rowOf
  blk_ext [idx3]

theorem z_blk (c : Dev nD) (t : Fin cfg0.N) (i : Fin 512) (k : Fin 3072) :
    (vec S512x3072 (X0_4 m c t)) (ix2 i k) = zin m c (rowOf t i) ⟨3072 + k.val, by omega⟩ := by
  show X0_4 m c t (ix2 i k) = _
  unfold X0_4 Pipeline.Window.fill
  rw [dif_pos (moved0_4 t _)]
  blk_simp [iblk, idx4]
  rw [V_main_arg4]
  unfold zin
  refine congrArg (vec S16384x8192 (m ((c : Thread nD τ).loc main_arg4))) ?_
  unfold rowOf
  blk_ext [idx4]

theorem wr_blk (c : Dev nD) (t : Fin cfg0.N) (i : Fin 512) (k : Fin 1024) :
    (vecb S512x1024 (iblk m c 5 t)) (ix2 i k) = wrin m c i k := by
  refine Eq.trans ?_ (congrFun (V_wr m c) (ix2 i k))
  show iblk m c 5 t (ix2 i k) = _
  blk_simp [iblk, idx5]
  refine congrArg (vecb S512x1024 (V m c (Pipeline.arrRef spec0 5))) ?_
  blk_ext [idx5]

theorem wf_blk (c : Dev nD) (t : Fin cfg0.N) (i : Fin 512) (k : Fin 1024) :
    (vecb S512x1024 (iblk m c 6 t)) (ix2 i k) = wfin m c i k := by
  refine Eq.trans ?_ (congrFun (V_wf m c) (ix2 i k))
  show iblk m c 6 t (ix2 i k) = _
  blk_simp [iblk, idx6]
  refine congrArg (vecb S512x1024 (V m c (Pipeline.arrRef spec0 6))) ?_
  blk_ext [idx6]

theorem ws_blk (c : Dev nD) (t : Fin cfg0.N) (i : Fin 512) (k : Fin 1024) :
    (vecb S512x1024 (iblk m c 7 t)) (ix2 i k) = wsin m c i k := by
  refine Eq.trans ?_ (congrFun (V_ws m c) (ix2 i k))
  show iblk m c 7 t (ix2 i k) = _
  blk_simp [iblk, idx7]
  refine congrArg (vecb S512x1024 (V m c (Pipeline.arrRef spec0 7))) ?_
  blk_ext [idx7]

theorem wo_blk (c : Dev nD) (t : Fin cfg0.N) (i : Fin 1024) (k : Fin 1024) :
    (vecb S1024x1024 (iblk m c 8 t)) (ix2 i k) = woin m c i k := by
  refine Eq.trans ?_ (congrFun (V_wo m c) (ix2 i k))
  show iblk m c 8 t (ix2 i k) = _
  blk_simp [iblk, idx8]
  refine congrArg (vecb S1024x1024 (V m c (Pipeline.arrRef spec0 8))) ?_
  blk_ext [idx8]

/-! ## The result array -/

/-- The layer's output at a row and column. -/
def yAt (c : Dev nD) (i : Fin 16384) (k : Fin 1024) : EReal :=
  Cert.Merge.row (xin m c i) (fun l => zin m c i ⟨3072 + l.val, by omega⟩) (rin m c i) (fin m c i) (sin m c i)
    (wrin m c) (wfin m c) (wsin m c) (woin m c) k

/-- The array of the layer's output. -/
def yArr (c : Dev nD) : FVec Ideal S16384x1024 .f32 := fun y => yAt m c (y 0) (y 1)

theorem blk_out (c : Dev nD) (t : Fin cfg0.N) (y : S512x1024.Idx) (w : S16384x1024.Idx)
    (h0 : (w 0).val = t.val * 512 + (y 0).val) (h1 : (w 1).val = (y 1).val) : outsAt0 m c t y = yArr m c w := by
  obtain ⟨i, k, rfl⟩ : ∃ i k, y = ix2 i k := ⟨y 0, y 1, by funext a; fin_cases a <;> rfl⟩
  unfold outsAt0
  refine (out_at _ _ _ _ _ _ _ _ _ _ _ _ _ _ _ _ _ _ _ _ _ _ _ _ _ _ _ _ _ _ _ i k).trans ?_
  have e0 : w 0 = rowOf t i := Fin.ext h0
  have e1 : w 1 = k := Fin.ext h1
  have hx : ∀ k, iblk m c 0 t (ix2 i k) = _ := x_blk m c t i
  have hz : ∀ k, X0_4 m c t (ix2 i k) = _ := z_blk m c t i
  have hr : ∀ k, iblk m c 1 t (ix2 i k) = _ := r_blk m c t i
  have hf : ∀ k, iblk m c 2 t (ix2 i k) = _ := f_blk m c t i
  have hs : ∀ k, iblk m c 3 t (ix2 i k) = _ := s_blk m c t i
  have hwr : ∀ i k, iblk m c 5 t (ix2 i k) = _ := wr_blk m c t
  have hwf : ∀ i k, iblk m c 6 t (ix2 i k) = _ := wf_blk m c t
  have hws : ∀ i k, iblk m c 7 t (ix2 i k) = _ := ws_blk m c t
  have hwo : ∀ i k, iblk m c 8 t (ix2 i k) = _ := wo_blk m c t
  unfold yArr yAt
  rw [e0, e1]
  congr 1
  · funext k; exact hx k
  · funext k; exact hz k
  · funext k; exact hr k
  · funext k; exact hf k
  · funext k; exact hs k
  · funext i k; exact hwr i k
  · funext i k; exact hwf i k
  · funext i k; exact hws i k
  · funext i k; exact hwo i k

theorem arr9 (c : Dev nD) : (dats m 0 c).arrAt 9 cfg0.N = yArr m c := by
  refine (dats m 0 c).arrAt_eq_of_covers 9 _ (by decide +kernel) fun t hf y => ?_
  blk_simp
  rw [after0_9]
  refine blk_out m c t y _ ?_ ?_ <;> blk_simp [idx9] <;> simp

end Cert.Kernel3Ideal.Hand

end
-- ==== Proof.MergeRef.lean ====
/-
  The merge's reference: its result is the layer's output at every row and column.
-/
module

public import proofs.«01_k».proof.Proof.Merge
public import proofs.«01_k».proof.Proof.Gen.Reference3Ideal.Run
public import proofs.«01_k».proof.Defs

@[expose] public section

set_option maxRecDepth 65536
set_option maxHeartbeats 4000000

noncomputable section

namespace Cert.Reference3Ideal.Hand

open Cert.Reference3Ideal Cert.Reference3Ideal.Gen Cert.Reference3Ideal.Value
open Idealize.ShloMosaic Idealize.ShloMosaic.TcCoe Idealize.ShloMosaic.Tactic Idealize.SL.Sem
open Idealize.ShloMosaic.StableHlo

variable (x0 : FVec Ideal S16384x1024 .f32) (x1 x2 x3 : FVec Ideal S16384x512 .bf16) (x4 : FVec Ideal S16384x8192 .f32)
    (x5 x6 x7 : FVec Ideal S512x1024 .f32) (x8 : FVec Ideal S1024x1024 .f32)

/-- The output as the reference computes it. -/
def outR : FVec Ideal S16384x1024 .f32 :=
  addf x0 (Host.dotGeneral (φ₁ := .f32) (φ₂ := .f32) dot_S16384x1024_S1024x1024_S16384x1024_1_0_0_1_n_n none (addf (addf (mulf (extractStridedSlice S16384x1024 ![0, 0] (Host.divf (broadcastInDim S16384x3072 ![] bcast_S_S16384x3072 (constant S_ .f32 0x3F800000#32)) (addf (broadcastInDim S16384x3072 ![] bcast_S_S16384x3072 (constant S_ .f32 0x3F800000#32)) (Host.exp (Host.negf (extractStridedSlice S16384x3072 ![0, 3072] x4 slices_S16384x8192_S16384x3072_0_3072))))) slices_S16384x3072_S16384x1024_0_0) (Host.dotGeneral (φ₁ := .f32) (φ₂ := .f32) dot_S16384x512_S512x1024_S16384x1024_1_0_0_1_n_n none (extf .f32 x1 bitsLt_bf16_f32) x5)) (mulf (extractStridedSlice S16384x1024 ![0, 1024] (Host.divf (broadcastInDim S16384x3072 ![] bcast_S_S16384x3072 (constant S_ .f32 0x3F800000#32)) (addf (broadcastInDim S16384x3072 ![] bcast_S_S16384x3072 (constant S_ .f32 0x3F800000#32)) (Host.exp (Host.negf (extractStridedSlice S16384x3072 ![0, 3072] x4 slices_S16384x8192_S16384x3072_0_3072))))) slices_S16384x3072_S16384x1024_0_1024) (Host.dotGeneral (φ₁ := .f32) (φ₂ := .f32) dot_S16384x512_S512x1024_S16384x1024_1_0_0_1_n_n none (extf .f32 x2 bitsLt_bf16_f32) x6))) (mulf (extractStridedSlice S16384x1024 ![0, 2048] (Host.divf (broadcastInDim S16384x3072 ![] bcast_S_S16384x3072 (constant S_ .f32 0x3F800000#32)) (addf (broadcastInDim S16384x3072 ![] bcast_S_S16384x3072 (constant S_ .f32 0x3F800000#32)) (Host.exp (Host.negf (extractStridedSlice S16384x3072 ![0, 3072] x4 slices_S16384x8192_S16384x3072_0_3072))))) slices_S16384x3072_S16384x1024_0_2048) (Host.dotGeneral (φ₁ := .f32) (φ₂ := .f32) dot_S16384x512_S512x1024_S16384x1024_1_0_0_1_n_n none (extf .f32 x3 bitsLt_bf16_f32) x7))) x8)

theorem outR_at (i : Fin 16384) (k : Fin 1024) : outR x0 x1 x2 x3 x4 x5 x6 x7 x8 (ix2 i k)
    = Cert.Merge.row (fun k => x0 (ix2 i k)) (fun l => x4 (ix2 i ⟨3072 + l.val, by omega⟩)) (fun a => x1 (ix2 i a)) (fun a => x2 (ix2 i a))
        (fun a => x3 (ix2 i a)) (fun a j => x5 (ix2 a j)) (fun a j => x6 (ix2 a j)) (fun a j => x7 (ix2 a j)) (fun j k => x8 (ix2 j k)) k := by
  unfold outR
  pointwise
  unfold Cert.Merge.row Cert.Merge.mixed Cert.Merge.branch Ideal.logistic
  rfl

/-- The kernel and its reference end with equal results. -/
theorem algebraic : Cert.algebraic_Kernel3Ideal_Reference3Ideal := by
  intro m ρ m' ρ' _ hagree
  refine ⟨fun c => Cert.Kernel3Ideal.Hand.yArr m c, ?_, ?_⟩
  · refine (θ_run Cert.Kernel3Ideal.defs _ _).mono (fun _ h c => ⟨(h c).1.trans (Cert.Kernel3Ideal.Hand.arr9 m c), (h c).2⟩)
      (Cert.Kernel3Ideal.Value.run_blocks (F := Ideal) m ρ)
  · refine (θ_run Cert.Reference3Ideal.defs _ _).mono (fun _ h c => ⟨(h c).1.trans ?_, (h c).2⟩)
      (Cert.Reference3Ideal.Value.run (F := Ideal) m' ρ')
    obtain ⟨h0, h1, h2, h3, h4, h5, h6, h7, h8⟩ := hagree c
    show outR (m' ((c.tc : Thread nD τ).loc main_arg0)) (m' ((c.tc : Thread nD τ).loc main_arg1)) (m' ((c.tc : Thread nD τ).loc main_arg2))
      (m' ((c.tc : Thread nD τ).loc main_arg3)) (m' ((c.tc : Thread nD τ).loc main_arg4)) (m' ((c.tc : Thread nD τ).loc main_arg5))
      (m' ((c.tc : Thread nD τ).loc main_arg6)) (m' ((c.tc : Thread nD τ).loc main_arg7)) (m' ((c.tc : Thread nD τ).loc main_arg8)) = _
    rw [h0, h1, h2, h3, h4, h5, h6, h7, h8]
    funext y
    obtain ⟨i, k, rfl⟩ : ∃ i k, y = ix2 i k := ⟨y 0, y 1, by funext a; fin_cases a <;> rfl⟩
    exact outR_at _ _ _ _ _ _ _ _ _ i k

/-- The reference's frame. -/
theorem frame : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

end Cert.Reference3Ideal.Hand

end
-- ==== Proof.Merge4.lean ====
/-
  The merge of the three mixers for the samples, as its kernel computes it: what its one grid point stores,
  and the array it leaves.
-/
module

public import proofs.«01_k».proof.Proof.Gen.Kernel4Ideal.Value
public import proofs.«01_k».proof.Proof.Merge
public import Idealize.ShloMosaic.Lib.WholeRead
public import Idealize.ShloMosaic.Lib.VecWindow
public import Idealize.ShloMosaic.Lib.StableHlo.RunRead
public import Idealize.ShloMosaic.Lib.Pipeline.ValueKit.Geometry

@[expose] public section

set_option maxRecDepth 65536
set_option maxHeartbeats 4000000

noncomputable section

namespace Cert.Kernel4Ideal.Hand

open Cert.Kernel4Ideal Cert.Kernel4Ideal.Gen
open Idealize.ShloMosaic Idealize.ShloMosaic.TcCoe Idealize.ShloMosaic.Tactic Idealize.SL.Sem
open Idealize.ShloMosaic.StableHlo

/-- What a point stores, at an index. -/
theorem pay_at (x0 : FVec Ideal S256x1024 .f32) (x1 x2 x3 : FVec Ideal S256x512 .f32) (ga gb gc : FVec Ideal S256x1024 .f32)
    (x5 x6 x7 : FVec Ideal S512x1024 .bf16) (x8 : FVec Ideal S1024x1024 .bf16) (z : Fin 256 → Fin 3072 → EReal)
    (ha : ∀ i j, ga (ix2 i j) = z i ⟨j.val, by omega⟩) (hb : ∀ i j, gb (ix2 i j) = z i ⟨1024 + j.val, by omega⟩)
    (hc : ∀ i j, gc (ix2 i j) = z i ⟨2048 + j.val, by omega⟩) (i : Fin 256) (k : Fin 1024) :
    k0_pay1 (F := Ideal) x1 x5 x2 x6 x3 x7 ga gb gc x0 x8 (ix2 i k)
      = Cert.Merge.row (fun k => x0 (ix2 i k)) (z i) (fun a => x1 (ix2 i a)) (fun a => x2 (ix2 i a)) (fun a => x3 (ix2 i a))
          (fun a j => x5 (ix2 a j)) (fun a j => x6 (ix2 a j)) (fun a j => x7 (ix2 a j)) (fun j k => x8 (ix2 j k)) k := by
  unfold k0_pay1 Cert.Merge.row Cert.Merge.mixed Cert.Merge.branch
  pointwise
  simp only [ha, hb, hc]

section

variable (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x3072 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S256x1024 .f32) (harg10 : arg10.IsWhole)
    (x0 : Vec Ideal S256x1024 .f32) (x1 : Vec Ideal S256x512 .f32) (x2 : Vec Ideal S256x512 .f32) (x3 : Vec Ideal S256x512 .f32) (x4 : Vec Ideal S256x3072 .f32) (x5 : Vec Ideal S512x1024 .bf16) (x6 : Vec Ideal S512x1024 .bf16) (x7 : Vec Ideal S512x1024 .bf16) (x8 : Vec Ideal S1024x1024 .bf16)

/-- The gate columns loaded from `off` on. -/
theorem gate_at (off : ℕ) (h : _) (i : Fin 256) (j : Fin 1024) (ho : off + j.val < 3072) :
    View.readAt (Elt Ideal) arg5.view (Rect.unit (s := S256x3072) ![0, off] S256x1024.size h).toLoadRect (harg5.unread x4) (ix2 i j)
      = x4 (ix2 i ⟨off + j.val, ho⟩) := by
  rw [harg5.readAt_unread]
  congr 1
  funext a
  match a with
  | ⟨0, _⟩ => exact Fin.ext (show 0 + 1 * i.val = i.val by omega)
  | ⟨1, _⟩ => exact Fin.ext (show off + 1 * j.val = off + j.val by omega)

/-- A block loaded whole. -/
theorem full_at {S : Shape} {e : EltTy} (arg : Memref sig .tc .vmem S e) (harg : arg.IsWhole) (x : Vec Ideal S e)
    (p : Fin S.rank → ℕ) (hp : ∀ a, p a = 0) (h : _) :
    View.readAt (Elt Ideal) arg.view (Rect.unit (s := S) p S.size h).toLoadRect (harg.unread x) = x := by
  funext y
  rw [harg.readAt_unread]
  congr 1
  funext a
  exact Fin.ext (show p a + 1 * (y a).val = (y a).val by rw [hp]; omega)

theorem out_at (i' : Fin 256) (k : Fin 1024) :
    out0_A_9 (F := Ideal) c i arg1 harg1 arg2 harg2 arg3 harg3 arg4 harg4 arg5 harg5 arg6 harg6 arg7 harg7 arg8 harg8 arg9 harg9 arg10 harg10 x0 x1 x2 x3 x4 x5 x6 x7 x8 (ix2 i' k)
      = Cert.Merge.row (fun k => x0 (ix2 i' k)) (fun l => x4 (ix2 i' l)) (fun a => x1 (ix2 i' a)) (fun a => x2 (ix2 i' a)) (fun a => x3 (ix2 i' a))
          (fun a j => x5 (ix2 a j)) (fun a j => x6 (ix2 a j)) (fun a j => x7 (ix2 a j)) (fun j k => x8 (ix2 j k)) k := by
  unfold out0_A_9
  refine (congrFun (View.read_writes_full (Val := Elt Ideal) VO0_9 VO0_9.junk inb_S256x1024_S256x1024_0_0
    (k0_pay1 (F := Ideal)
      (View.readAt (Elt Ideal) arg2.view (Rect.unit (s := S256x512) ![0, 0] S256x512.size inb_S256x512_S256x512_0_0).toLoadRect (harg2.unread x1))
      (View.readAt (Elt Ideal) arg6.view (Rect.unit (s := S512x1024) ![0, 0] S512x1024.size inb_S512x1024_S512x1024_0_0).toLoadRect (harg6.unread x5))
      (View.readAt (Elt Ideal) arg3.view (Rect.unit (s := S256x512) ![0, 0] S256x512.size inb_S256x512_S256x512_0_0).toLoadRect (harg3.unread x2))
      (View.readAt (Elt Ideal) arg7.view (Rect.unit (s := S512x1024) ![0, 0] S512x1024.size inb_S512x1024_S512x1024_0_0).toLoadRect (harg7.unread x6))
      (View.readAt (Elt Ideal) arg4.view (Rect.unit (s := S256x512) ![0, 0] S256x512.size inb_S256x512_S256x512_0_0).toLoadRect (harg4.unread x3))
      (View.readAt (Elt Ideal) arg8.view (Rect.unit (s := S512x1024) ![0, 0] S512x1024.size inb_S512x1024_S512x1024_0_0).toLoadRect (harg8.unread x7))
      (View.readAt (Elt Ideal) arg5.view (Rect.unit (s := S256x3072) ![0, 0] S256x1024.size inb_S256x3072_S256x1024_0_0).toLoadRect (harg5.unread x4))
      (View.readAt (Elt Ideal) arg5.view (Rect.unit (s := S256x3072) ![0, 1024] S256x1024.size inb_S256x3072_S256x1024_0_1024).toLoadRect (harg5.unread x4))
      (View.readAt (Elt Ideal) arg5.view (Rect.unit (s := S256x3072) ![0, 2048] S256x1024.size inb_S256x3072_S256x1024_0_2048).toLoadRect (harg5.unread x4))
      (View.readAt (Elt Ideal) arg1.view (Rect.unit (s := S256x1024) ![0, 0] S256x1024.size inb_S256x1024_S256x1024_0_0).toLoadRect (harg1.unread x0))
      (View.readAt (Elt Ideal) arg9.view (Rect.unit (s := S1024x1024) ![0, 0] S1024x1024.size inb_S1024x1024_S1024x1024_0_0).toLoadRect (harg9.unread x8)))
    []) (ix2 i' k)).trans ?_
  have h0 : ∀ a : Fin 2, ![0, 0] a = 0 := by intro a; fin_cases a <;> rfl
  rw [full_at arg2 harg2 x1 _ h0, full_at arg6 harg6 x5 _ h0, full_at arg3 harg3 x2 _ h0, full_at arg7 harg7 x6 _ h0,
    full_at arg4 harg4 x3 _ h0, full_at arg8 harg8 x7 _ h0, full_at arg1 harg1 x0 _ h0, full_at arg9 harg9 x8 _ h0]
  exact pay_at x0 x1 x2 x3 _ _ _ x5 x6 x7 x8 (fun i l => x4 (ix2 i l))
    (fun i j => (gate_at arg5 harg5 x4 0 _ i j (by omega)).trans (congrArg x4 (congrArg (ix2 i) (Fin.ext (Nat.zero_add _)))))
    (fun i j => gate_at arg5 harg5 x4 1024 _ i j (by omega)) (fun i j => gate_at arg5 harg5 x4 2048 _ i j (by omega)) i' k

end

/-! ## The blocks at coordinates -/

abbrev vec (s : Shape) (x : FVec Ideal s .f32) : FVec Ideal s .f32 := x
abbrev vecb (s : Shape) (x : FVec Ideal s .bf16) : FVec Ideal s .bf16 := x

variable (m : (ℓ : Loc nD τ sig) → Buf (Elt Ideal) ℓ)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 1] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![t.val, 0] := by decide +kernel

theorem tlt (t : Fin cfg0.N) : t.val < 1 := by
  have h := t.isLt
  have hN : cfg0.N = 1 := N_0
  omega

/-- The row of the arrays that row `i` of point `t`'s blocks is. -/
def rowOf (t : Fin cfg0.N) (i : Fin 256) : Fin 256 := ⟨t.val * 256 + i.val, by have := tlt t; omega⟩

def xin (c : Dev nD) (i : Fin 256) (k : Fin 1024) : EReal := (vec S256x1024 (m ((c : Thread nD τ).loc main_arg0))) (ix2 i k)
def rin (c : Dev nD) (i : Fin 256) (k : Fin 512) : EReal := (vec S256x512 (m ((c : Thread nD τ).loc main_arg1))) (ix2 i k)
def fin (c : Dev nD) (i : Fin 256) (k : Fin 512) : EReal := (vec S256x512 (m ((c : Thread nD τ).loc main_arg2))) (ix2 i k)
def sin (c : Dev nD) (i : Fin 256) (k : Fin 512) : EReal := (vec S256x512 (m ((c : Thread nD τ).loc main_arg3))) (ix2 i k)
def zin (c : Dev nD) (i : Fin 256) (k : Fin 8192) : EReal := (vec S256x8192 (m ((c : Thread nD τ).loc main_arg4))) (ix2 i k)
def wrin (c : Dev nD) (a : Fin 512) (j : Fin 1024) : EReal := (vec S512x1024 (m ((c : Thread nD τ).loc main_arg5))) (ix2 a j)
def wfin (c : Dev nD) (a : Fin 512) (j : Fin 1024) : EReal := (vec S512x1024 (m ((c : Thread nD τ).loc main_arg6))) (ix2 a j)
def wsin (c : Dev nD) (a : Fin 512) (j : Fin 1024) : EReal := (vec S512x1024 (m ((c : Thread nD τ).loc main_arg7))) (ix2 a j)
def woin (c : Dev nD) (a : Fin 1024) (j : Fin 1024) : EReal := (vec S1024x1024 (m ((c : Thread nD τ).loc main_arg8))) (ix2 a j)

theorem V_wr (c : Dev nD) : vecb S512x1024 (V m c (Pipeline.arrRef spec0 5)) = truncf .bf16 (vec S512x1024 (m ((c : Thread nD τ).loc main_arg5))) bitsLt_bf16_f32 := by
  show vecb S512x1024 (V m c main_v0) = _
  unfold V hostOps0
  after_results_simp
  try rfl
theorem V_wf (c : Dev nD) : vecb S512x1024 (V m c (Pipeline.arrRef spec0 6)) = truncf .bf16 (vec S512x1024 (m ((c : Thread nD τ).loc main_arg6))) bitsLt_bf16_f32 := by
  show vecb S512x1024 (V m c main_v1) = _
  unfold V hostOps0
  after_results_simp
  try rfl
theorem V_ws (c : Dev nD) : vecb S512x1024 (V m c (Pipeline.arrRef spec0 7)) = truncf .bf16 (vec S512x1024 (m ((c : Thread nD τ).loc main_arg7))) bitsLt_bf16_f32 := by
  show vecb S512x1024 (V m c main_v2) = _
  unfold V hostOps0
  after_results_simp
  try rfl
theorem V_wo (c : Dev nD) : vecb S1024x1024 (V m c (Pipeline.arrRef spec0 8)) = truncf .bf16 (vec S1024x1024 (m ((c : Thread nD τ).loc main_arg8))) bitsLt_bf16_f32 := by
  show vecb S1024x1024 (V m c main_v3) = _
  unfold V hostOps0
  after_results_simp
  try rfl

theorem x_blk (c : Dev nD) (t : Fin cfg0.N) (i : Fin 256) (k : Fin 1024) :
    (vec S256x1024 (iblk m c 0 t)) (ix2 i k) = xin m c (rowOf t i) k := by
  show iblk m c 0 t (ix2 i k) = _
  blk_simp [iblk, idx0]
  rw [V_main_arg0]
  unfold xin
  refine congrArg (vec S256x1024 (m ((c : Thread nD τ).loc main_arg0))) ?_
  unfold rowOf
  blk_ext [idx0]

theorem r_blk (c : Dev nD) (t : Fin cfg0.N) (i : Fin 256) (k : Fin 512) :
    (vec S256x512 (iblk m c 1 t)) (ix2 i k) = rin m c (rowOf t i) k := by
  show iblk m c 1 t (ix2 i k) = _
  blk_simp [iblk, idx1]
  rw [V_main_arg1]
  unfold rin
  refine congrArg (vec S256x512 (m ((c : Thread nD τ).loc main_arg1))) ?_
  unfold rowOf
  blk_ext [idx1]

theorem f_blk (c : Dev nD) (t : Fin cfg0.N) (i : Fin 256) (k : Fin 512) :
    (vec S256x512 (iblk m c 2 t)) (ix2 i k) = fin m c (rowOf t i) k := by
  show iblk m c 2 t (ix2 i k) = _
  blk_simp [iblk, idx2]
  rw [V_main_arg2]
  unfold fin
  refine congrArg (vec S256x512 (m ((c : Thread nD τ).loc main_arg2))) ?_
  unfold rowOf
  blk_ext [idx2]

theorem s_blk (c : Dev nD) (t : Fin cfg0.N) (i : Fin 256) (k : Fin 512) :
    (vec S256x512 (iblk m c 3 t)) (ix2 i k) = sin m c (rowOf t i) k := by
  show iblk m c 3 t (ix2 i k) = _
  blk_simp [iblk, idx3]
  rw [V_main_arg3]
  unfold sin
  refine congrArg (vec S256x512 (m ((c : Thread nD τ).loc main_arg3))) ?_
  unfold rowOf
  blk_ext [idx3]

theorem z_blk (c : Dev nD) (t : Fin cfg0.N) (i : Fin 256) (k : Fin 3072) :
    (vec S256x3072 (X0_4 m c t)) (ix2 i k) = zin m c (rowOf t i) ⟨3072 + k.val, by omega⟩ := by
  show X0_4 m c t (ix2 i k) = _
  unfold X0_4 Pipeline.Window.fill
  rw [dif_pos (moved0_4 t _)]
  blk_simp [iblk, idx4]
  rw [V_main_arg4]
  unfold zin
  refine congrArg (vec S256x8192 (m ((c : Thread nD τ).loc main_arg4))) ?_
  unfold rowOf
  blk_ext [idx4]

theorem wr_blk (c : Dev nD) (t : Fin cfg0.N) (i : Fin 512) (k : Fin 1024) :
    (vecb S512x1024 (iblk m c 5 t)) (ix2 i k) = wrin m c i k := by
  refine Eq.trans ?_ (congrFun (V_wr m c) (ix2 i k))
  show iblk m c 5 t (ix2 i k) = _
  blk_simp [iblk, idx5]
  refine congrArg (vecb S512x1024 (V m c (Pipeline.arrRef spec0 5))) ?_
  blk_ext [idx5]

theorem wf_blk (c : Dev nD) (t : Fin cfg0.N) (i : Fin 512) (k : Fin 1024) :
    (vecb S512x1024 (iblk m c 6 t)) (ix2 i k) = wfin m c i k := by
  refine Eq.trans ?_ (congrFun (V_wf m c) (ix2 i k))
  show iblk m c 6 t (ix2 i k) = _
  blk_simp [iblk, idx6]
  refine congrArg (vecb S512x1024 (V m c (Pipeline.arrRef spec0 6))) ?_
  blk_ext [idx6]

theorem ws_blk (c : Dev nD) (t : Fin cfg0.N) (i : Fin 512) (k : Fin 1024) :
    (vecb S512x1024 (iblk m c 7 t)) (ix2 i k) = wsin m c i k := by
  refine Eq.trans ?_ (congrFun (V_ws m c) (ix2 i k))
  show iblk m c 7 t (ix2 i k) = _
  blk_simp [iblk, idx7]
  refine congrArg (vecb S512x1024 (V m c (Pipeline.arrRef spec0 7))) ?_
  blk_ext [idx7]

theorem wo_blk (c : Dev nD) (t : Fin cfg0.N) (i : Fin 1024) (k : Fin 1024) :
    (vecb S1024x1024 (iblk m c 8 t)) (ix2 i k) = woin m c i k := by
  refine Eq.trans ?_ (congrFun (V_wo m c) (ix2 i k))
  show iblk m c 8 t (ix2 i k) = _
  blk_simp [iblk, idx8]
  refine congrArg (vecb S1024x1024 (V m c (Pipeline.arrRef spec0 8))) ?_
  blk_ext [idx8]

/-! ## The result array -/

/-- The layer's output at a row and column. -/
def yAt (c : Dev nD) (i : Fin 256) (k : Fin 1024) : EReal :=
  Cert.Merge.row (xin m c i) (fun l => zin m c i ⟨3072 + l.val, by omega⟩) (rin m c i) (fin m c i) (sin m c i)
    (wrin m c) (wfin m c) (wsin m c) (woin m c) k

/-- The array of the layer's output. -/
def yArr (c : Dev nD) : FVec Ideal S256x1024 .f32 := fun y => yAt m c (y 0) (y 1)

theorem blk_out (c : Dev nD) (t : Fin cfg0.N) (y : S256x1024.Idx) (w : S256x1024.Idx)
    (h0 : (w 0).val = t.val * 256 + (y 0).val) (h1 : (w 1).val = (y 1).val) : outsAt0 m c t y = yArr m c w := by
  obtain ⟨i, k, rfl⟩ : ∃ i k, y = ix2 i k := ⟨y 0, y 1, by funext a; fin_cases a <;> rfl⟩
  unfold outsAt0
  refine (out_at _ _ _ _ _ _ _ _ _ _ _ _ _ _ _ _ _ _ _ _ _ _ _ _ _ _ _ _ _ _ _ i k).trans ?_
  have e0 : w 0 = rowOf t i := Fin.ext h0
  have e1 : w 1 = k := Fin.ext h1
  have hx : ∀ k, iblk m c 0 t (ix2 i k) = _ := x_blk m c t i
  have hz : ∀ k, X0_4 m c t (ix2 i k) = _ := z_blk m c t i
  have hr : ∀ k, iblk m c 1 t (ix2 i k) = _ := r_blk m c t i
  have hf : ∀ k, iblk m c 2 t (ix2 i k) = _ := f_blk m c t i
  have hs : ∀ k, iblk m c 3 t (ix2 i k) = _ := s_blk m c t i
  have hwr : ∀ i k, iblk m c 5 t (ix2 i k) = _ := wr_blk m c t
  have hwf : ∀ i k, iblk m c 6 t (ix2 i k) = _ := wf_blk m c t
  have hws : ∀ i k, iblk m c 7 t (ix2 i k) = _ := ws_blk m c t
  have hwo : ∀ i k, iblk m c 8 t (ix2 i k) = _ := wo_blk m c t
  unfold yArr yAt
  rw [e0, e1]
  congr 1
  · funext k; exact hx k
  · funext k; exact hz k
  · funext k; exact hr k
  · funext k; exact hf k
  · funext k; exact hs k
  · funext i k; exact hwr i k
  · funext i k; exact hwf i k
  · funext i k; exact hws i k
  · funext i k; exact hwo i k

theorem arr9 (c : Dev nD) : (dats m 0 c).arrAt 9 cfg0.N = yArr m c := by
  refine (dats m 0 c).arrAt_eq_of_covers 9 _ (by decide +kernel) fun t hf y => ?_
  blk_simp
  rw [after0_9]
  refine blk_out m c t y _ ?_ ?_ <;> blk_simp [idx9] <;> simp

end Cert.Kernel4Ideal.Hand

end
-- ==== Proof.MergeRef4.lean ====
/-
  The reference of the samples' merge: its result is the layer's output at every row and column.
-/
module

public import proofs.«01_k».proof.Proof.Merge4
public import proofs.«01_k».proof.Proof.Gen.Reference4Ideal.Run
public import proofs.«01_k».proof.Defs

@[expose] public section

set_option maxRecDepth 65536
set_option maxHeartbeats 4000000

noncomputable section

namespace Cert.Reference4Ideal.Hand

open Cert.Reference4Ideal Cert.Reference4Ideal.Gen Cert.Reference4Ideal.Value
open Idealize.ShloMosaic Idealize.ShloMosaic.TcCoe Idealize.ShloMosaic.Tactic Idealize.SL.Sem
open Idealize.ShloMosaic.StableHlo

variable (x0 : FVec Ideal S256x1024 .f32) (x1 x2 x3 : FVec Ideal S256x512 .f32) (x4 : FVec Ideal S256x8192 .f32)
    (x5 x6 x7 : FVec Ideal S512x1024 .f32) (x8 : FVec Ideal S1024x1024 .f32)

/-- The output as the reference computes it. -/
def outR : FVec Ideal S256x1024 .f32 :=
  addf x0 (Host.dotGeneral (φ₁ := .f32) (φ₂ := .f32) dot_S256x1024_S1024x1024_S256x1024_1_0_0_1_n_n none (addf (addf (mulf (extractStridedSlice S256x1024 ![0, 0] (Host.divf (broadcastInDim S256x3072 ![] bcast_S_S256x3072 (constant S_ .f32 0x3F800000#32)) (addf (broadcastInDim S256x3072 ![] bcast_S_S256x3072 (constant S_ .f32 0x3F800000#32)) (Host.exp (Host.negf (extractStridedSlice S256x3072 ![0, 3072] x4 slices_S256x8192_S256x3072_0_3072))))) slices_S256x3072_S256x1024_0_0) (Host.dotGeneral (φ₁ := .f32) (φ₂ := .f32) dot_S256x512_S512x1024_S256x1024_1_0_0_1_n_n none x1 x5)) (mulf (extractStridedSlice S256x1024 ![0, 1024] (Host.divf (broadcastInDim S256x3072 ![] bcast_S_S256x3072 (constant S_ .f32 0x3F800000#32)) (addf (broadcastInDim S256x3072 ![] bcast_S_S256x3072 (constant S_ .f32 0x3F800000#32)) (Host.exp (Host.negf (extractStridedSlice S256x3072 ![0, 3072] x4 slices_S256x8192_S256x3072_0_3072))))) slices_S256x3072_S256x1024_0_1024) (Host.dotGeneral (φ₁ := .f32) (φ₂ := .f32) dot_S256x512_S512x1024_S256x1024_1_0_0_1_n_n none x2 x6))) (mulf (extractStridedSlice S256x1024 ![0, 2048] (Host.divf (broadcastInDim S256x3072 ![] bcast_S_S256x3072 (constant S_ .f32 0x3F800000#32)) (addf (broadcastInDim S256x3072 ![] bcast_S_S256x3072 (constant S_ .f32 0x3F800000#32)) (Host.exp (Host.negf (extractStridedSlice S256x3072 ![0, 3072] x4 slices_S256x8192_S256x3072_0_3072))))) slices_S256x3072_S256x1024_0_2048) (Host.dotGeneral (φ₁ := .f32) (φ₂ := .f32) dot_S256x512_S512x1024_S256x1024_1_0_0_1_n_n none x3 x7))) x8)

theorem outR_at (i : Fin 256) (k : Fin 1024) : outR x0 x1 x2 x3 x4 x5 x6 x7 x8 (ix2 i k)
    = Cert.Merge.row (fun k => x0 (ix2 i k)) (fun l => x4 (ix2 i ⟨3072 + l.val, by omega⟩)) (fun a => x1 (ix2 i a)) (fun a => x2 (ix2 i a))
        (fun a => x3 (ix2 i a)) (fun a j => x5 (ix2 a j)) (fun a j => x6 (ix2 a j)) (fun a j => x7 (ix2 a j)) (fun j k => x8 (ix2 j k)) k := by
  unfold outR
  pointwise
  unfold Cert.Merge.row Cert.Merge.mixed Cert.Merge.branch Ideal.logistic
  rfl

/-- The kernel and its reference end with equal results. -/
theorem algebraic : Cert.algebraic_Kernel4Ideal_Reference4Ideal := by
  intro m ρ m' ρ' _ hagree
  refine ⟨fun c => Cert.Kernel4Ideal.Hand.yArr m c, ?_, ?_⟩
  · refine (θ_run Cert.Kernel4Ideal.defs _ _).mono (fun _ h c => ⟨(h c).1.trans (Cert.Kernel4Ideal.Hand.arr9 m c), (h c).2⟩)
      (Cert.Kernel4Ideal.Value.run_blocks (F := Ideal) m ρ)
  · refine (θ_run Cert.Reference4Ideal.defs _ _).mono (fun _ h c => ⟨(h c).1.trans ?_, (h c).2⟩)
      (Cert.Reference4Ideal.Value.run (F := Ideal) m' ρ')
    obtain ⟨h0, h1, h2, h3, h4, h5, h6, h7, h8⟩ := hagree c
    show outR (m' ((c.tc : Thread nD τ).loc main_arg0)) (m' ((c.tc : Thread nD τ).loc main_arg1)) (m' ((c.tc : Thread nD τ).loc main_arg2))
      (m' ((c.tc : Thread nD τ).loc main_arg3)) (m' ((c.tc : Thread nD τ).loc main_arg4)) (m' ((c.tc : Thread nD τ).loc main_arg5))
      (m' ((c.tc : Thread nD τ).loc main_arg6)) (m' ((c.tc : Thread nD τ).loc main_arg7)) (m' ((c.tc : Thread nD τ).loc main_arg8)) = _
    rw [h0, h1, h2, h3, h4, h5, h6, h7, h8]
    funext y
    obtain ⟨i, k, rfl⟩ : ∃ i k, y = ix2 i k := ⟨y 0, y 1, by funext a; fin_cases a <;> rfl⟩
    exact outR_at _ _ _ _ _ _ _ _ _ i k

/-- The reference's frame. -/
theorem frame : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

end Cert.Reference4Ideal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Simple
public import proofs.«01_k».proof.Proof.RefOut
public import proofs.«01_k».proof.Proof.InRef
public import proofs.«01_k».proof.Proof.MergeRef
public import proofs.«01_k».proof.Proof.MergeRef4
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    frame_bits, frame_ideal, frame_reference,
    Cert.Reference2Ideal.Hand.frame_bits, Cert.Reference2Ideal.Hand.frame_ideal, Cert.Reference2Ideal.Hand.frame,
    fun m ρ _ => Cert.Kernel3.Gen.frame m ρ, fun m ρ _ => Cert.Kernel3Ideal.Gen.frame m ρ, Cert.Reference3Ideal.Hand.frame,
    fun m ρ _ => Cert.Kernel4.Gen.frame m ρ, fun m ρ _ => Cert.Kernel4Ideal.Gen.frame m ρ, Cert.Reference4Ideal.Hand.frame,
    preserves, Cert.ReferenceIdeal.Hand.algebraic,
    trivial, Cert.Reference2Ideal.Hand.algebraic,
    trivial, Cert.Reference3Ideal.Hand.algebraic,
    trivial, Cert.Reference4Ideal.Hand.algebraic⟩

end Cert.Proof

end
